-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ordered_spheres [hPre_ordered_spheres : Cert.Pre_ordered_spheres.Facts] (m : (ℓ : Loc Cert.KernelIdeal.nD Cert.KernelIdeal.τ Cert.KernelIdeal.sig) → Buf (Elt Ideal) ℓ) : Prop :=
  ∀ c : Dev Cert.KernelIdeal.nD,
    (Cert.Pre_ordered_spheres.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ordered_spheres [hPre_ordered_spheres : Cert.Pre_ordered_spheres.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ordered_spheres.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_ordered_spheres [hKernelIdeal : Cert.KernelIdeal.Facts] [hPre_ordered_spheres : Cert.Pre_ordered_spheres.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ordered_spheres m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_ordered_spheres [hReferenceIdeal : Cert.ReferenceIdeal.Facts] [hPre_ordered_spheres : Cert.Pre_ordered_spheres.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ordered_spheres m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "big" .f32 0x7F61B1E6#32 ⊤

def algebraic_KernelIdeal_ReferenceIdeal_pre_ordered_spheres [hKernelIdeal : Cert.KernelIdeal.Facts] [hReferenceIdeal : Cert.ReferenceIdeal.Facts] [hPre_ordered_spheres : Cert.Pre_ordered_spheres.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ordered_spheres m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_ordered_spheres : Cert.Pre_ordered_spheres.Facts),
    quiescent_Kernel (hKernel := hKernel)
    ∧ quiescent_KernelIdeal (hKernelIdeal := hKernelIdeal)
    ∧ quiescent_KernelIdeal_pre_ordered_spheres (hKernelIdeal := hKernelIdeal) (hPre_ordered_spheres := hPre_ordered_spheres)
    ∧ quiescent_ReferenceIdeal (hReferenceIdeal := hReferenceIdeal)
    ∧ quiescent_ReferenceIdeal_pre_ordered_spheres (hReferenceIdeal := hReferenceIdeal) (hPre_ordered_spheres := hPre_ordered_spheres)
    ∧ preserves_Kernel_KernelIdeal
    ∧ algebraic_KernelIdeal_ReferenceIdeal_pre_ordered_spheres (hKernelIdeal := hKernelIdeal) (hReferenceIdeal := hReferenceIdeal) (hPre_ordered_spheres := hPre_ordered_spheres)
-- ==== Pre_ordered_spheres.lean ====
abbrev S16384x8 : Shape := ⟨2, ![16384, 8]⟩
abbrev S128 : Shape := ⟨1, ![128]⟩
abbrev S128x16 : Shape := ⟨2, ![128, 16]⟩
abbrev S16384x3 : Shape := ⟨2, ![16384, 3]⟩
abbrev S_ : Shape := ⟨0, ![]⟩
abbrev S127 : Shape := ⟨1, ![127]⟩

class Facts : Prop where
  slices_S16384x8_S16384x3_0_0 : S16384x8.Slices ![0, 0] S16384x3
  bcast_S_S16384x3 : S_.BroadcastsInDim S16384x3 (![] : Fin 0 → Fin S16384x3.rank)
  reducesTo_S16384x3_S_d0_1 : S16384x3.ReducesTo [0, 1] S_
  h_S_ : 0 < S_.numel
  slices_S128_S127_1 : S128.Slices ![1] S127
  slices_S128_S127_0 : S128.Slices ![0] S127
  reducesTo_S127_S_d0 : S127.ReducesTo [0] S_

variable [Facts]

def fn {F : FTy → Type} [FloatOps F] (main_arg0 : FVec F S16384x8 .f32) (main_arg1 : FVec F S128 .f32) (main_arg2 : FVec F S128x16 .f32) : IVec S_ 1 :=
  let main_v0 : FVec F S128 .f32 := mulf main_arg1 main_arg1
  let main_v1 : FVec F S16384x3 .f32 := (extractStridedSlice S16384x3 ![0, 0] · slices_S16384x8_S16384x3_0_0) main_arg0
  let main_v2 : FVec F S16384x3 .f32 := Host.absf main_v1
  let main_cst : FVec F S_ .f32 := constant S_ .f32 0x7F800000#32
  let main_v3 : FVec F S16384x3 .f32 := broadcastInDim S16384x3 ![] bcast_S_S16384x3 main_cst
  let main_v4 : IVec S16384x3 1 := cmpf .olt main_v2 main_v3
  let main_c : IVec S_ 1 := constantI S_ 1 1#1
  let main_v5 : IVec S_ 1 := (fun x v => Host.reduce IntOp.andi x v reducesTo_S16384x3_S_d0_1 h_S_) main_v4 main_c
  let main_v6 : FVec F S127 .f32 := (extractStridedSlice S127 ![1] · slices_S128_S127_1) main_v0
  let main_v7 : FVec F S127 .f32 := (extractStridedSlice S127 ![0] · slices_S128_S127_0) main_v0
  let main_v8 : IVec S127 1 := cmpf .ole main_v6 main_v7
  let main_c_0 : IVec S_ 1 := constantI S_ 1 1#1
  let main_v9 : IVec S_ 1 := (fun x v => Host.reduce IntOp.andi x v reducesTo_S127_S_d0 h_S_) main_v8 main_c_0
  let main_v10 : IVec S_ 1 := andi main_v5 main_v9
  main_v10
-- ==== Kernel.lean ====
abbrev S16384x8 : Shape := ⟨2, ![16384, 8]⟩
abbrev S128 : Shape := ⟨1, ![128]⟩
abbrev S128x16 : Shape := ⟨2, ![128, 16]⟩
abbrev S8x16384 : Shape := ⟨2, ![8, 16384]⟩
abbrev S128x1 : Shape := ⟨2, ![128, 1]⟩
abbrev S128x16384 : Shape := ⟨2, ![128, 16384]⟩
abbrev S8x1x2048 : Shape := ⟨3, ![8, 1, 2048]⟩
abbrev S8x2048 : Shape := ⟨2, ![8, 2048]⟩
abbrev S128x2048 : Shape := ⟨2, ![128, 2048]⟩
abbrev S1x1x2048 : Shape := ⟨3, ![1, 1, 2048]⟩
abbrev S3x2048 : Shape := ⟨2, ![3, 2048]⟩
abbrev S2048 : Shape := ⟨1, ![2048]⟩
abbrev S1x2048 : Shape := ⟨2, ![1, 2048]⟩
abbrev S16384 : Shape := ⟨1, ![16384]⟩
abbrev S16x128 : Shape := ⟨2, ![16, 128]⟩
abbrev S1x128 : Shape := ⟨2, ![1, 128]⟩
abbrev S128x256 : Shape := ⟨2, ![128, 256]⟩
abbrev S256 : Shape := ⟨1, ![256]⟩
abbrev S16 : Shape := ⟨1, ![16]⟩
abbrev S_ : Shape := ⟨0, ![]⟩
abbrev S25x16384x128 : Shape := ⟨3, ![25, 16384, 128]⟩
abbrev S16384x128 : Shape := ⟨2, ![16384, 128]⟩
abbrev S128x1024 : Shape := ⟨2, ![128, 1024]⟩
abbrev S1024x8 : Shape := ⟨2, ![1024, 8]⟩
abbrev S25x1024x128 : Shape := ⟨3, ![25, 1024, 128]⟩
abbrev S1024x128 : Shape := ⟨2, ![1024, 128]⟩
abbrev S1024x1 : Shape := ⟨2, ![1024, 1]⟩
abbrev S1x1024x128 : Shape := ⟨3, ![1, 1024, 128]⟩
abbrev S1024x3 : Shape := ⟨2, ![1024, 3]⟩
abbrev S1024 : Shape := ⟨1, ![1024]⟩
abbrev S16384x128x25 : Shape := ⟨3, ![16384, 128, 25]⟩

abbrev nBuf : Table → Nat
  | .hbm => 14
  | .local .tc .vmem => 18
  | .local .scVector .vmem => 3
  | _ => 0

abbrev bufTy : (tb : Table) → Fin (nBuf tb) → BufTy
  | .hbm, ⟨0, _⟩ => ⟨S16384x8, .f32⟩
  | .hbm, ⟨1, _⟩ => ⟨S128, .f32⟩
  | .hbm, ⟨2, _⟩ => ⟨S128x16, .f32⟩
  | .hbm, ⟨3, _⟩ => ⟨S8x16384, .f32⟩
  | .hbm, ⟨4, _⟩ => ⟨S128x1, .f32⟩
  | .hbm, ⟨5, _⟩ => ⟨S128x16384, .f32⟩
  | .hbm, ⟨6, _⟩ => ⟨S8x1x2048, .i32⟩
  | .hbm, ⟨7, _⟩ => ⟨S16384, .i32⟩
  | .hbm, ⟨8, _⟩ => ⟨S16x128, .f32⟩
  | .hbm, ⟨9, _⟩ => ⟨S16x128, .f32⟩
  | .hbm, ⟨10, _⟩ => ⟨S128x16384, .f32⟩
  | .hbm, ⟨11, _⟩ => ⟨S25x16384x128, .f32⟩
  | .hbm, ⟨12, _⟩ => ⟨S16384x128, .f32⟩
  | .hbm, ⟨13, _⟩ => ⟨S16384x128x25, .f32⟩
  | .local .tc .vmem, ⟨0, _⟩ => ⟨S8x2048, .f32⟩
  | .local .tc .vmem, ⟨1, _⟩ => ⟨S8x2048, .f32⟩
  | .local .tc .vmem, ⟨2, _⟩ => ⟨S128x1, .f32⟩
  | .local .tc .vmem, ⟨3, _⟩ => ⟨S128x2048, .f32⟩
  | .local .tc .vmem, ⟨4, _⟩ => ⟨S128x2048, .f32⟩
  | .local .tc .vmem, ⟨5, _⟩ => ⟨S1x1x2048, .i32⟩
  | .local .tc .vmem, ⟨6, _⟩ => ⟨S1x1x2048, .i32⟩
  | .local .tc .vmem, ⟨7, _⟩ => ⟨S16x128, .f32⟩
  | .local .tc .vmem, ⟨8, _⟩ => ⟨S16x128, .f32⟩
  | .local .tc .vmem, ⟨9, _⟩ => ⟨S128x1024, .f32⟩
  | .local .tc .vmem, ⟨10, _⟩ => ⟨S128x1024, .f32⟩
  | .local .tc .vmem, ⟨11, _⟩ => ⟨S1024x8, .f32⟩
  | .local .tc .vmem, ⟨12, _⟩ => ⟨S1024x8, .f32⟩
  | .local .tc .vmem, ⟨13, _⟩ => ⟨S16x128, .f32⟩
  | .local .tc .vmem, ⟨14, _⟩ => ⟨S25x1024x128, .f32⟩
  | .local .tc .vmem, ⟨15, _⟩ => ⟨S25x1024x128, .f32⟩
  | .local .tc .vmem, ⟨16, _⟩ => ⟨S1024x128, .f32⟩
  | .local .tc .vmem, ⟨17, _⟩ => ⟨S1024x128, .f32⟩
  | .local .scVector .vmem, ⟨0, _⟩ => ⟨S128x256, .f32⟩
  | .local .scVector .vmem, ⟨1, _⟩ => ⟨S128x256, .f32⟩
  | .local .scVector .vmem, ⟨2, _⟩ => ⟨S256, .i32⟩
  | _, _ => ⟨S16384x8, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => false
  | ⟨10, _⟩ => false
  | ⟨11, _⟩ => false
  | ⟨12, _⟩ => false
  | ⟨13, _⟩ => false
  | ⟨14, _⟩ => false
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTables nBuf rfl bufTy 4 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v8 : Ref sig .tc := ⟨.hbm, 13, rfl⟩
abbrev main_v2_0_scv : Ref sig .scVector := ⟨.hbm, 5, rfl⟩
abbrev main_v3_scv : Ref sig .scVector := ⟨.hbm, 7, rfl⟩
abbrev main_v6_scv : Ref sig .scVector := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc3_stg0_0 : Ref sig .tc := ⟨.vmem, 9, rfl⟩
abbrev cc3_stg0_1 : Ref sig .tc := ⟨.vmem, 10, rfl⟩
abbrev cc3_stg1_0 : Ref sig .tc := ⟨.vmem, 11, rfl⟩
abbrev cc3_stg1_1 : Ref sig .tc := ⟨.vmem, 12, rfl⟩
abbrev cc3_stg2_0 : Ref sig .tc := ⟨.vmem, 13, rfl⟩
abbrev cc3_stg3_0 : Ref sig .tc := ⟨.vmem, 14, rfl⟩
abbrev cc3_stg3_1 : Ref sig .tc := ⟨.vmem, 15, rfl⟩
abbrev cc3_stg4_0 : Ref sig .tc := ⟨.vmem, 16, rfl⟩
abbrev cc3_stg4_1 : Ref sig .tc := ⟨.vmem, 17, rfl⟩
abbrev cc2_scratch0 : Ref sig .scVector := ⟨.vmem, 0, rfl⟩
abbrev cc2_scratch1 : Ref sig .scVector := ⟨.vmem, 1, rfl⟩
abbrev cc2_scratch2 : Ref sig .scVector := ⟨.vmem, 2, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem3_0 : DmaSem sig := 20
abbrev cc3_sem3_1 : DmaSem sig := 21
abbrev cc3_sem4_0 : DmaSem sig := 22
abbrev cc3_sem4_1 : DmaSem sig := 23
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := .none

abbrev stage1_0 : Fin 1 → Memref sig .tc .vmem S16x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S16x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev grid2 : Pipeline.Grid := ⟨2, ![2, 16], ![false, false]⟩

def k2_off1 (i : grid2.Coords) : Fin 2 → Nat :=
  let c0_i32_104_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v3 : BitVec 32 := Scalar.muli v1 c512_i32
  let c0_i32 : BitVec 32 := 0#32
  let v4 : BitVec 32 := Scalar.addi v3 c0_i32
  ![0, v4.toNat]
def k2_off2 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v3 : BitVec 32 := Scalar.muli v1 c512_i32
  let c0_i32 : BitVec 32 := 0#32
  let v4 : BitVec 32 := Scalar.addi v3 c0_i32
  ![v4.toNat]
@[reducible] def k2_t1_loop : Scf.Loop 32 :=
  let c0_i32_4 : BitVec 32 := 0#32
  let c128_i32 : BitVec 32 := 128#32
  let v25 : BitVec 32 := Scalar.addi c0_i32_4 c128_i32
  let c1_i32_5 : BitVec 32 := 1#32
  ⟨c0_i32_4, v25, c1_i32_5⟩

def k2_chk1 (v6 : IVec S16 32) (v193 : IVec S16 32) : Prop :=
  (∀ a x, ((![v193, v6] : Fin 2 → IVec S16 32) a x).toNat < S128x256.size a)
theorem k2_idx1_inb : ∀ (v6 : IVec S16 32) (v193 : IVec S16 32) (k2_hw1 : k2_chk1 v6 v193), ∀ a x, ((![v193, v6] : Fin 2 → IVec S16 32) a x).toNat < S128x256.size a := fun v6 v193 k2_hw1 => k2_hw1

def k2_chk2 (v6 : IVec S16 32) (v197 : IVec S16 32) : Prop :=
  (∀ a x, ((![v197, v6] : Fin 2 → IVec S16 32) a x).toNat < S128x256.size a)
theorem k2_idx2_inb : ∀ (v6 : IVec S16 32) (v197 : IVec S16 32) (k2_hw2 : k2_chk2 v6 v197), ∀ a x, ((![v197, v6] : Fin 2 → IVec S16 32) a x).toNat < S128x256.size a := fun v6 v197 k2_hw2 => k2_hw2

def k2_chk4 (v11 : IVec S16 32) (v221 : IVec S16 32) : Prop :=
  (∀ a x, ((![v221, v11] : Fin 2 → IVec S16 32) a x).toNat < S128x256.size a)
theorem k2_idx4_inb : ∀ (v11 : IVec S16 32) (v221 : IVec S16 32) (k2_hw4 : k2_chk4 v11 v221), ∀ a x, ((![v221, v11] : Fin 2 → IVec S16 32) a x).toNat < S128x256.size a := fun v11 v221 k2_hw4 => k2_hw4

def k2_chk5 (v11 : IVec S16 32) (v225 : IVec S16 32) : Prop :=
  (∀ a x, ((![v225, v11] : Fin 2 → IVec S16 32) a x).toNat < S128x256.size a)
theorem k2_idx5_inb : ∀ (v11 : IVec S16 32) (v225 : IVec S16 32) (k2_hw5 : k2_chk5 v11 v225), ∀ a x, ((![v225, v11] : Fin 2 → IVec S16 32) a x).toNat < S128x256.size a := fun v11 v225 k2_hw5 => k2_hw5

def k2_chk6 (v16 : IVec S16 32) (v249 : IVec S16 32) : Prop :=
  (∀ a x, ((![v249, v16] : Fin 2 → IVec S16 32) a x).toNat < S128x256.size a)
theorem k2_idx7_inb : ∀ (v16 : IVec S16 32) (v249 : IVec S16 32) (k2_hw6 : k2_chk6 v16 v249), ∀ a x, ((![v249, v16] : Fin 2 → IVec S16 32) a x).toNat < S128x256.size a := fun v16 v249 k2_hw6 => k2_hw6

def k2_chk7 (v16 : IVec S16 32) (v253 : IVec S16 32) : Prop :=
  (∀ a x, ((![v253, v16] : Fin 2 → IVec S16 32) a x).toNat < S128x256.size a)
theorem k2_idx8_inb : ∀ (v16 : IVec S16 32) (v253 : IVec S16 32) (k2_hw7 : k2_chk7 v16 v253), ∀ a x, ((![v253, v16] : Fin 2 → IVec S16 32) a x).toNat < S128x256.size a := fun v16 v253 k2_hw7 => k2_hw7

def k2_chk8 (v21 : IVec S16 32) (v277 : IVec S16 32) : Prop :=
  (∀ a x, ((![v277, v21] : Fin 2 → IVec S16 32) a x).toNat < S128x256.size a)
theorem k2_idx10_inb : ∀ (v21 : IVec S16 32) (v277 : IVec S16 32) (k2_hw8 : k2_chk8 v21 v277), ∀ a x, ((![v277, v21] : Fin 2 → IVec S16 32) a x).toNat < S128x256.size a := fun v21 v277 k2_hw8 => k2_hw8

def k2_chk9 (v21 : IVec S16 32) (v281 : IVec S16 32) : Prop :=
  (∀ a x, ((![v281, v21] : Fin 2 → IVec S16 32) a x).toNat < S128x256.size a)
theorem k2_idx11_inb : ∀ (v21 : IVec S16 32) (v281 : IVec S16 32) (k2_hw9 : k2_chk9 v21 v281), ∀ a x, ((![v281, v21] : Fin 2 → IVec S16 32) a x).toNat < S128x256.size a := fun v21 v281 k2_hw9 => k2_hw9

def k2_chk3 (v6 : IVec S16 32) (v11 : IVec S16 32) (v16 : IVec S16 32) (v21 : IVec S16 32) (v185 : IVec S16 32) : Prop :=
  (∀ a x, ((![v185, v6] : Fin 2 → IVec S16 32) a x).toNat < S128x256.size a) ∧
  (∀ a x, ((![v185, v11] : Fin 2 → IVec S16 32) a x).toNat < S128x256.size a) ∧
  (∀ a x, ((![v185, v16] : Fin 2 → IVec S16 32) a x).toNat < S128x256.size a) ∧
  (∀ a x, ((![v185, v21] : Fin 2 → IVec S16 32) a x).toNat < S128x256.size a)
theorem k2_idx3_inb : ∀ (v6 : IVec S16 32) (v11 : IVec S16 32) (v16 : IVec S16 32) (v21 : IVec S16 32) (v185 : IVec S16 32) (k2_hw3 : k2_chk3 v6 v11 v16 v21 v185), ∀ a x, ((![v185, v6] : Fin 2 → IVec S16 32) a x).toNat < S128x256.size a := fun v6 v11 v16 v21 v185 k2_hw3 => k2_hw3.1
theorem k2_idx6_inb : ∀ (v6 : IVec S16 32) (v11 : IVec S16 32) (v16 : IVec S16 32) (v21 : IVec S16 32) (v185 : IVec S16 32) (k2_hw3 : k2_chk3 v6 v11 v16 v21 v185), ∀ a x, ((![v185, v11] : Fin 2 → IVec S16 32) a x).toNat < S128x256.size a := fun v6 v11 v16 v21 v185 k2_hw3 => k2_hw3.2.1
theorem k2_idx9_inb : ∀ (v6 : IVec S16 32) (v11 : IVec S16 32) (v16 : IVec S16 32) (v21 : IVec S16 32) (v185 : IVec S16 32) (k2_hw3 : k2_chk3 v6 v11 v16 v21 v185), ∀ a x, ((![v185, v16] : Fin 2 → IVec S16 32) a x).toNat < S128x256.size a := fun v6 v11 v16 v21 v185 k2_hw3 => k2_hw3.2.2.1
theorem k2_idx12_inb : ∀ (v6 : IVec S16 32) (v11 : IVec S16 32) (v16 : IVec S16 32) (v21 : IVec S16 32) (v185 : IVec S16 32) (k2_hw3 : k2_chk3 v6 v11 v16 v21 v185), ∀ a x, ((![v185, v21] : Fin 2 → IVec S16 32) a x).toNat < S128x256.size a := fun v6 v11 v16 v21 v185 k2_hw3 => k2_hw3.2.2.2
@[reducible] def k2_t2_loop : Scf.Loop 32 :=
  let c0_i32_12 : BitVec 32 := 0#32
  let c128_i32_13 : BitVec 32 := 128#32
  let v47 : BitVec 32 := Scalar.addi c0_i32_12 c128_i32_13
  let c1_i32_14 : BitVec 32 := 1#32
  ⟨c0_i32_12, v47, c1_i32_14⟩

def k2_chk10 (v28 : IVec S16 32) (v193 : IVec S16 32) : Prop :=
  (∀ a x, ((![v193, v28] : Fin 2 → IVec S16 32) a x).toNat < S128x256.size a)
theorem k2_idx13_inb : ∀ (v28 : IVec S16 32) (v193 : IVec S16 32) (k2_hw10 : k2_chk10 v28 v193), ∀ a x, ((![v193, v28] : Fin 2 → IVec S16 32) a x).toNat < S128x256.size a := fun v28 v193 k2_hw10 => k2_hw10

def k2_chk11 (v28 : IVec S16 32) (v197 : IVec S16 32) : Prop :=
  (∀ a x, ((![v197, v28] : Fin 2 → IVec S16 32) a x).toNat < S128x256.size a)
theorem k2_idx14_inb : ∀ (v28 : IVec S16 32) (v197 : IVec S16 32) (k2_hw11 : k2_chk11 v28 v197), ∀ a x, ((![v197, v28] : Fin 2 → IVec S16 32) a x).toNat < S128x256.size a := fun v28 v197 k2_hw11 => k2_hw11

def k2_chk13 (v33 : IVec S16 32) (v221 : IVec S16 32) : Prop :=
  (∀ a x, ((![v221, v33] : Fin 2 → IVec S16 32) a x).toNat < S128x256.size a)
theorem k2_idx16_inb : ∀ (v33 : IVec S16 32) (v221 : IVec S16 32) (k2_hw13 : k2_chk13 v33 v221), ∀ a x, ((![v221, v33] : Fin 2 → IVec S16 32) a x).toNat < S128x256.size a := fun v33 v221 k2_hw13 => k2_hw13

def k2_chk14 (v33 : IVec S16 32) (v225 : IVec S16 32) : Prop :=
  (∀ a x, ((![v225, v33] : Fin 2 → IVec S16 32) a x).toNat < S128x256.size a)
theorem k2_idx17_inb : ∀ (v33 : IVec S16 32) (v225 : IVec S16 32) (k2_hw14 : k2_chk14 v33 v225), ∀ a x, ((![v225, v33] : Fin 2 → IVec S16 32) a x).toNat < S128x256.size a := fun v33 v225 k2_hw14 => k2_hw14

def k2_chk15 (v38 : IVec S16 32) (v249 : IVec S16 32) : Prop :=
  (∀ a x, ((![v249, v38] : Fin 2 → IVec S16 32) a x).toNat < S128x256.size a)
theorem k2_idx19_inb : ∀ (v38 : IVec S16 32) (v249 : IVec S16 32) (k2_hw15 : k2_chk15 v38 v249), ∀ a x, ((![v249, v38] : Fin 2 → IVec S16 32) a x).toNat < S128x256.size a := fun v38 v249 k2_hw15 => k2_hw15

def k2_chk16 (v38 : IVec S16 32) (v253 : IVec S16 32) : Prop :=
  (∀ a x, ((![v253, v38] : Fin 2 → IVec S16 32) a x).toNat < S128x256.size a)
theorem k2_idx20_inb : ∀ (v38 : IVec S16 32) (v253 : IVec S16 32) (k2_hw16 : k2_chk16 v38 v253), ∀ a x, ((![v253, v38] : Fin 2 → IVec S16 32) a x).toNat < S128x256.size a := fun v38 v253 k2_hw16 => k2_hw16

def k2_chk17 (v43 : IVec S16 32) (v277 : IVec S16 32) : Prop :=
  (∀ a x, ((![v277, v43] : Fin 2 → IVec S16 32) a x).toNat < S128x256.size a)
theorem k2_idx22_inb : ∀ (v43 : IVec S16 32) (v277 : IVec S16 32) (k2_hw17 : k2_chk17 v43 v277), ∀ a x, ((![v277, v43] : Fin 2 → IVec S16 32) a x).toNat < S128x256.size a := fun v43 v277 k2_hw17 => k2_hw17

def k2_chk18 (v43 : IVec S16 32) (v281 : IVec S16 32) : Prop :=
  (∀ a x, ((![v281, v43] : Fin 2 → IVec S16 32) a x).toNat < S128x256.size a)
theorem k2_idx23_inb : ∀ (v43 : IVec S16 32) (v281 : IVec S16 32) (k2_hw18 : k2_chk18 v43 v281), ∀ a x, ((![v281, v43] : Fin 2 → IVec S16 32) a x).toNat < S128x256.size a := fun v43 v281 k2_hw18 => k2_hw18

def k2_chk12 (v28 : IVec S16 32) (v33 : IVec S16 32) (v38 : IVec S16 32) (v43 : IVec S16 32) (v185 : IVec S16 32) : Prop :=
  (∀ a x, ((![v185, v28] : Fin 2 → IVec S16 32) a x).toNat < S128x256.size a) ∧
  (∀ a x, ((![v185, v33] : Fin 2 → IVec S16 32) a x).toNat < S128x256.size a) ∧
  (∀ a x, ((![v185, v38] : Fin 2 → IVec S16 32) a x).toNat < S128x256.size a) ∧
  (∀ a x, ((![v185, v43] : Fin 2 → IVec S16 32) a x).toNat < S128x256.size a)
theorem k2_idx15_inb : ∀ (v28 : IVec S16 32) (v33 : IVec S16 32) (v38 : IVec S16 32) (v43 : IVec S16 32) (v185 : IVec S16 32) (k2_hw12 : k2_chk12 v28 v33 v38 v43 v185), ∀ a x, ((![v185, v28] : Fin 2 → IVec S16 32) a x).toNat < S128x256.size a := fun v28 v33 v38 v43 v185 k2_hw12 => k2_hw12.1
theorem k2_idx18_inb : ∀ (v28 : IVec S16 32) (v33 : IVec S16 32) (v38 : IVec S16 32) (v43 : IVec S16 32) (v185 : IVec S16 32) (k2_hw12 : k2_chk12 v28 v33 v38 v43 v185), ∀ a x, ((![v185, v33] : Fin 2 → IVec S16 32) a x).toNat < S128x256.size a := fun v28 v33 v38 v43 v185 k2_hw12 => k2_hw12.2.1
theorem k2_idx21_inb : ∀ (v28 : IVec S16 32) (v33 : IVec S16 32) (v38 : IVec S16 32) (v43 : IVec S16 32) (v185 : IVec S16 32) (k2_hw12 : k2_chk12 v28 v33 v38 v43 v185), ∀ a x, ((![v185, v38] : Fin 2 → IVec S16 32) a x).toNat < S128x256.size a := fun v28 v33 v38 v43 v185 k2_hw12 => k2_hw12.2.2.1
theorem k2_idx24_inb : ∀ (v28 : IVec S16 32) (v33 : IVec S16 32) (v38 : IVec S16 32) (v43 : IVec S16 32) (v185 : IVec S16 32) (k2_hw12 : k2_chk12 v28 v33 v38 v43 v185), ∀ a x, ((![v185, v43] : Fin 2 → IVec S16 32) a x).toNat < S128x256.size a := fun v28 v33 v38 v43 v185 k2_hw12 => k2_hw12.2.2.2
@[reducible] def k2_t3_loop : Scf.Loop 32 :=
  let c0_i32_22 : BitVec 32 := 0#32
  let c128_i32_23 : BitVec 32 := 128#32
  let v69 : BitVec 32 := Scalar.addi c0_i32_22 c128_i32_23
  let c1_i32_24 : BitVec 32 := 1#32
  ⟨c0_i32_22, v69, c1_i32_24⟩

def k2_chk19 (v50 : IVec S16 32) (v193 : IVec S16 32) : Prop :=
  (∀ a x, ((![v193, v50] : Fin 2 → IVec S16 32) a x).toNat < S128x256.size a)
theorem k2_idx25_inb : ∀ (v50 : IVec S16 32) (v193 : IVec S16 32) (k2_hw19 : k2_chk19 v50 v193), ∀ a x, ((![v193, v50] : Fin 2 → IVec S16 32) a x).toNat < S128x256.size a := fun v50 v193 k2_hw19 => k2_hw19

def k2_chk20 (v50 : IVec S16 32) (v197 : IVec S16 32) : Prop :=
  (∀ a x, ((![v197, v50] : Fin 2 → IVec S16 32) a x).toNat < S128x256.size a)
theorem k2_idx26_inb : ∀ (v50 : IVec S16 32) (v197 : IVec S16 32) (k2_hw20 : k2_chk20 v50 v197), ∀ a x, ((![v197, v50] : Fin 2 → IVec S16 32) a x).toNat < S128x256.size a := fun v50 v197 k2_hw20 => k2_hw20

def k2_chk22 (v55 : IVec S16 32) (v221 : IVec S16 32) : Prop :=
  (∀ a x, ((![v221, v55] : Fin 2 → IVec S16 32) a x).toNat < S128x256.size a)
theorem k2_idx28_inb : ∀ (v55 : IVec S16 32) (v221 : IVec S16 32) (k2_hw22 : k2_chk22 v55 v221), ∀ a x, ((![v221, v55] : Fin 2 → IVec S16 32) a x).toNat < S128x256.size a := fun v55 v221 k2_hw22 => k2_hw22

def k2_chk23 (v55 : IVec S16 32) (v225 : IVec S16 32) : Prop :=
  (∀ a x, ((![v225, v55] : Fin 2 → IVec S16 32) a x).toNat < S128x256.size a)
theorem k2_idx29_inb : ∀ (v55 : IVec S16 32) (v225 : IVec S16 32) (k2_hw23 : k2_chk23 v55 v225), ∀ a x, ((![v225, v55] : Fin 2 → IVec S16 32) a x).toNat < S128x256.size a := fun v55 v225 k2_hw23 => k2_hw23

def k2_chk24 (v60 : IVec S16 32) (v249 : IVec S16 32) : Prop :=
  (∀ a x, ((![v249, v60] : Fin 2 → IVec S16 32) a x).toNat < S128x256.size a)
theorem k2_idx31_inb : ∀ (v60 : IVec S16 32) (v249 : IVec S16 32) (k2_hw24 : k2_chk24 v60 v249), ∀ a x, ((![v249, v60] : Fin 2 → IVec S16 32) a x).toNat < S128x256.size a := fun v60 v249 k2_hw24 => k2_hw24

def k2_chk25 (v60 : IVec S16 32) (v253 : IVec S16 32) : Prop :=
  (∀ a x, ((![v253, v60] : Fin 2 → IVec S16 32) a x).toNat < S128x256.size a)
theorem k2_idx32_inb : ∀ (v60 : IVec S16 32) (v253 : IVec S16 32) (k2_hw25 : k2_chk25 v60 v253), ∀ a x, ((![v253, v60] : Fin 2 → IVec S16 32) a x).toNat < S128x256.size a := fun v60 v253 k2_hw25 => k2_hw25

def k2_chk26 (v65 : IVec S16 32) (v277 : IVec S16 32) : Prop :=
  (∀ a x, ((![v277, v65] : Fin 2 → IVec S16 32) a x).toNat < S128x256.size a)
theorem k2_idx34_inb : ∀ (v65 : IVec S16 32) (v277 : IVec S16 32) (k2_hw26 : k2_chk26 v65 v277), ∀ a x, ((![v277, v65] : Fin 2 → IVec S16 32) a x).toNat < S128x256.size a := fun v65 v277 k2_hw26 => k2_hw26

def k2_chk27 (v65 : IVec S16 32) (v281 : IVec S16 32) : Prop :=
  (∀ a x, ((![v281, v65] : Fin 2 → IVec S16 32) a x).toNat < S128x256.size a)
theorem k2_idx35_inb : ∀ (v65 : IVec S16 32) (v281 : IVec S16 32) (k2_hw27 : k2_chk27 v65 v281), ∀ a x, ((![v281, v65] : Fin 2 → IVec S16 32) a x).toNat < S128x256.size a := fun v65 v281 k2_hw27 => k2_hw27

def k2_chk21 (v50 : IVec S16 32) (v55 : IVec S16 32) (v60 : IVec S16 32) (v65 : IVec S16 32) (v185 : IVec S16 32) : Prop :=
  (∀ a x, ((![v185, v50] : Fin 2 → IVec S16 32) a x).toNat < S128x256.size a) ∧
  (∀ a x, ((![v185, v55] : Fin 2 → IVec S16 32) a x).toNat < S128x256.size a) ∧
  (∀ a x, ((![v185, v60] : Fin 2 → IVec S16 32) a x).toNat < S128x256.size a) ∧
  (∀ a x, ((![v185, v65] : Fin 2 → IVec S16 32) a x).toNat < S128x256.size a)
theorem k2_idx27_inb : ∀ (v50 : IVec S16 32) (v55 : IVec S16 32) (v60 : IVec S16 32) (v65 : IVec S16 32) (v185 : IVec S16 32) (k2_hw21 : k2_chk21 v50 v55 v60 v65 v185), ∀ a x, ((![v185, v50] : Fin 2 → IVec S16 32) a x).toNat < S128x256.size a := fun v50 v55 v60 v65 v185 k2_hw21 => k2_hw21.1
theorem k2_idx30_inb : ∀ (v50 : IVec S16 32) (v55 : IVec S16 32) (v60 : IVec S16 32) (v65 : IVec S16 32) (v185 : IVec S16 32) (k2_hw21 : k2_chk21 v50 v55 v60 v65 v185), ∀ a x, ((![v185, v55] : Fin 2 → IVec S16 32) a x).toNat < S128x256.size a := fun v50 v55 v60 v65 v185 k2_hw21 => k2_hw21.2.1
theorem k2_idx33_inb : ∀ (v50 : IVec S16 32) (v55 : IVec S16 32) (v60 : IVec S16 32) (v65 : IVec S16 32) (v185 : IVec S16 32) (k2_hw21 : k2_chk21 v50 v55 v60 v65 v185), ∀ a x, ((![v185, v60] : Fin 2 → IVec S16 32) a x).toNat < S128x256.size a := fun v50 v55 v60 v65 v185 k2_hw21 => k2_hw21.2.2.1
theorem k2_idx36_inb : ∀ (v50 : IVec S16 32) (v55 : IVec S16 32) (v60 : IVec S16 32) (v65 : IVec S16 32) (v185 : IVec S16 32) (k2_hw21 : k2_chk21 v50 v55 v60 v65 v185), ∀ a x, ((![v185, v65] : Fin 2 → IVec S16 32) a x).toNat < S128x256.size a := fun v50 v55 v60 v65 v185 k2_hw21 => k2_hw21.2.2.2
@[reducible] def k2_t4_loop : Scf.Loop 32 :=
  let c0_i32_31 : BitVec 32 := 0#32
  let c128_i32_32 : BitVec 32 := 128#32
  let v91 : BitVec 32 := Scalar.addi c0_i32_31 c128_i32_32
  let c1_i32_33 : BitVec 32 := 1#32
  ⟨c0_i32_31, v91, c1_i32_33⟩

def k2_chk28 (v72 : IVec S16 32) (v193 : IVec S16 32) : Prop :=
  (∀ a x, ((![v193, v72] : Fin 2 → IVec S16 32) a x).toNat < S128x256.size a)
theorem k2_idx37_inb : ∀ (v72 : IVec S16 32) (v193 : IVec S16 32) (k2_hw28 : k2_chk28 v72 v193), ∀ a x, ((![v193, v72] : Fin 2 → IVec S16 32) a x).toNat < S128x256.size a := fun v72 v193 k2_hw28 => k2_hw28

def k2_chk29 (v72 : IVec S16 32) (v197 : IVec S16 32) : Prop :=
  (∀ a x, ((![v197, v72] : Fin 2 → IVec S16 32) a x).toNat < S128x256.size a)
theorem k2_idx38_inb : ∀ (v72 : IVec S16 32) (v197 : IVec S16 32) (k2_hw29 : k2_chk29 v72 v197), ∀ a x, ((![v197, v72] : Fin 2 → IVec S16 32) a x).toNat < S128x256.size a := fun v72 v197 k2_hw29 => k2_hw29

def k2_chk31 (v77 : IVec S16 32) (v221 : IVec S16 32) : Prop :=
  (∀ a x, ((![v221, v77] : Fin 2 → IVec S16 32) a x).toNat < S128x256.size a)
theorem k2_idx40_inb : ∀ (v77 : IVec S16 32) (v221 : IVec S16 32) (k2_hw31 : k2_chk31 v77 v221), ∀ a x, ((![v221, v77] : Fin 2 → IVec S16 32) a x).toNat < S128x256.size a := fun v77 v221 k2_hw31 => k2_hw31

def k2_chk32 (v77 : IVec S16 32) (v225 : IVec S16 32) : Prop :=
  (∀ a x, ((![v225, v77] : Fin 2 → IVec S16 32) a x).toNat < S128x256.size a)
theorem k2_idx41_inb : ∀ (v77 : IVec S16 32) (v225 : IVec S16 32) (k2_hw32 : k2_chk32 v77 v225), ∀ a x, ((![v225, v77] : Fin 2 → IVec S16 32) a x).toNat < S128x256.size a := fun v77 v225 k2_hw32 => k2_hw32

def k2_chk33 (v82 : IVec S16 32) (v249 : IVec S16 32) : Prop :=
  (∀ a x, ((![v249, v82] : Fin 2 → IVec S16 32) a x).toNat < S128x256.size a)
theorem k2_idx43_inb : ∀ (v82 : IVec S16 32) (v249 : IVec S16 32) (k2_hw33 : k2_chk33 v82 v249), ∀ a x, ((![v249, v82] : Fin 2 → IVec S16 32) a x).toNat < S128x256.size a := fun v82 v249 k2_hw33 => k2_hw33

def k2_chk34 (v82 : IVec S16 32) (v253 : IVec S16 32) : Prop :=
  (∀ a x, ((![v253, v82] : Fin 2 → IVec S16 32) a x).toNat < S128x256.size a)
theorem k2_idx44_inb : ∀ (v82 : IVec S16 32) (v253 : IVec S16 32) (k2_hw34 : k2_chk34 v82 v253), ∀ a x, ((![v253, v82] : Fin 2 → IVec S16 32) a x).toNat < S128x256.size a := fun v82 v253 k2_hw34 => k2_hw34

def k2_chk35 (v87 : IVec S16 32) (v277 : IVec S16 32) : Prop :=
  (∀ a x, ((![v277, v87] : Fin 2 → IVec S16 32) a x).toNat < S128x256.size a)
theorem k2_idx46_inb : ∀ (v87 : IVec S16 32) (v277 : IVec S16 32) (k2_hw35 : k2_chk35 v87 v277), ∀ a x, ((![v277, v87] : Fin 2 → IVec S16 32) a x).toNat < S128x256.size a := fun v87 v277 k2_hw35 => k2_hw35

def k2_chk36 (v87 : IVec S16 32) (v281 : IVec S16 32) : Prop :=
  (∀ a x, ((![v281, v87] : Fin 2 → IVec S16 32) a x).toNat < S128x256.size a)
theorem k2_idx47_inb : ∀ (v87 : IVec S16 32) (v281 : IVec S16 32) (k2_hw36 : k2_chk36 v87 v281), ∀ a x, ((![v281, v87] : Fin 2 → IVec S16 32) a x).toNat < S128x256.size a := fun v87 v281 k2_hw36 => k2_hw36

def k2_chk30 (v72 : IVec S16 32) (v77 : IVec S16 32) (v82 : IVec S16 32) (v87 : IVec S16 32) (v185 : IVec S16 32) : Prop :=
  (∀ a x, ((![v185, v72] : Fin 2 → IVec S16 32) a x).toNat < S128x256.size a) ∧
  (∀ a x, ((![v185, v77] : Fin 2 → IVec S16 32) a x).toNat < S128x256.size a) ∧
  (∀ a x, ((![v185, v82] : Fin 2 → IVec S16 32) a x).toNat < S128x256.size a) ∧
  (∀ a x, ((![v185, v87] : Fin 2 → IVec S16 32) a x).toNat < S128x256.size a)
theorem k2_idx39_inb : ∀ (v72 : IVec S16 32) (v77 : IVec S16 32) (v82 : IVec S16 32) (v87 : IVec S16 32) (v185 : IVec S16 32) (k2_hw30 : k2_chk30 v72 v77 v82 v87 v185), ∀ a x, ((![v185, v72] : Fin 2 → IVec S16 32) a x).toNat < S128x256.size a := fun v72 v77 v82 v87 v185 k2_hw30 => k2_hw30.1
theorem k2_idx42_inb : ∀ (v72 : IVec S16 32) (v77 : IVec S16 32) (v82 : IVec S16 32) (v87 : IVec S16 32) (v185 : IVec S16 32) (k2_hw30 : k2_chk30 v72 v77 v82 v87 v185), ∀ a x, ((![v185, v77] : Fin 2 → IVec S16 32) a x).toNat < S128x256.size a := fun v72 v77 v82 v87 v185 k2_hw30 => k2_hw30.2.1
theorem k2_idx45_inb : ∀ (v72 : IVec S16 32) (v77 : IVec S16 32) (v82 : IVec S16 32) (v87 : IVec S16 32) (v185 : IVec S16 32) (k2_hw30 : k2_chk30 v72 v77 v82 v87 v185), ∀ a x, ((![v185, v82] : Fin 2 → IVec S16 32) a x).toNat < S128x256.size a := fun v72 v77 v82 v87 v185 k2_hw30 => k2_hw30.2.2.1
theorem k2_idx48_inb : ∀ (v72 : IVec S16 32) (v77 : IVec S16 32) (v82 : IVec S16 32) (v87 : IVec S16 32) (v185 : IVec S16 32) (k2_hw30 : k2_chk30 v72 v77 v82 v87 v185), ∀ a x, ((![v185, v87] : Fin 2 → IVec S16 32) a x).toNat < S128x256.size a := fun v72 v77 v82 v87 v185 k2_hw30 => k2_hw30.2.2.2
def k2_off3 (i : grid2.Coords) (c0_i32 : BitVec 32) : Fin 2 → Nat :=
  let c0_i32_104_r2 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v3 : BitVec 32 := Scalar.muli v1 c512_i32
  let v4 : BitVec 32 := Scalar.addi v3 c0_i32
  ![0, v4.toNat]
def k2_off4 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_35 : BitVec 32 := 512#32
  let v93 : BitVec 32 := Scalar.muli v1 c512_i32_35
  let c256_i32 : BitVec 32 := 256#32
  let v94 : BitVec 32 := Scalar.addi v93 c256_i32
  ![v94.toNat]
@[reducible] def k2_t5_loop : Scf.Loop 32 :=
  let c0_i32_49 : BitVec 32 := 0#32
  let c128_i32_50 : BitVec 32 := 128#32
  let v115 : BitVec 32 := Scalar.addi c0_i32_49 c128_i32_50
  let c1_i32_51 : BitVec 32 := 1#32
  ⟨c0_i32_49, v115, c1_i32_51⟩

def k2_chk37 (v96 : IVec S16 32) (v193 : IVec S16 32) : Prop :=
  (∀ a x, ((![v193, v96] : Fin 2 → IVec S16 32) a x).toNat < S128x256.size a)
theorem k2_idx49_inb : ∀ (v96 : IVec S16 32) (v193 : IVec S16 32) (k2_hw37 : k2_chk37 v96 v193), ∀ a x, ((![v193, v96] : Fin 2 → IVec S16 32) a x).toNat < S128x256.size a := fun v96 v193 k2_hw37 => k2_hw37

def k2_chk38 (v96 : IVec S16 32) (v197 : IVec S16 32) : Prop :=
  (∀ a x, ((![v197, v96] : Fin 2 → IVec S16 32) a x).toNat < S128x256.size a)
theorem k2_idx50_inb : ∀ (v96 : IVec S16 32) (v197 : IVec S16 32) (k2_hw38 : k2_chk38 v96 v197), ∀ a x, ((![v197, v96] : Fin 2 → IVec S16 32) a x).toNat < S128x256.size a := fun v96 v197 k2_hw38 => k2_hw38

def k2_chk40 (v101 : IVec S16 32) (v221 : IVec S16 32) : Prop :=
  (∀ a x, ((![v221, v101] : Fin 2 → IVec S16 32) a x).toNat < S128x256.size a)
theorem k2_idx52_inb : ∀ (v101 : IVec S16 32) (v221 : IVec S16 32) (k2_hw40 : k2_chk40 v101 v221), ∀ a x, ((![v221, v101] : Fin 2 → IVec S16 32) a x).toNat < S128x256.size a := fun v101 v221 k2_hw40 => k2_hw40

def k2_chk41 (v101 : IVec S16 32) (v225 : IVec S16 32) : Prop :=
  (∀ a x, ((![v225, v101] : Fin 2 → IVec S16 32) a x).toNat < S128x256.size a)
theorem k2_idx53_inb : ∀ (v101 : IVec S16 32) (v225 : IVec S16 32) (k2_hw41 : k2_chk41 v101 v225), ∀ a x, ((![v225, v101] : Fin 2 → IVec S16 32) a x).toNat < S128x256.size a := fun v101 v225 k2_hw41 => k2_hw41

def k2_chk42 (v106 : IVec S16 32) (v249 : IVec S16 32) : Prop :=
  (∀ a x, ((![v249, v106] : Fin 2 → IVec S16 32) a x).toNat < S128x256.size a)
theorem k2_idx55_inb : ∀ (v106 : IVec S16 32) (v249 : IVec S16 32) (k2_hw42 : k2_chk42 v106 v249), ∀ a x, ((![v249, v106] : Fin 2 → IVec S16 32) a x).toNat < S128x256.size a := fun v106 v249 k2_hw42 => k2_hw42

def k2_chk43 (v106 : IVec S16 32) (v253 : IVec S16 32) : Prop :=
  (∀ a x, ((![v253, v106] : Fin 2 → IVec S16 32) a x).toNat < S128x256.size a)
theorem k2_idx56_inb : ∀ (v106 : IVec S16 32) (v253 : IVec S16 32) (k2_hw43 : k2_chk43 v106 v253), ∀ a x, ((![v253, v106] : Fin 2 → IVec S16 32) a x).toNat < S128x256.size a := fun v106 v253 k2_hw43 => k2_hw43

def k2_chk44 (v111 : IVec S16 32) (v277 : IVec S16 32) : Prop :=
  (∀ a x, ((![v277, v111] : Fin 2 → IVec S16 32) a x).toNat < S128x256.size a)
theorem k2_idx58_inb : ∀ (v111 : IVec S16 32) (v277 : IVec S16 32) (k2_hw44 : k2_chk44 v111 v277), ∀ a x, ((![v277, v111] : Fin 2 → IVec S16 32) a x).toNat < S128x256.size a := fun v111 v277 k2_hw44 => k2_hw44

def k2_chk45 (v111 : IVec S16 32) (v281 : IVec S16 32) : Prop :=
  (∀ a x, ((![v281, v111] : Fin 2 → IVec S16 32) a x).toNat < S128x256.size a)
theorem k2_idx59_inb : ∀ (v111 : IVec S16 32) (v281 : IVec S16 32) (k2_hw45 : k2_chk45 v111 v281), ∀ a x, ((![v281, v111] : Fin 2 → IVec S16 32) a x).toNat < S128x256.size a := fun v111 v281 k2_hw45 => k2_hw45

def k2_chk39 (v96 : IVec S16 32) (v101 : IVec S16 32) (v106 : IVec S16 32) (v111 : IVec S16 32) (v185 : IVec S16 32) : Prop :=
  (∀ a x, ((![v185, v96] : Fin 2 → IVec S16 32) a x).toNat < S128x256.size a) ∧
  (∀ a x, ((![v185, v101] : Fin 2 → IVec S16 32) a x).toNat < S128x256.size a) ∧
  (∀ a x, ((![v185, v106] : Fin 2 → IVec S16 32) a x).toNat < S128x256.size a) ∧
  (∀ a x, ((![v185, v111] : Fin 2 → IVec S16 32) a x).toNat < S128x256.size a)
theorem k2_idx51_inb : ∀ (v96 : IVec S16 32) (v101 : IVec S16 32) (v106 : IVec S16 32) (v111 : IVec S16 32) (v185 : IVec S16 32) (k2_hw39 : k2_chk39 v96 v101 v106 v111 v185), ∀ a x, ((![v185, v96] : Fin 2 → IVec S16 32) a x).toNat < S128x256.size a := fun v96 v101 v106 v111 v185 k2_hw39 => k2_hw39.1
theorem k2_idx54_inb : ∀ (v96 : IVec S16 32) (v101 : IVec S16 32) (v106 : IVec S16 32) (v111 : IVec S16 32) (v185 : IVec S16 32) (k2_hw39 : k2_chk39 v96 v101 v106 v111 v185), ∀ a x, ((![v185, v101] : Fin 2 → IVec S16 32) a x).toNat < S128x256.size a := fun v96 v101 v106 v111 v185 k2_hw39 => k2_hw39.2.1
theorem k2_idx57_inb : ∀ (v96 : IVec S16 32) (v101 : IVec S16 32) (v106 : IVec S16 32) (v111 : IVec S16 32) (v185 : IVec S16 32) (k2_hw39 : k2_chk39 v96 v101 v106 v111 v185), ∀ a x, ((![v185, v106] : Fin 2 → IVec S16 32) a x).toNat < S128x256.size a := fun v96 v101 v106 v111 v185 k2_hw39 => k2_hw39.2.2.1
theorem k2_idx60_inb : ∀ (v96 : IVec S16 32) (v101 : IVec S16 32) (v106 : IVec S16 32) (v111 : IVec S16 32) (v185 : IVec S16 32) (k2_hw39 : k2_chk39 v96 v101 v106 v111 v185), ∀ a x, ((![v185, v111] : Fin 2 → IVec S16 32) a x).toNat < S128x256.size a := fun v96 v101 v106 v111 v185 k2_hw39 => k2_hw39.2.2.2
@[reducible] def k2_t6_loop : Scf.Loop 32 :=
  let c0_i32_66 : BitVec 32 := 0#32
  let c128_i32_67 : BitVec 32 := 128#32
  let v137 : BitVec 32 := Scalar.addi c0_i32_66 c128_i32_67
  let c1_i32_68 : BitVec 32 := 1#32
  ⟨c0_i32_66, v137, c1_i32_68⟩

def k2_chk46 (v118 : IVec S16 32) (v193 : IVec S16 32) : Prop :=
  (∀ a x, ((![v193, v118] : Fin 2 → IVec S16 32) a x).toNat < S128x256.size a)
theorem k2_idx61_inb : ∀ (v118 : IVec S16 32) (v193 : IVec S16 32) (k2_hw46 : k2_chk46 v118 v193), ∀ a x, ((![v193, v118] : Fin 2 → IVec S16 32) a x).toNat < S128x256.size a := fun v118 v193 k2_hw46 => k2_hw46

def k2_chk47 (v118 : IVec S16 32) (v197 : IVec S16 32) : Prop :=
  (∀ a x, ((![v197, v118] : Fin 2 → IVec S16 32) a x).toNat < S128x256.size a)
theorem k2_idx62_inb : ∀ (v118 : IVec S16 32) (v197 : IVec S16 32) (k2_hw47 : k2_chk47 v118 v197), ∀ a x, ((![v197, v118] : Fin 2 → IVec S16 32) a x).toNat < S128x256.size a := fun v118 v197 k2_hw47 => k2_hw47

def k2_chk49 (v123 : IVec S16 32) (v221 : IVec S16 32) : Prop :=
  (∀ a x, ((![v221, v123] : Fin 2 → IVec S16 32) a x).toNat < S128x256.size a)
theorem k2_idx64_inb : ∀ (v123 : IVec S16 32) (v221 : IVec S16 32) (k2_hw49 : k2_chk49 v123 v221), ∀ a x, ((![v221, v123] : Fin 2 → IVec S16 32) a x).toNat < S128x256.size a := fun v123 v221 k2_hw49 => k2_hw49

def k2_chk50 (v123 : IVec S16 32) (v225 : IVec S16 32) : Prop :=
  (∀ a x, ((![v225, v123] : Fin 2 → IVec S16 32) a x).toNat < S128x256.size a)
theorem k2_idx65_inb : ∀ (v123 : IVec S16 32) (v225 : IVec S16 32) (k2_hw50 : k2_chk50 v123 v225), ∀ a x, ((![v225, v123] : Fin 2 → IVec S16 32) a x).toNat < S128x256.size a := fun v123 v225 k2_hw50 => k2_hw50

def k2_chk51 (v128 : IVec S16 32) (v249 : IVec S16 32) : Prop :=
  (∀ a x, ((![v249, v128] : Fin 2 → IVec S16 32) a x).toNat < S128x256.size a)
theorem k2_idx67_inb : ∀ (v128 : IVec S16 32) (v249 : IVec S16 32) (k2_hw51 : k2_chk51 v128 v249), ∀ a x, ((![v249, v128] : Fin 2 → IVec S16 32) a x).toNat < S128x256.size a := fun v128 v249 k2_hw51 => k2_hw51

def k2_chk52 (v128 : IVec S16 32) (v253 : IVec S16 32) : Prop :=
  (∀ a x, ((![v253, v128] : Fin 2 → IVec S16 32) a x).toNat < S128x256.size a)
theorem k2_idx68_inb : ∀ (v128 : IVec S16 32) (v253 : IVec S16 32) (k2_hw52 : k2_chk52 v128 v253), ∀ a x, ((![v253, v128] : Fin 2 → IVec S16 32) a x).toNat < S128x256.size a := fun v128 v253 k2_hw52 => k2_hw52

def k2_chk53 (v133 : IVec S16 32) (v277 : IVec S16 32) : Prop :=
  (∀ a x, ((![v277, v133] : Fin 2 → IVec S16 32) a x).toNat < S128x256.size a)
theorem k2_idx70_inb : ∀ (v133 : IVec S16 32) (v277 : IVec S16 32) (k2_hw53 : k2_chk53 v133 v277), ∀ a x, ((![v277, v133] : Fin 2 → IVec S16 32) a x).toNat < S128x256.size a := fun v133 v277 k2_hw53 => k2_hw53

def k2_chk54 (v133 : IVec S16 32) (v281 : IVec S16 32) : Prop :=
  (∀ a x, ((![v281, v133] : Fin 2 → IVec S16 32) a x).toNat < S128x256.size a)
theorem k2_idx71_inb : ∀ (v133 : IVec S16 32) (v281 : IVec S16 32) (k2_hw54 : k2_chk54 v133 v281), ∀ a x, ((![v281, v133] : Fin 2 → IVec S16 32) a x).toNat < S128x256.size a := fun v133 v281 k2_hw54 => k2_hw54

def k2_chk48 (v118 : IVec S16 32) (v123 : IVec S16 32) (v128 : IVec S16 32) (v133 : IVec S16 32) (v185 : IVec S16 32) : Prop :=
  (∀ a x, ((![v185, v118] : Fin 2 → IVec S16 32) a x).toNat < S128x256.size a) ∧
  (∀ a x, ((![v185, v123] : Fin 2 → IVec S16 32) a x).toNat < S128x256.size a) ∧
  (∀ a x, ((![v185, v128] : Fin 2 → IVec S16 32) a x).toNat < S128x256.size a) ∧
  (∀ a x, ((![v185, v133] : Fin 2 → IVec S16 32) a x).toNat < S128x256.size a)
theorem k2_idx63_inb : ∀ (v118 : IVec S16 32) (v123 : IVec S16 32) (v128 : IVec S16 32) (v133 : IVec S16 32) (v185 : IVec S16 32) (k2_hw48 : k2_chk48 v118 v123 v128 v133 v185), ∀ a x, ((![v185, v118] : Fin 2 → IVec S16 32) a x).toNat < S128x256.size a := fun v118 v123 v128 v133 v185 k2_hw48 => k2_hw48.1
theorem k2_idx66_inb : ∀ (v118 : IVec S16 32) (v123 : IVec S16 32) (v128 : IVec S16 32) (v133 : IVec S16 32) (v185 : IVec S16 32) (k2_hw48 : k2_chk48 v118 v123 v128 v133 v185), ∀ a x, ((![v185, v123] : Fin 2 → IVec S16 32) a x).toNat < S128x256.size a := fun v118 v123 v128 v133 v185 k2_hw48 => k2_hw48.2.1
theorem k2_idx69_inb : ∀ (v118 : IVec S16 32) (v123 : IVec S16 32) (v128 : IVec S16 32) (v133 : IVec S16 32) (v185 : IVec S16 32) (k2_hw48 : k2_chk48 v118 v123 v128 v133 v185), ∀ a x, ((![v185, v128] : Fin 2 → IVec S16 32) a x).toNat < S128x256.size a := fun v118 v123 v128 v133 v185 k2_hw48 => k2_hw48.2.2.1
theorem k2_idx72_inb : ∀ (v118 : IVec S16 32) (v123 : IVec S16 32) (v128 : IVec S16 32) (v133 : IVec S16 32) (v185 : IVec S16 32) (k2_hw48 : k2_chk48 v118 v123 v128 v133 v185), ∀ a x, ((![v185, v133] : Fin 2 → IVec S16 32) a x).toNat < S128x256.size a := fun v118 v123 v128 v133 v185 k2_hw48 => k2_hw48.2.2.2
@[reducible] def k2_t7_loop : Scf.Loop 32 :=
  let c0_i32_83 : BitVec 32 := 0#32
  let c128_i32_84 : BitVec 32 := 128#32
  let v159 : BitVec 32 := Scalar.addi c0_i32_83 c128_i32_84
  let c1_i32_85 : BitVec 32 := 1#32
  ⟨c0_i32_83, v159, c1_i32_85⟩

def k2_chk55 (v140 : IVec S16 32) (v193 : IVec S16 32) : Prop :=
  (∀ a x, ((![v193, v140] : Fin 2 → IVec S16 32) a x).toNat < S128x256.size a)
theorem k2_idx73_inb : ∀ (v140 : IVec S16 32) (v193 : IVec S16 32) (k2_hw55 : k2_chk55 v140 v193), ∀ a x, ((![v193, v140] : Fin 2 → IVec S16 32) a x).toNat < S128x256.size a := fun v140 v193 k2_hw55 => k2_hw55

def k2_chk56 (v140 : IVec S16 32) (v197 : IVec S16 32) : Prop :=
  (∀ a x, ((![v197, v140] : Fin 2 → IVec S16 32) a x).toNat < S128x256.size a)
theorem k2_idx74_inb : ∀ (v140 : IVec S16 32) (v197 : IVec S16 32) (k2_hw56 : k2_chk56 v140 v197), ∀ a x, ((![v197, v140] : Fin 2 → IVec S16 32) a x).toNat < S128x256.size a := fun v140 v197 k2_hw56 => k2_hw56

def k2_chk58 (v145 : IVec S16 32) (v221 : IVec S16 32) : Prop :=
  (∀ a x, ((![v221, v145] : Fin 2 → IVec S16 32) a x).toNat < S128x256.size a)
theorem k2_idx76_inb : ∀ (v145 : IVec S16 32) (v221 : IVec S16 32) (k2_hw58 : k2_chk58 v145 v221), ∀ a x, ((![v221, v145] : Fin 2 → IVec S16 32) a x).toNat < S128x256.size a := fun v145 v221 k2_hw58 => k2_hw58

def k2_chk59 (v145 : IVec S16 32) (v225 : IVec S16 32) : Prop :=
  (∀ a x, ((![v225, v145] : Fin 2 → IVec S16 32) a x).toNat < S128x256.size a)
theorem k2_idx77_inb : ∀ (v145 : IVec S16 32) (v225 : IVec S16 32) (k2_hw59 : k2_chk59 v145 v225), ∀ a x, ((![v225, v145] : Fin 2 → IVec S16 32) a x).toNat < S128x256.size a := fun v145 v225 k2_hw59 => k2_hw59

def k2_chk60 (v150 : IVec S16 32) (v249 : IVec S16 32) : Prop :=
  (∀ a x, ((![v249, v150] : Fin 2 → IVec S16 32) a x).toNat < S128x256.size a)
theorem k2_idx79_inb : ∀ (v150 : IVec S16 32) (v249 : IVec S16 32) (k2_hw60 : k2_chk60 v150 v249), ∀ a x, ((![v249, v150] : Fin 2 → IVec S16 32) a x).toNat < S128x256.size a := fun v150 v249 k2_hw60 => k2_hw60

def k2_chk61 (v150 : IVec S16 32) (v253 : IVec S16 32) : Prop :=
  (∀ a x, ((![v253, v150] : Fin 2 → IVec S16 32) a x).toNat < S128x256.size a)
theorem k2_idx80_inb : ∀ (v150 : IVec S16 32) (v253 : IVec S16 32) (k2_hw61 : k2_chk61 v150 v253), ∀ a x, ((![v253, v150] : Fin 2 → IVec S16 32) a x).toNat < S128x256.size a := fun v150 v253 k2_hw61 => k2_hw61

def k2_chk62 (v155 : IVec S16 32) (v277 : IVec S16 32) : Prop :=
  (∀ a x, ((![v277, v155] : Fin 2 → IVec S16 32) a x).toNat < S128x256.size a)
theorem k2_idx82_inb : ∀ (v155 : IVec S16 32) (v277 : IVec S16 32) (k2_hw62 : k2_chk62 v155 v277), ∀ a x, ((![v277, v155] : Fin 2 → IVec S16 32) a x).toNat < S128x256.size a := fun v155 v277 k2_hw62 => k2_hw62

def k2_chk63 (v155 : IVec S16 32) (v281 : IVec S16 32) : Prop :=
  (∀ a x, ((![v281, v155] : Fin 2 → IVec S16 32) a x).toNat < S128x256.size a)
theorem k2_idx83_inb : ∀ (v155 : IVec S16 32) (v281 : IVec S16 32) (k2_hw63 : k2_chk63 v155 v281), ∀ a x, ((![v281, v155] : Fin 2 → IVec S16 32) a x).toNat < S128x256.size a := fun v155 v281 k2_hw63 => k2_hw63

def k2_chk57 (v140 : IVec S16 32) (v145 : IVec S16 32) (v150 : IVec S16 32) (v155 : IVec S16 32) (v185 : IVec S16 32) : Prop :=
  (∀ a x, ((![v185, v140] : Fin 2 → IVec S16 32) a x).toNat < S128x256.size a) ∧
  (∀ a x, ((![v185, v145] : Fin 2 → IVec S16 32) a x).toNat < S128x256.size a) ∧
  (∀ a x, ((![v185, v150] : Fin 2 → IVec S16 32) a x).toNat < S128x256.size a) ∧
  (∀ a x, ((![v185, v155] : Fin 2 → IVec S16 32) a x).toNat < S128x256.size a)
theorem k2_idx75_inb : ∀ (v140 : IVec S16 32) (v145 : IVec S16 32) (v150 : IVec S16 32) (v155 : IVec S16 32) (v185 : IVec S16 32) (k2_hw57 : k2_chk57 v140 v145 v150 v155 v185), ∀ a x, ((![v185, v140] : Fin 2 → IVec S16 32) a x).toNat < S128x256.size a := fun v140 v145 v150 v155 v185 k2_hw57 => k2_hw57.1
theorem k2_idx78_inb : ∀ (v140 : IVec S16 32) (v145 : IVec S16 32) (v150 : IVec S16 32) (v155 : IVec S16 32) (v185 : IVec S16 32) (k2_hw57 : k2_chk57 v140 v145 v150 v155 v185), ∀ a x, ((![v185, v145] : Fin 2 → IVec S16 32) a x).toNat < S128x256.size a := fun v140 v145 v150 v155 v185 k2_hw57 => k2_hw57.2.1
theorem k2_idx81_inb : ∀ (v140 : IVec S16 32) (v145 : IVec S16 32) (v150 : IVec S16 32) (v155 : IVec S16 32) (v185 : IVec S16 32) (k2_hw57 : k2_chk57 v140 v145 v150 v155 v185), ∀ a x, ((![v185, v150] : Fin 2 → IVec S16 32) a x).toNat < S128x256.size a := fun v140 v145 v150 v155 v185 k2_hw57 => k2_hw57.2.2.1
theorem k2_idx84_inb : ∀ (v140 : IVec S16 32) (v145 : IVec S16 32) (v150 : IVec S16 32) (v155 : IVec S16 32) (v185 : IVec S16 32) (k2_hw57 : k2_chk57 v140 v145 v150 v155 v185), ∀ a x, ((![v185, v155] : Fin 2 → IVec S16 32) a x).toNat < S128x256.size a := fun v140 v145 v150 v155 v185 k2_hw57 => k2_hw57.2.2.2
@[reducible] def k2_t8_loop : Scf.Loop 32 :=
  let c0_i32_100 : BitVec 32 := 0#32
  let c128_i32_101 : BitVec 32 := 128#32
  let v181 : BitVec 32 := Scalar.addi c0_i32_100 c128_i32_101
  let c1_i32_102 : BitVec 32 := 1#32
  ⟨c0_i32_100, v181, c1_i32_102⟩

def k2_chk64 (v162 : IVec S16 32) (v193 : IVec S16 32) : Prop :=
  (∀ a x, ((![v193, v162] : Fin 2 → IVec S16 32) a x).toNat < S128x256.size a)
theorem k2_idx85_inb : ∀ (v162 : IVec S16 32) (v193 : IVec S16 32) (k2_hw64 : k2_chk64 v162 v193), ∀ a x, ((![v193, v162] : Fin 2 → IVec S16 32) a x).toNat < S128x256.size a := fun v162 v193 k2_hw64 => k2_hw64

def k2_chk65 (v162 : IVec S16 32) (v197 : IVec S16 32) : Prop :=
  (∀ a x, ((![v197, v162] : Fin 2 → IVec S16 32) a x).toNat < S128x256.size a)
theorem k2_idx86_inb : ∀ (v162 : IVec S16 32) (v197 : IVec S16 32) (k2_hw65 : k2_chk65 v162 v197), ∀ a x, ((![v197, v162] : Fin 2 → IVec S16 32) a x).toNat < S128x256.size a := fun v162 v197 k2_hw65 => k2_hw65

def k2_chk67 (v167 : IVec S16 32) (v221 : IVec S16 32) : Prop :=
  (∀ a x, ((![v221, v167] : Fin 2 → IVec S16 32) a x).toNat < S128x256.size a)
theorem k2_idx88_inb : ∀ (v167 : IVec S16 32) (v221 : IVec S16 32) (k2_hw67 : k2_chk67 v167 v221), ∀ a x, ((![v221, v167] : Fin 2 → IVec S16 32) a x).toNat < S128x256.size a := fun v167 v221 k2_hw67 => k2_hw67

def k2_chk68 (v167 : IVec S16 32) (v225 : IVec S16 32) : Prop :=
  (∀ a x, ((![v225, v167] : Fin 2 → IVec S16 32) a x).toNat < S128x256.size a)
theorem k2_idx89_inb : ∀ (v167 : IVec S16 32) (v225 : IVec S16 32) (k2_hw68 : k2_chk68 v167 v225), ∀ a x, ((![v225, v167] : Fin 2 → IVec S16 32) a x).toNat < S128x256.size a := fun v167 v225 k2_hw68 => k2_hw68

def k2_chk69 (v172 : IVec S16 32) (v249 : IVec S16 32) : Prop :=
  (∀ a x, ((![v249, v172] : Fin 2 → IVec S16 32) a x).toNat < S128x256.size a)
theorem k2_idx91_inb : ∀ (v172 : IVec S16 32) (v249 : IVec S16 32) (k2_hw69 : k2_chk69 v172 v249), ∀ a x, ((![v249, v172] : Fin 2 → IVec S16 32) a x).toNat < S128x256.size a := fun v172 v249 k2_hw69 => k2_hw69

def k2_chk70 (v172 : IVec S16 32) (v253 : IVec S16 32) : Prop :=
  (∀ a x, ((![v253, v172] : Fin 2 → IVec S16 32) a x).toNat < S128x256.size a)
theorem k2_idx92_inb : ∀ (v172 : IVec S16 32) (v253 : IVec S16 32) (k2_hw70 : k2_chk70 v172 v253), ∀ a x, ((![v253, v172] : Fin 2 → IVec S16 32) a x).toNat < S128x256.size a := fun v172 v253 k2_hw70 => k2_hw70

def k2_chk71 (v177 : IVec S16 32) (v277 : IVec S16 32) : Prop :=
  (∀ a x, ((![v277, v177] : Fin 2 → IVec S16 32) a x).toNat < S128x256.size a)
theorem k2_idx94_inb : ∀ (v177 : IVec S16 32) (v277 : IVec S16 32) (k2_hw71 : k2_chk71 v177 v277), ∀ a x, ((![v277, v177] : Fin 2 → IVec S16 32) a x).toNat < S128x256.size a := fun v177 v277 k2_hw71 => k2_hw71

def k2_chk72 (v177 : IVec S16 32) (v281 : IVec S16 32) : Prop :=
  (∀ a x, ((![v281, v177] : Fin 2 → IVec S16 32) a x).toNat < S128x256.size a)
theorem k2_idx95_inb : ∀ (v177 : IVec S16 32) (v281 : IVec S16 32) (k2_hw72 : k2_chk72 v177 v281), ∀ a x, ((![v281, v177] : Fin 2 → IVec S16 32) a x).toNat < S128x256.size a := fun v177 v281 k2_hw72 => k2_hw72

def k2_chk66 (v162 : IVec S16 32) (v167 : IVec S16 32) (v172 : IVec S16 32) (v177 : IVec S16 32) (v185 : IVec S16 32) : Prop :=
  (∀ a x, ((![v185, v162] : Fin 2 → IVec S16 32) a x).toNat < S128x256.size a) ∧
  (∀ a x, ((![v185, v167] : Fin 2 → IVec S16 32) a x).toNat < S128x256.size a) ∧
  (∀ a x, ((![v185, v172] : Fin 2 → IVec S16 32) a x).toNat < S128x256.size a) ∧
  (∀ a x, ((![v185, v177] : Fin 2 → IVec S16 32) a x).toNat < S128x256.size a)
theorem k2_idx87_inb : ∀ (v162 : IVec S16 32) (v167 : IVec S16 32) (v172 : IVec S16 32) (v177 : IVec S16 32) (v185 : IVec S16 32) (k2_hw66 : k2_chk66 v162 v167 v172 v177 v185), ∀ a x, ((![v185, v162] : Fin 2 → IVec S16 32) a x).toNat < S128x256.size a := fun v162 v167 v172 v177 v185 k2_hw66 => k2_hw66.1
theorem k2_idx90_inb : ∀ (v162 : IVec S16 32) (v167 : IVec S16 32) (v172 : IVec S16 32) (v177 : IVec S16 32) (v185 : IVec S16 32) (k2_hw66 : k2_chk66 v162 v167 v172 v177 v185), ∀ a x, ((![v185, v167] : Fin 2 → IVec S16 32) a x).toNat < S128x256.size a := fun v162 v167 v172 v177 v185 k2_hw66 => k2_hw66.2.1
theorem k2_idx93_inb : ∀ (v162 : IVec S16 32) (v167 : IVec S16 32) (v172 : IVec S16 32) (v177 : IVec S16 32) (v185 : IVec S16 32) (k2_hw66 : k2_chk66 v162 v167 v172 v177 v185), ∀ a x, ((![v185, v172] : Fin 2 → IVec S16 32) a x).toNat < S128x256.size a := fun v162 v167 v172 v177 v185 k2_hw66 => k2_hw66.2.2.1
theorem k2_idx96_inb : ∀ (v162 : IVec S16 32) (v167 : IVec S16 32) (v172 : IVec S16 32) (v177 : IVec S16 32) (v185 : IVec S16 32) (k2_hw66 : k2_chk66 v162 v167 v172 v177 v185), ∀ a x, ((![v185, v177] : Fin 2 → IVec S16 32) a x).toNat < S128x256.size a := fun v162 v167 v172 v177 v185 k2_hw66 => k2_hw66.2.2.2
def k2_off5 (i : grid2.Coords) : Fin 2 → Nat :=
  let c0_i32_104_r5 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_35 : BitVec 32 := 512#32
  let v93 : BitVec 32 := Scalar.muli v1 c512_i32_35
  let c256_i32 : BitVec 32 := 256#32
  let v94 : BitVec 32 := Scalar.addi v93 c256_i32
  ![0, v94.toNat]
abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S128x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1024x8 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S16x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S25x1024x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1024x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "big" => some ⊤
  | _ => none
-- ==== ReferenceIdeal.lean ====
abbrev S16384x8 : Shape := ⟨2, ![16384, 8]⟩
abbrev S128 : Shape := ⟨1, ![128]⟩
abbrev S128x16 : Shape := ⟨2, ![128, 16]⟩
abbrev S16384x3 : Shape := ⟨2, ![16384, 3]⟩
abbrev S16384x1x3 : Shape := ⟨3, ![16384, 1, 3]⟩
abbrev S_ : Shape := ⟨0, ![]⟩
abbrev S16384x1 : Shape := ⟨2, ![16384, 1]⟩
abbrev S1x128 : Shape := ⟨2, ![1, 128]⟩
abbrev S16384x128 : Shape := ⟨2, ![16384, 128]⟩
abbrev S16384x128x1 : Shape := ⟨3, ![16384, 128, 1]⟩
abbrev S16384x128x3 : Shape := ⟨3, ![16384, 128, 3]⟩
abbrev S1 : Shape := ⟨1, ![1]⟩
abbrev S1x1x1 : Shape := ⟨3, ![1, 1, 1]⟩
abbrev S128x1 : Shape := ⟨2, ![128, 1]⟩
abbrev S1x128x16 : Shape := ⟨3, ![1, 128, 16]⟩
abbrev S16384x128x16 : Shape := ⟨3, ![16384, 128, 16]⟩
abbrev S16384x128x25 : Shape := ⟨3, ![16384, 128, 25]⟩

abbrev nBuf : Space → Nat
  | .hbm => 109
  | .vmem => 0
  | .smem => 0
  | _ => 0

abbrev bufTy : (tb : Table) → Fin (tcTables nBuf tb) → BufTy
  | .hbm, ⟨0, _⟩ => ⟨S16384x8, .f32⟩
  | .hbm, ⟨1, _⟩ => ⟨S128, .f32⟩
  | .hbm, ⟨2, _⟩ => ⟨S128x16, .f32⟩
  | .hbm, ⟨3, _⟩ => ⟨S16384x3, .f32⟩
  | .hbm, ⟨4, _⟩ => ⟨S16384x1x3, .f32⟩
  | .hbm, ⟨5, _⟩ => ⟨S16384x3, .f32⟩
  | .hbm, ⟨6, _⟩ => ⟨S16384x1x3, .f32⟩
  | .hbm, ⟨7, _⟩ => ⟨S16384x1x3, .f32⟩
  | .hbm, ⟨8, _⟩ => ⟨S_, .f32⟩
  | .hbm, ⟨9, _⟩ => ⟨S16384x1, .f32⟩
  | .hbm, ⟨10, _⟩ => ⟨S16384x1x3, .f32⟩
  | .hbm, ⟨11, _⟩ => ⟨S_, .f32⟩
  | .hbm, ⟨12, _⟩ => ⟨S16384x1, .f32⟩
  | .hbm, ⟨13, _⟩ => ⟨S16384x1x3, .f32⟩
  | .hbm, ⟨14, _⟩ => ⟨S_, .f32⟩
  | .hbm, ⟨15, _⟩ => ⟨S16384x1, .f32⟩
  | .hbm, ⟨16, _⟩ => ⟨S1x128, .f32⟩
  | .hbm, ⟨17, _⟩ => ⟨S16384x1, .f32⟩
  | .hbm, ⟨18, _⟩ => ⟨S1x128, .f32⟩
  | .hbm, ⟨19, _⟩ => ⟨S16384x128, .f32⟩
  | .hbm, ⟨20, _⟩ => ⟨S16384x128, .f32⟩
  | .hbm, ⟨21, _⟩ => ⟨S16384x128, .f32⟩
  | .hbm, ⟨22, _⟩ => ⟨S16384x128, .f32⟩
  | .hbm, ⟨23, _⟩ => ⟨S16384x128, .f32⟩
  | .hbm, ⟨24, _⟩ => ⟨S16384x128, .f32⟩
  | .hbm, ⟨25, _⟩ => ⟨S16384x128, .f32⟩
  | .hbm, ⟨26, _⟩ => ⟨S_, .f32⟩
  | .hbm, ⟨27, _⟩ => ⟨S16384x128, .f32⟩
  | .hbm, ⟨28, _⟩ => ⟨S16384x128, .f32⟩
  | .hbm, ⟨29, _⟩ => ⟨S16384x1, .f32⟩
  | .hbm, ⟨30, _⟩ => ⟨S16384x128, .f32⟩
  | .hbm, ⟨31, _⟩ => ⟨S16384x128, .f32⟩
  | .hbm, ⟨32, _⟩ => ⟨S16384x128, .f32⟩
  | .hbm, ⟨33, _⟩ => ⟨S16384x128, .f32⟩
  | .hbm, ⟨34, _⟩ => ⟨S16384x128, .f32⟩
  | .hbm, ⟨35, _⟩ => ⟨S16384x128x1, .f32⟩
  | .hbm, ⟨36, _⟩ => ⟨S16384x128x3, .f32⟩
  | .hbm, ⟨37, _⟩ => ⟨S16384x128x3, .f32⟩
  | .hbm, ⟨38, _⟩ => ⟨S16384x128x3, .f32⟩
  | .hbm, ⟨39, _⟩ => ⟨S16384x128x3, .f32⟩
  | .hbm, ⟨40, _⟩ => ⟨S16384x128x3, .f32⟩
  | .hbm, ⟨41, _⟩ => ⟨S16384x128x3, .f32⟩
  | .hbm, ⟨42, _⟩ => ⟨S16384x128x3, .f32⟩
  | .hbm, ⟨43, _⟩ => ⟨S16384x128x3, .f32⟩
  | .hbm, ⟨44, _⟩ => ⟨S_, .f32⟩
  | .hbm, ⟨45, _⟩ => ⟨S16384x128, .f32⟩
  | .hbm, ⟨46, _⟩ => ⟨S16384x128, .f32⟩
  | .hbm, ⟨47, _⟩ => ⟨S16384x128, .i32⟩
  | .hbm, ⟨48, _⟩ => ⟨S16384x128, .f32⟩
  | .hbm, ⟨49, _⟩ => ⟨S16384x128, .i32⟩
  | .hbm, ⟨50, _⟩ => ⟨S_, .i32⟩
  | .hbm, ⟨51, _⟩ => ⟨S16384x128, .i32⟩
  | .hbm, ⟨52, _⟩ => ⟨S16384x128, .i1⟩
  | .hbm, ⟨53, _⟩ => ⟨S_, .i32⟩
  | .hbm, ⟨54, _⟩ => ⟨S16384x128, .i32⟩
  | .hbm, ⟨55, _⟩ => ⟨S16384x128, .i32⟩
  | .hbm, ⟨56, _⟩ => ⟨S16384x128, .i32⟩
  | .hbm, ⟨57, _⟩ => ⟨S16384x128x1, .i32⟩
  | .hbm, ⟨58, _⟩ => ⟨S1, .i32⟩
  | .hbm, ⟨59, _⟩ => ⟨S_, .i32⟩
  | .hbm, ⟨60, _⟩ => ⟨S16384x128x1, .i32⟩
  | .hbm, ⟨61, _⟩ => ⟨S16384x128x1, .i1⟩
  | .hbm, ⟨62, _⟩ => ⟨S1x1x1, .i32⟩
  | .hbm, ⟨63, _⟩ => ⟨S16384x128x1, .i32⟩
  | .hbm, ⟨64, _⟩ => ⟨S16384x128x1, .i1⟩
  | .hbm, ⟨65, _⟩ => ⟨S16384x128x1, .i1⟩
  | .hbm, ⟨66, _⟩ => ⟨S_, .i1⟩
  | .hbm, ⟨67, _⟩ => ⟨S16384x128, .i1⟩
  | .hbm, ⟨68, _⟩ => ⟨S16384x128, .f32⟩
  | .hbm, ⟨69, _⟩ => ⟨S_, .f32⟩
  | .hbm, ⟨70, _⟩ => ⟨S16384x128, .f32⟩
  | .hbm, ⟨71, _⟩ => ⟨S16384x128, .f32⟩
  | .hbm, ⟨72, _⟩ => ⟨S16384x128x1, .i32⟩
  | .hbm, ⟨73, _⟩ => ⟨S_, .i32⟩
  | .hbm, ⟨74, _⟩ => ⟨S16384x128x1, .i32⟩
  | .hbm, ⟨75, _⟩ => ⟨S16384x128x1, .i1⟩
  | .hbm, ⟨76, _⟩ => ⟨S_, .i32⟩
  | .hbm, ⟨77, _⟩ => ⟨S16384x128x1, .i32⟩
  | .hbm, ⟨78, _⟩ => ⟨S16384x128x1, .i32⟩
  | .hbm, ⟨79, _⟩ => ⟨S16384x128x1, .i32⟩
  | .hbm, ⟨80, _⟩ => ⟨S1, .i32⟩
  | .hbm, ⟨81, _⟩ => ⟨S_, .i32⟩
  | .hbm, ⟨82, _⟩ => ⟨S16384x128x1, .i32⟩
  | .hbm, ⟨83, _⟩ => ⟨S16384x128x1, .i1⟩
  | .hbm, ⟨84, _⟩ => ⟨S1x1x1, .i32⟩
  | .hbm, ⟨85, _⟩ => ⟨S16384x128x1, .i32⟩
  | .hbm, ⟨86, _⟩ => ⟨S16384x128x1, .i1⟩
  | .hbm, ⟨87, _⟩ => ⟨S16384x128x1, .i1⟩
  | .hbm, ⟨88, _⟩ => ⟨S_, .i1⟩
  | .hbm, ⟨89, _⟩ => ⟨S16384x128, .i1⟩
  | .hbm, ⟨90, _⟩ => ⟨S16384x128x3, .f32⟩
  | .hbm, ⟨91, _⟩ => ⟨S16384x128x3, .i1⟩
  | .hbm, ⟨92, _⟩ => ⟨S_, .f32⟩
  | .hbm, ⟨93, _⟩ => ⟨S16384x128x3, .f32⟩
  | .hbm, ⟨94, _⟩ => ⟨S16384x128x3, .f32⟩
  | .hbm, ⟨95, _⟩ => ⟨S16384x128x3, .f32⟩
  | .hbm, ⟨96, _⟩ => ⟨S128x16, .f32⟩
  | .hbm, ⟨97, _⟩ => ⟨S_, .f32⟩
  | .hbm, ⟨98, _⟩ => ⟨S128, .f32⟩
  | .hbm, ⟨99, _⟩ => ⟨S128x1, .f32⟩
  | .hbm, ⟨100, _⟩ => ⟨S128x1, .f32⟩
  | .hbm, ⟨101, _⟩ => ⟨S_, .f32⟩
  | .hbm, ⟨102, _⟩ => ⟨S128x1, .f32⟩
  | .hbm, ⟨103, _⟩ => ⟨S128x1, .f32⟩
  | .hbm, ⟨104, _⟩ => ⟨S128x16, .f32⟩
  | .hbm, ⟨105, _⟩ => ⟨S128x16, .f32⟩
  | .hbm, ⟨106, _⟩ => ⟨S1x128x16, .f32⟩
  | .hbm, ⟨107, _⟩ => ⟨S16384x128x16, .f32⟩
  | .hbm, ⟨108, _⟩ => ⟨S16384x128x25, .f32⟩
  | _, _ => ⟨S16384x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_v38 : Ref sig .tc := ⟨.hbm, 46, rfl⟩
abbrev main_call0_v0 : Ref sig .tc := ⟨.hbm, 47, rfl⟩
abbrev main_call0_v1_0 : Ref sig .tc := ⟨.hbm, 48, rfl⟩
abbrev main_v39 : Ref sig .tc := ⟨.hbm, 49, rfl⟩
abbrev main_call1_c : Ref sig .tc := ⟨.hbm, 50, rfl⟩
abbrev main_call1_v0 : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_c_1 : Ref sig .tc := ⟨.hbm, 58, rfl⟩
abbrev main_call1_c_2 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_3 : Ref sig .tc := ⟨.hbm, 66, rfl⟩
abbrev main_call1_v12 : Ref sig .tc := ⟨.hbm, 67, rfl⟩
abbrev main_call1_v13 : Ref sig .tc := ⟨.hbm, 68, rfl⟩
abbrev main_call1_cst : Ref sig .tc := ⟨.hbm, 69, rfl⟩
abbrev main_call1_v14 : Ref sig .tc := ⟨.hbm, 70, rfl⟩
abbrev main_v40 : Ref sig .tc := ⟨.hbm, 71, rfl⟩
abbrev main_v41 : Ref sig .tc := ⟨.hbm, 72, rfl⟩
abbrev main_call2_c : Ref sig .tc := ⟨.hbm, 73, rfl⟩
abbrev main_call2_v0 : Ref sig .tc := ⟨.hbm, 74, rfl⟩
abbrev main_call2_v1 : Ref sig .tc := ⟨.hbm, 75, rfl⟩
abbrev main_call2_c_0 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_c_1 : Ref sig .tc := ⟨.hbm, 80, rfl⟩
abbrev main_call2_c_2 : Ref sig .tc := ⟨.hbm, 81, rfl⟩
abbrev main_call2_v5 : Ref sig .tc := ⟨.hbm, 82, rfl⟩
abbrev main_call2_v6 : Ref sig .tc := ⟨.hbm, 83, rfl⟩
abbrev main_call2_v7 : Ref sig .tc := ⟨.hbm, 84, rfl⟩
abbrev main_call2_v8 : Ref sig .tc := ⟨.hbm, 85, rfl⟩
abbrev main_call2_v9 : Ref sig .tc := ⟨.hbm, 86, rfl⟩
abbrev main_call2_v10 : Ref sig .tc := ⟨.hbm, 87, rfl⟩
abbrev main_call2_c_3 : Ref sig .tc := ⟨.hbm, 88, rfl⟩
abbrev main_call2_v11 : Ref sig .tc := ⟨.hbm, 89, rfl⟩
abbrev main_call2_v12 : Ref sig .tc := ⟨.hbm, 90, rfl⟩
abbrev main_call2_v13 : Ref sig .tc := ⟨.hbm, 91, rfl⟩
abbrev main_call2_cst : Ref sig .tc := ⟨.hbm, 92, rfl⟩
abbrev main_call2_v14 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_cst_4 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_cst_5 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩

abbrev nD : Nat := 1
abbrev τ : Topo := Topo.v7x

variable {F : FTy → Type} [FloatOps F]
-- ==== Proof.TileProg.lean ====
/-
  The SparseCore kernel's function, written once per repeated piece: one lane-group's merge step (`lanes`), one trip of
  the counted loop over four lane groups (`trip`), one block of four groups (`block`), one 256-column half (`half`).
  `body_eq` says the printed function is two halves.
-/
module

public import proofs.«01_k».proof.Defs
public import proofs.«01_k».proof.Proof.Gen.KernelIdeal
public import Idealize.ShloMosaic.Lib.SparseCore.Quiescent
public import Idealize.ShloMosaic.Lib.StableHlo.Run
public import Idealize.ShloMosaic.Lib.Pipeline.Regions
public import Idealize.ShloMosaic.Lib.Pipeline.Kit
public import Idealize.ShloMosaic.Lib.Tactic

@[expose] public section

noncomputable section

namespace Cert.Proof.Merge

open Cert.KernelIdeal Cert.KernelIdeal.Gen
open Idealize.ShloMosaic Idealize.SL.Sem

variable {F : FTy → Type} [FloatOps F]

/-! ## One merge step on sixteen lanes -/

/-- A vector of words brought into the rows 0 … 127. -/
def clip (v : IVec S16 32) : IVec S16 32 := minsi (broadcast S16 127#32) (maxsi (broadcast S16 0#32) v)

/-- Per lane: the candidate below is taken. -/
def takeLo (big : F .f32) (lo hi : IVec S16 32) (tl th : Vec F S16 .f32) : IVec S16 1 :=
  cmpf .ole (select (cmpi .sge lo (broadcast S16 0#32)) (absf tl : FVec F S16 .f32) (broadcast S16 big))
    (select (cmpi .slt hi (broadcast S16 128#32)) (absf th : FVec F S16 .f32) (broadcast S16 big))

/-- The lower pointers after a step. -/
def nextLo (tk : IVec S16 1) (lo : IVec S16 32) : IVec S16 32 := select tk (subi lo (broadcast S16 1#32)) lo
/-- The upper pointers after a step. -/
def nextHi (tk : IVec S16 1) (hi : IVec S16 32) : IVec S16 32 := select tk hi (addi hi (broadcast S16 1#32))

section Prog

variable (p : Fin τ.nSC × Fin τ.nSub)
variable (a5 a6 : Memref sig .scVector .vmem S128x256 .f32)

/-- One lane group's step: two gathers at the clipped pointers, the choice, the scatter to row `row`, the pointers moved. -/
def lanes (big : F .f32) (rid row : IVec S16 32) (hst : ∀ a x, ((![row, rid] : Fin 2 → IVec S16 32) a x).toNat < S128x256.size a)
    (lo hi : IVec S16 32) : Prog (TpuEff nD τ sig (Elt F) Λ₀ (.scVector p.1 p.2)) (IVec S16 32 × IVec S16 32) := do
  have h1 : k2_chk1 rid (clip lo) := (← Prog.lift (TpuEff.assume (k2_chk1 rid (clip lo)) (k2_chk1.dec rid (clip lo)))).down
  have h2 : k2_chk1 rid (clip hi) := (← Prog.lift (TpuEff.assume (k2_chk1 rid (clip hi)) (k2_chk1.dec rid (clip hi)))).down
  let tl : Vec F S16 .f32 ← SparseCore.vectorLoadIdx a5 ![clip lo, rid] h1 (View.loads_vmem h_S128x256)
  let th : Vec F S16 .f32 ← SparseCore.vectorLoadIdx a5 ![clip hi, rid] h2 (View.loads_vmem h_S128x256)
  SparseCore.vectorStoreIdx a6 ![row, rid] (select (takeLo big lo hi tl th) tl th) (fun _ => 1#1) false hst (View.stores_vmem_bits_univ h_S128x256 rfl)
  pure (nextLo (takeLo big lo hi tl th) lo, nextHi (takeLo big lo hi tl th) hi)

/-- The four lane groups' pointers a loop carries. -/
abbrev Ptrs (F : FTy → Type) : Type :=
  IVec S16 32 × Vec F S16 .i32 × IVec S16 32 × Vec F S16 .i32 × IVec S16 32 × Vec F S16 .i32 × IVec S16 32 × Vec F S16 .i32

/-- The row a trip writes, the same on every lane. -/
def rowOf (j : ℕ) : IVec S16 32 := addi (broadcast S16 0#32) (broadcast S16 (BitVec.ofNat 32 j))

/-- One trip of a block's loop, at the row vector `row`: the four groups in turn. -/
def trip (big : F .f32) (r0 r1 r2 r3 row : IVec S16 32) (s : Ptrs F) :
    Prog (TpuEff nD τ sig (Elt F) Λ₀ (.scVector p.1 p.2)) (Ptrs F) := do
  have h : k2_chk3 r0 r1 r2 r3 row := (← Prog.lift (TpuEff.assume (k2_chk3 r0 r1 r2 r3 row) (k2_chk3.dec r0 r1 r2 r3 row))).down
  let x0 ← lanes p a5 a6 big r0 row h.1 s.1 s.2.1
  let x1 ← lanes p a5 a6 big r1 row h.2.1 s.2.2.1 s.2.2.2.1
  let x2 ← lanes p a5 a6 big r2 row h.2.2.1 s.2.2.2.2.1 s.2.2.2.2.2.1
  let x3 ← lanes p a5 a6 big r3 row h.2.2.2 s.2.2.2.2.2.2.1 s.2.2.2.2.2.2.2
  pure (x0.1, x0.2, x1.1, x1.2, x2.1, x2.2, x3.1, x3.2)

variable (a7 : Memref sig .scVector .vmem S256 .i32)

/-- A lane group's columns: sixteen from `o`. -/
def ridOf (o : BitVec 32) : IVec S16 32 := addi (broadcast S16 o) (iota .scVector S16 32 [0] iota_S16_d0_w32_scVector)

/-- Sixteen counts, those from column `o`. -/
def counts (o : ℕ) (b : ∀ a, (![o] : Fin 1 → ℕ) a + S16.size a ≤ S256.size a) :
    Prog (TpuEff nD τ sig (Elt F) Λ₀ (.scVector p.1 p.2)) (Vec F S16 .i32) :=
  Prog.lift (.load a7 (Rect.unit (s := S256) ![o] S16.size b).toLoadRect (View.loadsAt_vmem h_S16))

/-- A group's first lower pointers. -/
def below (k : Vec F S16 .i32) : IVec S16 32 := subi (k : IVec S16 32) (broadcast S16 1#32)

/-- The loop of 128 trips over four lane groups. -/
def mergeLoop (c0 c1 : BitVec 32) (r0 r1 r2 r3 : IVec S16 32) (big : F .f32) (s : Ptrs F) :
    Prog (TpuEff nD τ sig (Elt F) Λ₀ (.scVector p.1 p.2)) (Ptrs F) :=
  Scf.Loop.for k2_t1_loop k2_t1_ok s
    fun t s => trip p a5 a6 big r0 r1 r2 r3 (addi (broadcast S16 0#32) (broadcast S16 (Scf.iv c0 c1 t))) s

/-- One block: four lane groups' counts loaded, then the loop of 128 trips. -/
def block (o0 o1 o2 o3 : ℕ) (b0 : ∀ a, (![o0] : Fin 1 → ℕ) a + S16.size a ≤ S256.size a) (b1 : ∀ a, (![o1] : Fin 1 → ℕ) a + S16.size a ≤ S256.size a)
    (b2 : ∀ a, (![o2] : Fin 1 → ℕ) a + S16.size a ≤ S256.size a) (b3 : ∀ a, (![o3] : Fin 1 → ℕ) a + S16.size a ≤ S256.size a)
    (w0 w1 w2 w3 : BitVec 32) (big : F .f32) :
    Prog (TpuEff nD τ sig (Elt F) Λ₀ (.scVector p.1 p.2)) (Ptrs F) := do
  let k0 ← counts p a7 o0 b0
  let k1 ← counts p a7 o1 b1
  let k2 ← counts p a7 o2 b2
  let k3 ← counts p a7 o3 b3
  mergeLoop p a5 a6 0#32 1#32 (ridOf w0) (ridOf w1) (ridOf w2) (ridOf w3) big (below k0, k0, below k1, k1, below k2, k2, below k3, k3)

/-- The constant a pointer past the end compares as. -/
def bigOf [Named F] : F .f32 := Named.named κ "big" (φ := .f32) 0x7F61B1E6#32

/-- The four blocks of a half. -/
def blocks (big : F .f32) : Prog (TpuEff nD τ sig (Elt F) Λ₀ (.scVector p.1 p.2)) PUnit := do
  let _ ← block p a5 a6 a7 0 16 32 48 inb_S256_S16_0 inb_S256_S16_16 inb_S256_S16_32 inb_S256_S16_48 0#32 16#32 32#32 48#32 big
  let _ ← block p a5 a6 a7 64 80 96 112 inb_S256_S16_64 inb_S256_S16_80 inb_S256_S16_96 inb_S256_S16_112 64#32 80#32 96#32 112#32 big
  let _ ← block p a5 a6 a7 128 144 160 176 inb_S256_S16_128 inb_S256_S16_144 inb_S256_S16_160 inb_S256_S16_176 128#32 144#32 160#32 176#32 big
  let _ ← block p a5 a6 a7 192 208 224 240 inb_S256_S16_192 inb_S256_S16_208 inb_S256_S16_224 inb_S256_S16_240 192#32 208#32 224#32 240#32 big
  pure ⟨⟩

variable (a2 a4 : Memref sig .scVector .hbm S128x16384 .f32) (a3 : Memref sig .scVector .hbm S16384 .i32)

/-- A copy of 256 columns of an array into the scratch, issued and waited for. -/
def copyIn (h5 : a5.IsWhole) (off : Fin 2 → ℕ) (hoff : ∀ a, off a + S128x256.size a ≤ S128x16384.size a) (s : DmaSems sig S_) :
    Prog (TpuEff nD τ sig (Elt F) Λ₀ (.scVector p.1 p.2)) PUnit := do
  Prog.lift (.enqueueDma (a2.slice (Rect.unit (s := S128x16384) off S128x256.size hoff) (fun _ => rfl)) (.here a5) (.dma s.sem) (View.wordExact_bits rfl) h5.wordExact ⟨Or.inl rfl, trivial⟩)
  Prog.lift (.waitDma2 s.sem (a2.slice (Rect.unit (s := S128x16384) off S128x256.size hoff) (fun _ => rfl)) a5 (View.wordExact_bits rfl) h5.wordExact)

/-- A copy of 256 counts into the scratch, issued and waited for. -/
def copyCounts (h7 : a7.IsWhole) (offk : Fin 1 → ℕ) (hoffk : ∀ a, offk a + S256.size a ≤ S16384.size a) (s : DmaSems sig S_) :
    Prog (TpuEff nD τ sig (Elt F) Λ₀ (.scVector p.1 p.2)) PUnit := do
  Prog.lift (.enqueueDma (a3.slice (Rect.unit (s := S16384) offk S256.size hoffk) (fun _ => rfl)) (.here a7) (.dma s.sem) (View.wordExact_bits rfl) h7.wordExact ⟨Or.inl rfl, trivial⟩)
  Prog.lift (.waitDma2 s.sem (a3.slice (Rect.unit (s := S16384) offk S256.size hoffk) (fun _ => rfl)) a7 (View.wordExact_bits rfl) h7.wordExact)

/-- A copy of the merged columns out of the scratch, issued and waited for. -/
def copyOut (h6 : a6.IsWhole) (offo : Fin 2 → ℕ) (hoffo : ∀ a, offo a + S128x256.size a ≤ S128x16384.size a) (s : DmaSems sig S_) :
    Prog (TpuEff nD τ sig (Elt F) Λ₀ (.scVector p.1 p.2)) PUnit := do
  Prog.lift (.enqueueDma a6 (.here (a4.slice (Rect.unit (s := S128x16384) offo S128x256.size hoffo) (fun _ => rfl))) (.dma s.sem) h6.wordExact (View.wordExact_bits rfl) ⟨Or.inl rfl, trivial⟩)
  Prog.lift (.waitDma2 s.sem a6 (a4.slice (Rect.unit (s := S128x16384) offo S128x256.size hoffo) (fun _ => rfl)) h6.wordExact (View.wordExact_bits rfl))

/-- One half: 256 columns of `t` and their counts copied in, merged, and the merged columns copied out. -/
def half (h5 : a5.IsWhole) (h6 : a6.IsWhole) (h7 : a7.IsWhole) (off offo : Fin 2 → ℕ) (offk : Fin 1 → ℕ)
    (hoff : ∀ a, off a + S128x256.size a ≤ S128x16384.size a) (hoffo : ∀ a, offo a + S128x256.size a ≤ S128x16384.size a)
    (hoffk : ∀ a, offk a + S256.size a ≤ S16384.size a) (s0 s1 s2 : DmaSems sig S_) (big : F .f32) :
    Prog (TpuEff nD τ sig (Elt F) Λ₀ (.scVector p.1 p.2)) PUnit := do
  copyIn p a5 a2 h5 off hoff s0
  copyCounts p a7 a3 h7 offk hoffk s1
  blocks p a5 a6 a7 big
  copyOut p a6 a4 h6 offo hoffo s2

/-! ## The printed windows

The printed function is cut into windows by position. Each window below is one of them at the same cut, so that the
printed function is their sequence as it stands; regrouping the sequence gives the two halves. -/

abbrev I16 : Type := IVec S16 32
abbrev Cuts2 (F : FTy → Type) : Type := Σ' (_ : I16) (_ : Vec F S16 .i32) (_ : I16) (_ : I16) (_ : Vec F S16 .i32), I16
abbrev Cuts4 (F : FTy → Type) : Type := Σ' (_ : I16) (_ : Vec F S16 .i32) (_ : I16) (_ : I16) (_ : Vec F S16 .i32) (_ : I16) (_ : I16) (_ : Vec F S16 .i32) (_ : I16)
    (_ : I16) (_ : Vec F S16 .i32) (_ : I16) (_ : F .f32) (_ : BitVec 32), BitVec 32
abbrev Cuts3 (F : FTy → Type) : Type := Σ' (_ : I16) (_ : Vec F S16 .i32) (_ : I16) (_ : I16) (_ : Vec F S16 .i32) (_ : I16) (_ : I16) (_ : Vec F S16 .i32) (_ : I16), I16
abbrev Cuts1 (F : FTy → Type) : Type := Σ' (_ : I16) (_ : Vec F S16 .i32) (_ : I16), I16
abbrev Cuts5 (F : FTy → Type) : Type := Σ' (_ : I16) (_ : Vec F S16 .i32) (_ : I16) (_ : I16) (_ : Vec F S16 .i32) (_ : I16) (_ : I16) (_ : Vec F S16 .i32) (_ : I16)
    (_ : I16) (_ : Vec F S16 .i32), I16

def cut1 (k0 k1 k2 k3 : Vec F S16 .i32) (big : F .f32) : Prog (TpuEff nD τ sig (Elt F) Λ₀ (.scVector p.1 p.2)) (Cuts2 F) := do
  let _ ← mergeLoop p a5 a6 0#32 1#32 (ridOf 0#32) (ridOf 16#32) (ridOf 32#32) (ridOf 48#32) big (below k0, k0, below k1, k1, below k2, k2, below k3, k3)
  let k0 ← counts p a7 64 inb_S256_S16_64
  let k1 ← counts p a7 80 inb_S256_S16_80
  let k2 ← counts p a7 96 inb_S256_S16_96
  let k3 ← counts p a7 112 inb_S256_S16_112
  let _ ← mergeLoop p a5 a6 0#32 1#32 (ridOf 64#32) (ridOf 80#32) (ridOf 96#32) (ridOf 112#32) big (below k0, k0, below k1, k1, below k2, k2, below k3, k3)
  let k0 ← counts p a7 128 inb_S256_S16_128
  let k1 ← counts p a7 144 inb_S256_S16_144
  pure ⟨ridOf 128#32, k0, below k0, ridOf 144#32, k1, below k1⟩

def cut2 (x : Cuts2 F) (big : F .f32) : Prog (TpuEff nD τ sig (Elt F) Λ₀ (.scVector p.1 p.2)) (Cuts4 F) := do
  let k2 ← counts p a7 160 inb_S256_S16_160
  let k3 ← counts p a7 176 inb_S256_S16_176
  let _ ← mergeLoop p a5 a6 0#32 1#32 x.1 x.2.2.2.1 (ridOf 160#32) (ridOf 176#32) big (x.2.2.1, x.2.1, x.2.2.2.2.2, x.2.2.2.2.1, below k2, k2, below k3, k3)
  let k0 ← counts p a7 192 inb_S256_S16_192
  let k1 ← counts p a7 208 inb_S256_S16_208
  let k2 ← counts p a7 224 inb_S256_S16_224
  let k3 ← counts p a7 240 inb_S256_S16_240
  pure ⟨ridOf 192#32, k0, below k0, ridOf 208#32, k1, below k1, ridOf 224#32, k2, below k2, ridOf 240#32, k3, below k3, big, 0#32, 1#32⟩

def cut3 (h5 : a5.IsWhole) (h6 : a6.IsWhole) (h7 : a7.IsWhole) (off offo : Fin 2 → ℕ) (offk : Fin 1 → ℕ)
    (hoff : ∀ a, off a + S128x256.size a ≤ S128x16384.size a) (hoffo : ∀ a, offo a + S128x256.size a ≤ S128x16384.size a)
    (hoffk : ∀ a, offk a + S256.size a ≤ S16384.size a) (s0 s1 s2 : DmaSems sig S_) (x : Cuts4 F) :
    Prog (TpuEff nD τ sig (Elt F) Λ₀ (.scVector p.1 p.2)) (Cuts3 F) := do
  let _ ← mergeLoop p a5 a6 x.2.2.2.2.2.2.2.2.2.2.2.2.2.1 x.2.2.2.2.2.2.2.2.2.2.2.2.2.2 x.1 x.2.2.2.1 x.2.2.2.2.2.2.1 x.2.2.2.2.2.2.2.2.2.1 x.2.2.2.2.2.2.2.2.2.2.2.2.1
    (x.2.2.1, x.2.1, x.2.2.2.2.2.1, x.2.2.2.2.1, x.2.2.2.2.2.2.2.2.1, x.2.2.2.2.2.2.2.1, x.2.2.2.2.2.2.2.2.2.2.2.1, x.2.2.2.2.2.2.2.2.2.2.1)
  copyOut p a6 a4 h6 offo hoffo s2
  copyIn p a5 a2 h5 off hoff s0
  copyCounts p a7 a3 h7 offk hoffk s1
  let k0 ← counts p a7 0 inb_S256_S16_0
  let k1 ← counts p a7 16 inb_S256_S16_16
  let k2 ← counts p a7 32 inb_S256_S16_32
  pure ⟨ridOf 0#32, k0, below k0, ridOf 16#32, k1, below k1, ridOf 32#32, k2, below k2, ridOf 48#32⟩

def cut4 (x : Cuts3 F) (big : F .f32) : Prog (TpuEff nD τ sig (Elt F) Λ₀ (.scVector p.1 p.2)) (Cuts1 F) := do
  let k3 ← counts p a7 48 inb_S256_S16_48
  let _ ← mergeLoop p a5 a6 0#32 1#32 x.1 x.2.2.2.1 x.2.2.2.2.2.2.1 x.2.2.2.2.2.2.2.2.2 big
    (x.2.2.1, x.2.1, x.2.2.2.2.2.1, x.2.2.2.2.1, x.2.2.2.2.2.2.2.2.1, x.2.2.2.2.2.2.2.1, below k3, k3)
  let k0 ← counts p a7 64 inb_S256_S16_64
  let k1 ← counts p a7 80 inb_S256_S16_80
  let k2 ← counts p a7 96 inb_S256_S16_96
  let k3 ← counts p a7 112 inb_S256_S16_112
  let _ ← mergeLoop p a5 a6 0#32 1#32 (ridOf 64#32) (ridOf 80#32) (ridOf 96#32) (ridOf 112#32) big (below k0, k0, below k1, k1, below k2, k2, below k3, k3)
  let k0 ← counts p a7 128 inb_S256_S16_128
  pure ⟨ridOf 128#32, k0, below k0, broadcast S16 144#32⟩

def cut5 (x : Cuts1 F) (big : F .f32) : Prog (TpuEff nD τ sig (Elt F) Λ₀ (.scVector p.1 p.2)) (Cuts5 F) := do
  let k1 ← counts p a7 144 inb_S256_S16_144
  let k2 ← counts p a7 160 inb_S256_S16_160
  let k3 ← counts p a7 176 inb_S256_S16_176
  let _ ← mergeLoop p a5 a6 0#32 1#32 x.1 (addi x.2.2.2 (iota .scVector S16 32 [0] iota_S16_d0_w32_scVector)) (ridOf 160#32) (ridOf 176#32) big (x.2.2.1, x.2.1, below k1, k1, below k2, k2, below k3, k3)
  let k0 ← counts p a7 192 inb_S256_S16_192
  let k1 ← counts p a7 208 inb_S256_S16_208
  let k2 ← counts p a7 224 inb_S256_S16_224
  let k3 ← counts p a7 240 inb_S256_S16_240
  pure ⟨ridOf 192#32, k0, below k0, ridOf 208#32, k1, below k1, ridOf 224#32, k2, below k2, ridOf 240#32, k3, broadcast S16 1#32⟩

end Prog

section Printed

variable [Named F] (i : grid2.Coords) (arg2 : Memref sig .scVector .hbm S128x16384 .f32) (harg2 : arg2.IsWhole) (arg3 : Memref sig .scVector .hbm S16384 .i32) (harg3 : arg3.IsWhole) (arg4 : Memref sig .scVector .hbm S128x16384 .f32) (harg4 : arg4.IsWhole) (arg5 : Memref sig .scVector .vmem S128x256 .f32) (harg5 : arg5.IsWhole) (arg6 : Memref sig .scVector .vmem S128x256 .f32) (harg6 : arg6.IsWhole) (arg7 : Memref sig .scVector .vmem S256 .i32) (harg7 : arg7.IsWhole)
    (e0 e1 e2 e3 e4 e5 : DmaSems sig S_)

/-- The tile the coordinates name. -/
abbrev tileOf (i : grid2.Coords) : Fin τ.nSC × Fin τ.nSub := ((i 0).castLE hcore2, (i 1).castLE hsub2)

set_option maxRecDepth 100000 in
/-- The printed function is its windows in order. -/
theorem body_cuts :
    cc2__sc_merge_body (F := F) i arg2 harg2 arg3 harg3 arg4 harg4 arg5 harg5 arg6 harg6 arg7 harg7 e0 e1 e2 e3 e4 e5
      = (do
          copyIn (tileOf i) arg5 arg2 harg5 (k2_off1 i) (k2_off1_inb i) e0
          copyCounts (tileOf i) arg7 arg3 harg7 (k2_off2 i) (k2_off2_inb i) e1
          let k0 ← counts (tileOf i) arg7 0 inb_S256_S16_0
          let k1 ← counts (tileOf i) arg7 16 inb_S256_S16_16
          let k2 ← counts (tileOf i) arg7 32 inb_S256_S16_32
          let k3 ← counts (tileOf i) arg7 48 inb_S256_S16_48
          let x ← cut1 (tileOf i) arg5 arg6 arg7 k0 k1 k2 k3 bigOf
          let x ← cut2 (tileOf i) arg5 arg6 arg7 x bigOf
          let x ← cut3 (tileOf i) arg5 arg6 arg7 arg2 arg4 arg3 harg5 harg6 harg7 (k2_off3 i 256#32) (k2_off3 i 0#32) (k2_off4 i)
            (k2_off3_inb i 1) (k2_off3_inb i 0) (k2_off4_inb i) e3 e4 e2 x
          let x ← cut4 (tileOf i) arg5 arg6 arg7 x bigOf
          let x ← cut5 (tileOf i) arg5 arg6 arg7 x bigOf
          let _ ← mergeLoop (tileOf i) arg5 arg6 0#32 1#32 x.1 x.2.2.2.1 x.2.2.2.2.2.2.1 x.2.2.2.2.2.2.2.2.2.1 bigOf
            (x.2.2.1, x.2.1, x.2.2.2.2.2.1, x.2.2.2.2.1, x.2.2.2.2.2.2.2.2.1, x.2.2.2.2.2.2.2.1, subi x.2.2.2.2.2.2.2.2.2.2.1 x.2.2.2.2.2.2.2.2.2.2.2, x.2.2.2.2.2.2.2.2.2.2.1)
          copyOut (tileOf i) arg6 arg4 harg6 (k2_off5 i) (k2_off5_inb i) e5) := by
  chain_rfl

/-- The printed function is the two halves, one after the other. -/
theorem body_eq :
    cc2__sc_merge_body (F := F) i arg2 harg2 arg3 harg3 arg4 harg4 arg5 harg5 arg6 harg6 arg7 harg7 e0 e1 e2 e3 e4 e5
      = (do
          half (tileOf i) arg5 arg6 arg7 arg2 arg4 arg3 harg5 harg6 harg7 (k2_off1 i) (k2_off3 i 0#32) (k2_off2 i)
            (k2_off1_inb i) (k2_off3_inb i 0) (k2_off2_inb i) e0 e1 e2 bigOf
          half (tileOf i) arg5 arg6 arg7 arg2 arg4 arg3 harg5 harg6 harg7 (k2_off3 i 256#32) (k2_off5 i) (k2_off4 i)
            (k2_off3_inb i 1) (k2_off5_inb i) (k2_off4_inb i) e3 e4 e5 bigOf) := by
  rw [body_cuts]
  simp only [half, blocks, block, cut1, cut2, cut3, cut4, cut5, bind_assoc, pure_bind]
  rfl

end Printed

end Cert.Proof.Merge

end
-- ==== Proof.Setup.lean ====
/-
  The program as the launch theorem sees it, the resource algebra the proof works in, and the merge of one column of `t`
  as plain functions: where the two pointers stand after `n` steps (`walk`) and the value step `n` writes (`pick`).
-/
module

public import proofs.«01_k».proof.Proof.TileProg

@[expose] public section

noncomputable section

namespace Cert.Proof.Merge

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The program as the launch theorem sees it -/

abbrev ΛP : Labels := Pipeline.Sig Λ₀ (Fin 3) fun p => (pcfgs (F := F) p).Adm
abbrev K : SparseCore.Cfg τ sig (ΛP (F := F)) 1 := sc (F := F)
abbrev D [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' rounds, the transfers' counters -/

abbrev UH : Type := URounds (GSem nD τ sig) ℕ
abbrev UP : Type := URounds (GSem nD τ sig) Unit
abbrev UU : Type := UH × UP × Counters

local notation "𝕄" => MT nD τ sig (HIx 1) (Elt F) ℕ UU ℕ

/-- The handshakes' part. -/
abbrev EH : Emb UH (MT nD τ sig (HIx 1) (Elt F) ℕ UU ℕ) := embL
/-- The pipelines' part. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP (F := F)).LandsIn (upEmb : UEmb _ 𝕄) := by unfold EP; infer_instance

/-! ## One merge step on one lane -/

/-- The one lane at which a lane-wise operation is read. -/
abbrev lane0 : S16.Idx := fun | 0 => ⟨0, by decide⟩

/-- One word brought into the rows 0 … 127. -/
def clip1 (v : BitVec 32) : BitVec 32 := clip (fun _ => v) lane0
/-- One lane's choice. -/
def take1 (big : F .f32) (lo hi : BitVec 32) (tl th : F .f32) : BitVec 1 := takeLo big (fun _ => lo) (fun _ => hi) (fun _ => tl) (fun _ => th) lane0

theorem clip_apply (v : IVec S16 32) (x : S16.Idx) : clip v x = clip1 (v x) := rfl
theorem takeLo_apply (big : F .f32) (lo hi : IVec S16 32) (tl th : Vec F S16 .f32) (x : S16.Idx) :
    takeLo big lo hi tl th x = take1 big (lo x) (hi x) (tl x) (th x) := rfl

/-- The choice at the pointers `s` over a column. -/
def choice (big : F .f32) (col : ℕ → F .f32) (s : BitVec 32 × BitVec 32) : BitVec 1 :=
  take1 big s.1 s.2 (col (clip1 s.1).toNat) (col (clip1 s.2).toNat)

/-- The pointers after `n` steps over a column whose first `k` entries are the lower ones. -/
def walk (big : F .f32) (col : ℕ → F .f32) (k : BitVec 32) : ℕ → BitVec 32 × BitVec 32
  | 0 => (k - 1#32, k)
  | n + 1 =>
    let s := walk big col k n
    if choice big col s = 1#1 then (s.1 - 1#32, s.2) else (s.1, s.2 + 1#32)

/-- The value step `n` writes. -/
def pick (big : F .f32) (col : ℕ → F .f32) (k : BitVec 32) (n : ℕ) : F .f32 :=
  let s := walk big col k n
  if choice big col s = 1#1 then col (clip1 s.1).toNat else col (clip1 s.2).toNat

theorem clip1_lt (v : BitVec 32) : (clip1 v).toNat < 128 := by
  have h : clip1 v = IntOp.minsi 127#32 (IntOp.maxsi 0#32 v) := rfl
  rw [h]
  simp only [IntOp.minsi, IntOp.maxsi]
  split <;> split <;> simp_all [BitVec.slt, BitVec.toInt] <;> omega

/-- The clipped pointer is the pointer itself at a row. -/
theorem clip1_of_lt {v : BitVec 32} (h : v.toNat < 128) : clip1 v = v := by
  have hc : clip1 v = IntOp.minsi 127#32 (IntOp.maxsi 0#32 v) := rfl
  rw [hc]
  apply BitVec.eq_of_toNat_eq
  simp only [IntOp.minsi, IntOp.maxsi]
  split <;> split <;> simp_all [BitVec.slt, BitVec.toInt] <;> omega

/-! ## Places of the scratch and of the arrays -/

/-- Row `r`, column `c` of a scratch. -/
def ix (r c : ℕ) : S128x256.Idx := fun
  | 0 => ⟨r % 128, Nat.mod_lt _ (by decide)⟩
  | 1 => ⟨c % 256, Nat.mod_lt _ (by decide)⟩
/-- Column `c` of the counts' scratch. -/
def ixk (c : ℕ) : S256.Idx := fun | 0 => ⟨c % 256, Nat.mod_lt _ (by decide)⟩
/-- Row `r`, column `c` of `t`. -/
def ixT (r c : ℕ) : S128x16384.Idx := fun
  | 0 => ⟨r % 128, Nat.mod_lt _ (by decide)⟩
  | 1 => ⟨c % 16384, Nat.mod_lt _ (by decide)⟩
/-- Ray `c` of the counts. -/
def ixK (c : ℕ) : S16384.Idx := fun | 0 => ⟨c % 16384, Nat.mod_lt _ (by decide)⟩

/-- Every column of a scratch merged. -/
def mergedV (big : F .f32) (f5 : Vec F S128x256 .f32) (f7 : Vec F S256 .i32) : Vec F S128x256 .f32 :=
  fun j => pick big (fun r => f5 (ix r (j 1).val)) (f7 (ixk (j 1).val)) (j 0).val
/-- Every column of `t` merged. -/
def mergedT (big : F .f32) (t : Vec F S128x16384 .f32) (k : Vec F S16384 .i32) : Vec F S128x16384 .f32 :=
  fun j => pick big (fun r => t (ixT r (j 1).val)) (k (ixK (j 1).val)) (j 0).val

end Cert.Proof.Merge

end
-- ==== Proof.Payload.lean ====
/-
  The three TensorCore bodies as loads, a value computed from what was read, and stores: each stored value named as a
  function of the values loaded.
-/
module

public import proofs.«01_k».proof.Proof.Setup

@[expose] public section

set_option synthInstance.maxSize 4096

noncomputable section

namespace Cert.Proof.Merge

open Cert.KernelIdeal Cert.KernelIdeal.Gen
open Idealize.ShloMosaic Idealize.SL.Sem

variable {F : FTy → Type} [FloatOps F] [Named F]

/-! ## `cc0__tk_body` -/

/-- A value of the body, from the values read before it. -/
noncomputable def k0_pay1 (v0 : Vec F S8x2048 .f32) (v13 : Vec F S128x1 .f32) : FVec F S128x2048 .f32 :=
  have v1 : FVec F S8x2048 .f32 := shapeCast S8x2048 v0 shapeCasts_S8x2048_S8x2048 -- %1 = vector.shape_cast %0 : vector<8x2048xf32> to vector<8x2048xf32>  @ test_k:30
  have v2 : FVec F S3x2048 .f32 := extractStridedSlice S3x2048 ![0, 0] v1 slices_S8x2048_o0_0_S3x2048 -- %2 = vector.extract_strided_slice %1 offsets = [0, 0], sizes = [3, 2048], strides = [1, 1] : vector<8x2048xf32> to vector<3x2048xf32>  @ test_k:31
  have v3 : FVec F S3x2048 .f32 := extractStridedSlice S3x2048 ![3, 0] v1 slices_S8x2048_o3_0_S3x2048 -- %3 = vector.extract_strided_slice %1 offsets = [3, 0], sizes = [3, 2048], strides = [1, 1] : vector<8x2048xf32> to vector<3x2048xf32>  @ test_k:32
  have v4 : FVec F S3x2048 .f32 := mulf v2 v3                           -- %4 = arith.mulf %2, %3 : vector<3x2048xf32>  @ test_k:33
  have v5 : FVec F S2048 .f32 := multiReduction .add [0] S2048 v4 0x00000000#32 reduces_S3x2048_S2048 (.inl rfl) rfl -- %5 = vector.multi_reduction <add>, %4, %cst [0] : vector<3x2048xf32> to vector<2048xf32>  @ test_k:33
  have v6 : FVec F S1x2048 .f32 := shapeCast S1x2048 v5 shapeCasts_S2048_S1x2048 -- %6 = vector.shape_cast %5 : vector<2048xf32> to vector<1x2048xf32>  @ test_k:33
  have v7 : FVec F S3x2048 .f32 := mulf v3 v3                           -- %7 = arith.mulf %3, %3 : vector<3x2048xf32>  @ test_k:33
  have v8 : FVec F S2048 .f32 := multiReduction .add [0] S2048 v7 0x00000000#32 reduces_S3x2048_S2048 (.inl rfl) rfl -- %8 = vector.multi_reduction <add>, %7, %cst_1 [0] : vector<3x2048xf32> to vector<2048xf32>  @ test_k:33
  have v9 : FVec F S1x2048 .f32 := shapeCast S1x2048 v8 shapeCasts_S2048_S1x2048 -- %9 = vector.shape_cast %8 : vector<2048xf32> to vector<1x2048xf32>  @ test_k:33
  have v10 : FVec F S3x2048 .f32 := mulf v2 v2                          -- %10 = arith.mulf %2, %2 : vector<3x2048xf32>  @ test_k:33
  have v11 : FVec F S2048 .f32 := multiReduction .add [0] S2048 v10 0x00000000#32 reduces_S3x2048_S2048 (.inl rfl) rfl -- %11 = vector.multi_reduction <add>, %10, %cst_2 [0] : vector<3x2048xf32> to vector<2048xf32>  @ test_k:33
  have v12 : FVec F S1x2048 .f32 := shapeCast S1x2048 v11 shapeCasts_S2048_S1x2048 -- %12 = vector.shape_cast %11 : vector<2048xf32> to vector<1x2048xf32>  @ test_k:33
  have v14 : FVec F S128x1 .f32 := shapeCast S128x1 v13 shapeCasts_S128x1_S128x1 -- %14 = vector.shape_cast %13 : vector<128x1xf32> to vector<128x1xf32>  @ test_k:36
  have v15 : FVec F S1x2048 .f32 := mulf v6 v6                          -- %15 = arith.mulf %6, %6 : vector<1x2048xf32>  @ test_k:37
  have v16 : FVec F S128x1 .f32 := mulf v14 v14                         -- %16 = arith.mulf %14, %14 : vector<128x1xf32>  @ test_k:37
  have v17 : FVec F S128x2048 .f32 := broadcastTo S128x2048 v12 broadcasts_S1x2048_S128x2048 -- %17 = vector.broadcast %12 : vector<1x2048xf32> to vector<128x2048xf32>  @ test_k:37
  have v18 : FVec F S128x2048 .f32 := broadcastTo S128x2048 v16 broadcasts_S128x1_S128x2048 -- %18 = vector.broadcast %16 : vector<128x1xf32> to vector<128x2048xf32>  @ test_k:37
  have v19 : FVec F S128x2048 .f32 := subf v17 v18                      -- %19 = arith.subf %17, %18 : vector<128x2048xf32>  @ test_k:37
  have v20 : FVec F S128x2048 .f32 := broadcastTo S128x2048 v9 broadcasts_S1x2048_S128x2048 -- %20 = vector.broadcast %9 : vector<1x2048xf32> to vector<128x2048xf32>  @ test_k:37
  have v21 : FVec F S128x2048 .f32 := mulf v20 v19                      -- %21 = arith.mulf %20, %19 : vector<128x2048xf32>  @ test_k:37
  have v22 : FVec F S128x2048 .f32 := broadcastTo S128x2048 v15 broadcasts_S1x2048_S128x2048 -- %22 = vector.broadcast %15 : vector<1x2048xf32> to vector<128x2048xf32>  @ test_k:37
  have v23 : FVec F S128x2048 .f32 := subf v22 v21                      -- %23 = arith.subf %22, %21 : vector<128x2048xf32>  @ test_k:37
  have cst_5 : F .f32 := Scalar.ofBits .f32 0x00000000#32               -- %cst_5 = arith.constant 0.000000e+00 : f32
  have v24 : FVec F S128x2048 .f32 := broadcast S128x2048 cst_5         -- %24 = vector.broadcast %cst_5 : f32 to vector<128x2048xf32>  @ test_k:38
  have v25 : FVec F S128x2048 .f32 := maximumf v23 v24                  -- %25 = arith.maximumf %23, %24 : vector<128x2048xf32>  @ test_k:38
  have cst_6 : F .f32 := Scalar.ofBits .f32 0x00000000#32               -- %cst_6 = arith.constant 0.000000e+00 : f32
  have v26 : FVec F S1x2048 .f32 := broadcast S1x2048 cst_6             -- %26 = vector.broadcast %cst_6 : f32 to vector<1x2048xf32>  @ test_k:39
  have v27 : FVec F S1x2048 .f32 := subf v26 v6                         -- %27 = arith.subf %26, %6 : vector<1x2048xf32>  @ test_k:39
  have v28 : FVec F S128x2048 .f32 := sqrt v25                          -- %28 = math.sqrt %25 : vector<128x2048xf32>  @ test_k:39
  have v29 : FVec F S128x2048 .f32 := broadcastTo S128x2048 v27 broadcasts_S1x2048_S128x2048 -- %29 = vector.broadcast %27 : vector<1x2048xf32> to vector<128x2048xf32>  @ test_k:39
  have v30 : FVec F S128x2048 .f32 := addf v29 v28                      -- %30 = arith.addf %29, %28 : vector<128x2048xf32>  @ test_k:39
  have v31 : FVec F S128x2048 .f32 := broadcastTo S128x2048 v9 broadcasts_S1x2048_S128x2048 -- %31 = vector.broadcast %9 : vector<1x2048xf32> to vector<128x2048xf32>  @ test_k:39
  have v32 : FVec F S128x2048 .f32 := divf v30 v31                      -- %32 = arith.divf %30, %31 : vector<128x2048xf32>  @ test_k:39
  v32

/-- A value of the body, from the values read before it. -/
noncomputable def k0_pay2 (v0 : Vec F S8x2048 .f32) (v13 : Vec F S128x1 .f32) : IVec S1x1x2048 32 :=
  have cst_9 : F .f32 := Scalar.ofBits .f32 0x00000000#32               -- %cst_9 = arith.constant 0.000000e+00 : f32
  have v34 : FVec F S128x2048 .f32 := broadcast S128x2048 cst_9         -- %34 = vector.broadcast %cst_9 : f32 to vector<128x2048xf32>  @ test_k:41
  have v35 : IVec S128x2048 1 := cmpf .ogt (k0_pay1 v0 v13) v34         -- %35 = arith.cmpf ogt, %32, %34 : vector<128x2048xf32>  @ test_k:41
  have v36 : IVec S128x2048 32 := extui 32 v35 natLt_1_32               -- %36 = arith.extui %35 : vector<128x2048xi1> to vector<128x2048xi32>  @ test_k:41
  have v37 : IVec S2048 32 := multiReductionI .add [0] S2048 v36 0#32 reduces_S128x2048_S2048 rfl -- %37 = vector.multi_reduction <add>, %36, %cst_10 [0] : vector<128x2048xi32> to vector<2048xi32>  @ test_k:41
  have v38 : IVec S1x1x2048 32 := shapeCast S1x1x2048 v37 shapeCasts_S2048_S1x1x2048 -- %38 = vector.shape_cast %37 : vector<2048xi32> to vector<1x1x2048xi32>  @ test_k:42
  v38

/-- The body, or a stretch of it, over the named values. -/
noncomputable def cc0__tk_body_skel (i : grid0.Coords) (arg1 : Memref sig .tc .vmem S8x2048 .f32) (harg1 : arg1.IsWhole) (arg2 : Memref sig .tc .vmem S128x1 .f32) (harg2 : arg2.IsWhole) (arg3 : Memref sig .tc .vmem S128x2048 .f32) (harg3 : arg3.IsWhole) (arg4 : Memref sig .tc .vmem S1x1x2048 .i32) (harg4 : arg4.IsWhole) :
    Prog (TpuEff nD τ sig (Elt F) Λ₀ .tc) PUnit := do
  -- %arg0: i32, grid coordinate 0  — not in the skeleton
  let v0 : Vec F S8x2048 .f32 ← Prog.lift (.load arg1 (Rect.unit (s := S8x2048) ![0, 0] S8x2048.size inb_S8x2048_S8x2048_0_0).toLoadRect (View.loadsAt_vmem h_S8x2048)) -- %0 = vector.load %arg1[%c0, %c0_0] : memref<8x2048xf32, #tpu.memory_space<vmem>>, vector<8x2048xf32>  @ test_k:30
  -- %cst = arith.constant dense<0.000000e+00> : vector<2048xf32>  — not in the skeleton
  -- %cst_1 = arith.constant dense<0.000000e+00> : vector<2048xf32>  — not in the skeleton
  -- %cst_2 = arith.constant dense<0.000000e+00> : vector<2048xf32>  — not in the skeleton
  let v13 : Vec F S128x1 .f32 ← Prog.lift (.load arg2 (Rect.unit (s := S128x1) ![0, 0] S128x1.size inb_S128x1_S128x1_0_0).toLoadRect (View.loadsAt_vmem h_S128x1)) -- %13 = vector.load %arg2[%c0_3, %c0_4] : memref<128x1xf32, #tpu.memory_space<vmem>>, vector<128x1xf32>  @ test_k:36
  let v33 : Vec F S128x2048 .f32 ← Prog.lift (.load arg3 (Rect.unit (s := S128x2048) ![0, 0] S128x2048.size inb_S128x2048_S128x2048_0_0).toLoadRect (View.loadsAt_vmem h_S128x2048)) -- %33 = vector.load %arg3[%c0_7, %c0_8] : memref<128x2048xf32, #tpu.memory_space<vmem>>, vector<128x2048xf32>  @ test_k:40
  Prog.lift (.store arg3 (Rect.unit (s := S128x2048) ![0, 0] S128x2048.size inb_S128x2048_S128x2048_0_0) (k0_pay1 v0 v13) Finset.univ (View.stores_vmem_bits_univ h_S128x2048 rfl) (.inl rfl)) -- tpu.vector_store %arg3[%c0_7, %c0_8], %32 {strides = array<i32>} : memref<128x2048xf32, #tpu.memory_space<vmem>>, vector<128x2048xf32>,  @ test_k:40
  -- %cst_10 = arith.constant dense<0> : vector<2048xi32>  — not in the skeleton
  let v39 : Vec F S1x1x2048 .i32 ← Prog.lift (.load arg4 (Rect.unit (s := S1x1x2048) ![0, 0, 0] S1x1x2048.size inb_S1x1x2048_S1x1x2048_0_0_0).toLoadRect (View.loadsAt_vmem h_S1x1x2048)) -- %39 = vector.load %arg4[%c0_11, %c0_12, %c0_13] : memref<1x1x2048xi32, #tpu.memory_space<vmem>>, vector<1x1x2048xi32>  @ test_k:42
  Prog.lift (.store arg4 (Rect.unit (s := S1x1x2048) ![0, 0, 0] S1x1x2048.size inb_S1x1x2048_S1x1x2048_0_0_0) (k0_pay2 v0 v13) Finset.univ (View.stores_vmem_bits_univ h_S1x1x2048 rfl) (.inl rfl)) -- tpu.vector_store %arg4[%c0_11, %c0_12, %c0_13], %38 {strides = array<i32>} : memref<1x1x2048xi32, #tpu.memory_space<vmem>>, vector<1x1x2048xi32>,  @ test_k:42
  pure ⟨⟩                                                               -- func.return

set_option maxRecDepth 65536 in
/-- It is the kernel's own. -/
theorem cc0__tk_body_eq_skeleton : cc0__tk_body (F := F) = cc0__tk_body_skel (F := F) := rfl

/-! ## `cc1__codes_body` -/

/-- A value of the body, from the values read before it. -/
noncomputable def k1_pay1 (v0 : Vec F S16x128 .f32) : FVec F S16x128 .f32 :=
  have v1 : FVec F S16x128 .f32 := shapeCast S16x128 v0 shapeCasts_S16x128_S16x128 -- %1 = vector.shape_cast %0 : vector<16x128xf32> to vector<16x128xf32>  @ test_k:66
  have v2 : FVec F S16x128 .f32 := mulf v1 v1                           -- %2 = arith.mulf %1, %1 : vector<16x128xf32>  @ test_k:67
  have v3 : FVec F S128 .f32 := multiReduction .add [0] S128 v2 0x00000000#32 reduces_S16x128_S128 (.inl rfl) rfl -- %3 = vector.multi_reduction <add>, %2, %cst [0] : vector<16x128xf32> to vector<128xf32>  @ test_k:67
  have v4 : FVec F S1x128 .f32 := shapeCast S1x128 v3 shapeCasts_S128_S1x128 -- %4 = vector.shape_cast %3 : vector<128xf32> to vector<1x128xf32>  @ test_k:67
  have v5 : FVec F S1x128 .f32 := sqrt v4                               -- %5 = math.sqrt %4 : vector<1x128xf32>  @ test_k:67
  have cst_1 : F .f32 := Scalar.ofBits .f32 0x2B8CBCCC#32               -- %cst_1 = arith.constant 9.99999996E-13 : f32
  have v6 : FVec F S1x128 .f32 := broadcast S1x128 cst_1                -- %6 = vector.broadcast %cst_1 : f32 to vector<1x128xf32>  @ test_k:68
  have v7 : FVec F S1x128 .f32 := maximumf v5 v6                        -- %7 = arith.maximumf %5, %6 : vector<1x128xf32>  @ test_k:68
  have v8 : FVec F S16x128 .f32 := broadcastTo S16x128 v7 broadcasts_S1x128_S16x128 -- %8 = vector.broadcast %7 : vector<1x128xf32> to vector<16x128xf32>  @ test_k:68
  have v9 : FVec F S16x128 .f32 := divf v1 v8                           -- %9 = arith.divf %1, %8 : vector<16x128xf32>  @ test_k:68
  v9

/-- The body, or a stretch of it, over the named values. -/
noncomputable def cc1__codes_body_skel (arg0 : Memref sig .tc .vmem S16x128 .f32) (harg0 : arg0.IsWhole) (arg1 : Memref sig .tc .vmem S16x128 .f32) (harg1 : arg1.IsWhole) :
    Prog (TpuEff nD τ sig (Elt F) Λ₀ .tc) PUnit := do
  let v0 : Vec F S16x128 .f32 ← Prog.lift (.load arg0 (Rect.unit (s := S16x128) ![0, 0] S16x128.size inb_S16x128_S16x128_0_0).toLoadRect (View.loadsAt_vmem h_S16x128)) -- %0 = vector.load %arg0[%c0, %c0_0] : memref<16x128xf32, #tpu.memory_space<vmem>>, vector<16x128xf32>  @ test_k:66
  -- %cst = arith.constant dense<0.000000e+00> : vector<128xf32>  — not in the skeleton
  let v10 : Vec F S16x128 .f32 ← Prog.lift (.load arg1 (Rect.unit (s := S16x128) ![0, 0] S16x128.size inb_S16x128_S16x128_0_0).toLoadRect (View.loadsAt_vmem h_S16x128)) -- %10 = vector.load %arg1[%c0_2, %c0_3] : memref<16x128xf32, #tpu.memory_space<vmem>>, vector<16x128xf32>  @ test_k:68
  Prog.lift (.store arg1 (Rect.unit (s := S16x128) ![0, 0] S16x128.size inb_S16x128_S16x128_0_0) (k1_pay1 v0) Finset.univ (View.stores_vmem_bits_univ h_S16x128 rfl) (.inl rfl)) -- tpu.vector_store %arg1[%c0_2, %c0_3], %9 {strides = array<i32>} : memref<16x128xf32, #tpu.memory_space<vmem>>, vector<16x128xf32>,  @ test_k:68
  pure ⟨⟩                                                               -- func.return

set_option maxRecDepth 65536 in
/-- It is the kernel's own. -/
theorem cc1__codes_body_eq_skeleton : cc1__codes_body (F := F) = cc1__codes_body_skel (F := F) := rfl

/-! ## `cc3__assemble_body` -/

/-- A value of the body, from the values read before it. -/
noncomputable def k3_pay1 (v163 : FVec F S1024x128 .f32) : FVec F S1x1024x128 .f32 :=
  have v166 : FVec F S1x1024x128 .f32 := shapeCast S1x1024x128 v163 shapeCasts_S1024x128_S1x1024x128 -- %166 = vector.shape_cast %163 : vector<1024x128xf32> to vector<1x1024x128xf32>  @ test_k:154
  v166

/-- A value of the body, from the values read before it. -/
noncomputable def k3_pay2 (v2 : FVec F S1024x128 .f32) (v3 : Vec F S1024x8 .f32) : FVec F S1024x128 .f32 :=
  have v167 : FVec F S1024x3 .f32 := extractStridedSlice S1024x3 ![0, 3] v3 slices_S1024x8_o0_3_S1024x3 -- %167 = vector.extract_strided_slice %3 offsets = [0, 3], sizes = [1024, 3], strides = [1, 1] : vector<1024x8xf32> to vector<1024x3xf32>  @ test_k:155
  have v168 : FVec F S1024x3 .f32 := mulf v167 v167                     -- %168 = arith.mulf %167, %167 : vector<1024x3xf32>  @ test_k:156
  have v169 : FVec F S1024 .f32 := multiReduction .add [1] S1024 v168 0x00000000#32 reduces_S1024x3_S1024 (.inl rfl) rfl -- %169 = vector.multi_reduction <add>, %168, %cst [1] : vector<1024x3xf32> to vector<1024xf32>  @ test_k:156
  have v170 : FVec F S1024x1 .f32 := shapeCast S1024x1 v169 shapeCasts_S1024_S1024x1 -- %170 = vector.shape_cast %169 : vector<1024xf32> to vector<1024x1xf32>  @ test_k:156
  have v171 : FVec F S1024x128 .f32 := absf v2                          -- %171 = math.absf %2 : vector<1024x128xf32>  @ test_k:157
  have v172 : FVec F S1024x1 .f32 := sqrt v170                          -- %172 = math.sqrt %170 : vector<1024x1xf32>  @ test_k:157
  have v173 : FVec F S1024x128 .f32 := broadcastTo S1024x128 v172 broadcasts_S1024x1_S1024x128 -- %173 = vector.broadcast %172 : vector<1024x1xf32> to vector<1024x128xf32>  @ test_k:149
  have v174 : FVec F S1024x128 .f32 := mulf v171 v173                   -- %174 = arith.mulf %171, %173 : vector<1024x128xf32>  @ test_k:149
  v174

/-- A value of the body, from the values read before it. -/
noncomputable def k3_pay3 (v0 : Vec F S128x1024 .f32) : FVec F S1024x128 .f32 :=
  have v1 : FVec F S128x1024 .f32 := shapeCast S128x1024 v0 shapeCasts_S128x1024_S128x1024 -- %1 = vector.shape_cast %0 : vector<128x1024xf32> to vector<128x1024xf32>  @ test_k:144
  have v2 : FVec F S1024x128 .f32 := transpose S1024x128 [1, 0] v1 transposes_S128x1024_p1_0_S1024x128 -- %2 = tpu.transpose %1, [1, 0] : vector<128x1024xf32> -> vector<1024x128xf32>  @ test_k:144
  v2

/-- A value of the body, from the values read before it. -/
noncomputable def k3_pay4 (v3 : Vec F S1024x8 .f32) : FVec F S1024x1 .f32 :=
  have v5 : FVec F S1024x1 .f32 := extractStridedSlice S1024x1 ![0, 3] v3 slices_S1024x8_o0_3_S1024x1 -- %5 = vector.extract_strided_slice %3 offsets = [0, 3], sizes = [1024, 1], strides = [1, 1] : vector<1024x8xf32> to vector<1024x1xf32>  @ test_k:148
  v5

/-- A value of the body, from the values read before it. -/
noncomputable def k3_pay5 (v0 : Vec F S128x1024 .f32) (v3 : Vec F S1024x8 .f32) : FVec F S1024x128 .f32 :=
  have v4 : FVec F S1024x1 .f32 := extractStridedSlice S1024x1 ![0, 0] v3 slices_S1024x8_o0_0_S1024x1 -- %4 = vector.extract_strided_slice %3 offsets = [0, 0], sizes = [1024, 1], strides = [1, 1] : vector<1024x8xf32> to vector<1024x1xf32>  @ test_k:147
  have v6 : FVec F S1024x128 .f32 := broadcastTo S1024x128 (k3_pay4 v3) broadcasts_S1024x1_S1024x128 -- %6 = vector.broadcast %5 : vector<1024x1xf32> to vector<1024x128xf32>  @ test_k:149
  have v7 : FVec F S1024x128 .f32 := mulf (k3_pay3 v0) v6               -- %7 = arith.mulf %2, %6 : vector<1024x128xf32>  @ test_k:149
  have v8 : FVec F S1024x128 .f32 := broadcastTo S1024x128 v4 broadcasts_S1024x1_S1024x128 -- %8 = vector.broadcast %4 : vector<1024x1xf32> to vector<1024x128xf32>  @ test_k:149
  have v9 : FVec F S1024x128 .f32 := addf v8 v7                         -- %9 = arith.addf %8, %7 : vector<1024x128xf32>  @ test_k:149
  v9

/-- A value of the body, from the values read before it. -/
noncomputable def k3_pay6 (v0 : Vec F S128x1024 .f32) (v3 : Vec F S1024x8 .f32) : FVec F S1x1024x128 .f32 :=
  have v12 : FVec F S1x1024x128 .f32 := shapeCast S1x1024x128 (k3_pay5 v0 v3) shapeCasts_S1024x128_S1x1024x128 -- %12 = vector.shape_cast %9 : vector<1024x128xf32> to vector<1x1024x128xf32>  @ test_k:150
  v12

/-- A value of the body, from the values read before it. -/
noncomputable def k3_pay7 (v0 : Vec F S128x1024 .f32) (v3 : Vec F S1024x8 .f32) : FVec F S1x1024x128 .f32 :=
  have v15 : FVec F S1x1024x128 .f32 := shapeCast S1x1024x128 (k3_pay5 v0 v3) shapeCasts_S1024x128_S1x1024x128 -- %15 = vector.shape_cast %9 : vector<1024x128xf32> to vector<1x1024x128xf32>  @ test_k:151
  v15

/-- A value of the body, from the values read before it. -/
noncomputable def k3_pay8 (v3 : Vec F S1024x8 .f32) : FVec F S1x1024x128 .f32 :=
  have v16 : FVec F S1024x1 .f32 := shapeCast S1024x1 (k3_pay4 v3) shapeCasts_S1024x1_S1024x1 -- %16 = vector.shape_cast %5 : vector<1024x1xf32> to vector<1024x1xf32>  @ test_k:152
  have v17 : FVec F S1024x128 .f32 := broadcastTo S1024x128 v16 broadcasts_S1024x1_S1024x128 -- %17 = vector.broadcast %16 : vector<1024x1xf32> to vector<1024x128xf32>  @ test_k:152
  have v20 : FVec F S1x1024x128 .f32 := shapeCast S1x1024x128 v17 shapeCasts_S1024x128_S1x1024x128 -- %20 = vector.shape_cast %17 : vector<1024x128xf32> to vector<1x1024x128xf32>  @ test_k:152
  v20

/-- A value of the body, from the values read before it. -/
noncomputable def k3_pay9 (v3 : Vec F S1024x8 .f32) : FVec F S1024x1 .f32 :=
  have v22 : FVec F S1024x1 .f32 := extractStridedSlice S1024x1 ![0, 4] v3 slices_S1024x8_o0_4_S1024x1 -- %22 = vector.extract_strided_slice %3 offsets = [0, 4], sizes = [1024, 1], strides = [1, 1] : vector<1024x8xf32> to vector<1024x1xf32>  @ test_k:148
  v22

/-- A value of the body, from the values read before it. -/
noncomputable def k3_pay10 (v0 : Vec F S128x1024 .f32) (v3 : Vec F S1024x8 .f32) : FVec F S1024x128 .f32 :=
  have v21 : FVec F S1024x1 .f32 := extractStridedSlice S1024x1 ![0, 1] v3 slices_S1024x8_o0_1_S1024x1 -- %21 = vector.extract_strided_slice %3 offsets = [0, 1], sizes = [1024, 1], strides = [1, 1] : vector<1024x8xf32> to vector<1024x1xf32>  @ test_k:147
  have v23 : FVec F S1024x128 .f32 := broadcastTo S1024x128 (k3_pay9 v3) broadcasts_S1024x1_S1024x128 -- %23 = vector.broadcast %22 : vector<1024x1xf32> to vector<1024x128xf32>  @ test_k:149
  have v24 : FVec F S1024x128 .f32 := mulf (k3_pay3 v0) v23             -- %24 = arith.mulf %2, %23 : vector<1024x128xf32>  @ test_k:149
  have v25 : FVec F S1024x128 .f32 := broadcastTo S1024x128 v21 broadcasts_S1024x1_S1024x128 -- %25 = vector.broadcast %21 : vector<1024x1xf32> to vector<1024x128xf32>  @ test_k:149
  have v26 : FVec F S1024x128 .f32 := addf v25 v24                      -- %26 = arith.addf %25, %24 : vector<1024x128xf32>  @ test_k:149
  v26

/-- A value of the body, from the values read before it. -/
noncomputable def k3_pay11 (v0 : Vec F S128x1024 .f32) (v3 : Vec F S1024x8 .f32) : FVec F S1x1024x128 .f32 :=
  have v29 : FVec F S1x1024x128 .f32 := shapeCast S1x1024x128 (k3_pay10 v0 v3) shapeCasts_S1024x128_S1x1024x128 -- %29 = vector.shape_cast %26 : vector<1024x128xf32> to vector<1x1024x128xf32>  @ test_k:150
  v29

/-- A value of the body, from the values read before it. -/
noncomputable def k3_pay12 (v0 : Vec F S128x1024 .f32) (v3 : Vec F S1024x8 .f32) : FVec F S1x1024x128 .f32 :=
  have v32 : FVec F S1x1024x128 .f32 := shapeCast S1x1024x128 (k3_pay10 v0 v3) shapeCasts_S1024x128_S1x1024x128 -- %32 = vector.shape_cast %26 : vector<1024x128xf32> to vector<1x1024x128xf32>  @ test_k:151
  v32

/-- A value of the body, from the values read before it. -/
noncomputable def k3_pay13 (v3 : Vec F S1024x8 .f32) : FVec F S1024x128 .f32 :=
  have v33 : FVec F S1024x1 .f32 := shapeCast S1024x1 (k3_pay9 v3) shapeCasts_S1024x1_S1024x1 -- %33 = vector.shape_cast %22 : vector<1024x1xf32> to vector<1024x1xf32>  @ test_k:152
  have v34 : FVec F S1024x128 .f32 := broadcastTo S1024x128 v33 broadcasts_S1024x1_S1024x128 -- %34 = vector.broadcast %33 : vector<1024x1xf32> to vector<1024x128xf32>  @ test_k:152
  v34

/-- A value of the body, from the values read before it. -/
noncomputable def k3_pay14 (v34 : FVec F S1024x128 .f32) : FVec F S1x1024x128 .f32 :=
  have v37 : FVec F S1x1024x128 .f32 := shapeCast S1x1024x128 v34 shapeCasts_S1024x128_S1x1024x128 -- %37 = vector.shape_cast %34 : vector<1024x128xf32> to vector<1x1024x128xf32>  @ test_k:152
  v37

/-- A value of the body, from the values read before it. -/
noncomputable def k3_pay15 (v3 : Vec F S1024x8 .f32) : FVec F S1024x1 .f32 :=
  have v39 : FVec F S1024x1 .f32 := extractStridedSlice S1024x1 ![0, 5] v3 slices_S1024x8_o0_5_S1024x1 -- %39 = vector.extract_strided_slice %3 offsets = [0, 5], sizes = [1024, 1], strides = [1, 1] : vector<1024x8xf32> to vector<1024x1xf32>  @ test_k:148
  v39

/-- A value of the body, from the values read before it. -/
noncomputable def k3_pay16 (v2 : FVec F S1024x128 .f32) (v3 : Vec F S1024x8 .f32) : FVec F S1024x128 .f32 :=
  have v38 : FVec F S1024x1 .f32 := extractStridedSlice S1024x1 ![0, 2] v3 slices_S1024x8_o0_2_S1024x1 -- %38 = vector.extract_strided_slice %3 offsets = [0, 2], sizes = [1024, 1], strides = [1, 1] : vector<1024x8xf32> to vector<1024x1xf32>  @ test_k:147
  have v40 : FVec F S1024x128 .f32 := broadcastTo S1024x128 (k3_pay15 v3) broadcasts_S1024x1_S1024x128 -- %40 = vector.broadcast %39 : vector<1024x1xf32> to vector<1024x128xf32>  @ test_k:149
  have v41 : FVec F S1024x128 .f32 := mulf v2 v40                       -- %41 = arith.mulf %2, %40 : vector<1024x128xf32>  @ test_k:149
  have v42 : FVec F S1024x128 .f32 := broadcastTo S1024x128 v38 broadcasts_S1024x1_S1024x128 -- %42 = vector.broadcast %38 : vector<1024x1xf32> to vector<1024x128xf32>  @ test_k:149
  have v43 : FVec F S1024x128 .f32 := addf v42 v41                      -- %43 = arith.addf %42, %41 : vector<1024x128xf32>  @ test_k:149
  v43

/-- A value of the body, from the values read before it. -/
noncomputable def k3_pay17 (v2 : FVec F S1024x128 .f32) (v3 : Vec F S1024x8 .f32) : FVec F S1x1024x128 .f32 :=
  have v46 : FVec F S1x1024x128 .f32 := shapeCast S1x1024x128 (k3_pay16 v2 v3) shapeCasts_S1024x128_S1x1024x128 -- %46 = vector.shape_cast %43 : vector<1024x128xf32> to vector<1x1024x128xf32>  @ test_k:150
  v46

/-- A value of the body, from the values read before it. -/
noncomputable def k3_pay18 (v2 : FVec F S1024x128 .f32) (v3 : Vec F S1024x8 .f32) : FVec F S1x1024x128 .f32 :=
  have v49 : FVec F S1x1024x128 .f32 := shapeCast S1x1024x128 (k3_pay16 v2 v3) shapeCasts_S1024x128_S1x1024x128 -- %49 = vector.shape_cast %43 : vector<1024x128xf32> to vector<1x1024x128xf32>  @ test_k:151
  v49

/-- A value of the body, from the values read before it. -/
noncomputable def k3_pay19 (v3 : Vec F S1024x8 .f32) : FVec F S1x1024x128 .f32 :=
  have v50 : FVec F S1024x1 .f32 := shapeCast S1024x1 (k3_pay15 v3) shapeCasts_S1024x1_S1024x1 -- %50 = vector.shape_cast %39 : vector<1024x1xf32> to vector<1024x1xf32>  @ test_k:152
  have v51 : FVec F S1024x128 .f32 := broadcastTo S1024x128 v50 broadcasts_S1024x1_S1024x128 -- %51 = vector.broadcast %50 : vector<1024x1xf32> to vector<1024x128xf32>  @ test_k:152
  have v54 : FVec F S1x1024x128 .f32 := shapeCast S1x1024x128 v51 shapeCasts_S1024x128_S1x1024x128 -- %54 = vector.shape_cast %51 : vector<1024x128xf32> to vector<1x1024x128xf32>  @ test_k:152
  v54

/-- A value of the body, from the values read before it. -/
noncomputable def k3_pay20 (v55 : Vec F S1x128 .f32) : FVec F S1x1024x128 .f32 :=
  have v56 : FVec F S1x128 .f32 := shapeCast S1x128 v55 shapeCasts_S1x128_S1x128 -- %56 = vector.shape_cast %55 : vector<1x128xf32> to vector<1x128xf32>  @ test_k:154
  have v57 : FVec F S1x128 .f32 := shapeCast S1x128 v56 shapeCasts_S1x128_S1x128 -- %57 = vector.shape_cast %56 : vector<1x128xf32> to vector<1x128xf32>  @ test_k:154
  have v58 : FVec F S1024x128 .f32 := broadcastTo S1024x128 v57 broadcasts_S1x128_S1024x128 -- %58 = vector.broadcast %57 : vector<1x128xf32> to vector<1024x128xf32>  @ test_k:154
  have v61 : FVec F S1x1024x128 .f32 := shapeCast S1x1024x128 v58 shapeCasts_S1024x128_S1x1024x128 -- %61 = vector.shape_cast %58 : vector<1024x128xf32> to vector<1x1024x128xf32>  @ test_k:154
  v61

/-- A value of the body, from the values read before it. -/
noncomputable def k3_pay21 (v62 : Vec F S1x128 .f32) : FVec F S1024x128 .f32 :=
  have v63 : FVec F S1x128 .f32 := shapeCast S1x128 v62 shapeCasts_S1x128_S1x128 -- %63 = vector.shape_cast %62 : vector<1x128xf32> to vector<1x128xf32>  @ test_k:154
  have v64 : FVec F S1x128 .f32 := shapeCast S1x128 v63 shapeCasts_S1x128_S1x128 -- %64 = vector.shape_cast %63 : vector<1x128xf32> to vector<1x128xf32>  @ test_k:154
  have v65 : FVec F S1024x128 .f32 := broadcastTo S1024x128 v64 broadcasts_S1x128_S1024x128 -- %65 = vector.broadcast %64 : vector<1x128xf32> to vector<1024x128xf32>  @ test_k:154
  v65

/-- A value of the body, from the values read before it. -/
noncomputable def k3_pay22 (v65 : FVec F S1024x128 .f32) : FVec F S1x1024x128 .f32 :=
  have v68 : FVec F S1x1024x128 .f32 := shapeCast S1x1024x128 v65 shapeCasts_S1024x128_S1x1024x128 -- %68 = vector.shape_cast %65 : vector<1024x128xf32> to vector<1x1024x128xf32>  @ test_k:154
  v68

/-- A value of the body, from the values read before it. -/
noncomputable def k3_pay23 (v69 : Vec F S1x128 .f32) : FVec F S1x1024x128 .f32 :=
  have v70 : FVec F S1x128 .f32 := shapeCast S1x128 v69 shapeCasts_S1x128_S1x128 -- %70 = vector.shape_cast %69 : vector<1x128xf32> to vector<1x128xf32>  @ test_k:154
  have v71 : FVec F S1x128 .f32 := shapeCast S1x128 v70 shapeCasts_S1x128_S1x128 -- %71 = vector.shape_cast %70 : vector<1x128xf32> to vector<1x128xf32>  @ test_k:154
  have v72 : FVec F S1024x128 .f32 := broadcastTo S1024x128 v71 broadcasts_S1x128_S1024x128 -- %72 = vector.broadcast %71 : vector<1x128xf32> to vector<1024x128xf32>  @ test_k:154
  have v75 : FVec F S1x1024x128 .f32 := shapeCast S1x1024x128 v72 shapeCasts_S1024x128_S1x1024x128 -- %75 = vector.shape_cast %72 : vector<1024x128xf32> to vector<1x1024x128xf32>  @ test_k:154
  v75

/-- A value of the body, from the values read before it. -/
noncomputable def k3_pay24 (v76 : Vec F S1x128 .f32) : FVec F S1x1024x128 .f32 :=
  have v77 : FVec F S1x128 .f32 := shapeCast S1x128 v76 shapeCasts_S1x128_S1x128 -- %77 = vector.shape_cast %76 : vector<1x128xf32> to vector<1x128xf32>  @ test_k:154
  have v78 : FVec F S1x128 .f32 := shapeCast S1x128 v77 shapeCasts_S1x128_S1x128 -- %78 = vector.shape_cast %77 : vector<1x128xf32> to vector<1x128xf32>  @ test_k:154
  have v79 : FVec F S1024x128 .f32 := broadcastTo S1024x128 v78 broadcasts_S1x128_S1024x128 -- %79 = vector.broadcast %78 : vector<1x128xf32> to vector<1024x128xf32>  @ test_k:154
  have v82 : FVec F S1x1024x128 .f32 := shapeCast S1x1024x128 v79 shapeCasts_S1024x128_S1x1024x128 -- %82 = vector.shape_cast %79 : vector<1024x128xf32> to vector<1x1024x128xf32>  @ test_k:154
  v82

/-- A value of the body, from the values read before it. -/
noncomputable def k3_pay25 (v83 : Vec F S1x128 .f32) : FVec F S1x1024x128 .f32 :=
  have v84 : FVec F S1x128 .f32 := shapeCast S1x128 v83 shapeCasts_S1x128_S1x128 -- %84 = vector.shape_cast %83 : vector<1x128xf32> to vector<1x128xf32>  @ test_k:154
  have v85 : FVec F S1x128 .f32 := shapeCast S1x128 v84 shapeCasts_S1x128_S1x128 -- %85 = vector.shape_cast %84 : vector<1x128xf32> to vector<1x128xf32>  @ test_k:154
  have v86 : FVec F S1024x128 .f32 := broadcastTo S1024x128 v85 broadcasts_S1x128_S1024x128 -- %86 = vector.broadcast %85 : vector<1x128xf32> to vector<1024x128xf32>  @ test_k:154
  have v89 : FVec F S1x1024x128 .f32 := shapeCast S1x1024x128 v86 shapeCasts_S1024x128_S1x1024x128 -- %89 = vector.shape_cast %86 : vector<1024x128xf32> to vector<1x1024x128xf32>  @ test_k:154
  v89

/-- A value of the body, from the values read before it. -/
noncomputable def k3_pay26 (v90 : Vec F S1x128 .f32) : FVec F S1x1024x128 .f32 :=
  have v91 : FVec F S1x128 .f32 := shapeCast S1x128 v90 shapeCasts_S1x128_S1x128 -- %91 = vector.shape_cast %90 : vector<1x128xf32> to vector<1x128xf32>  @ test_k:154
  have v92 : FVec F S1x128 .f32 := shapeCast S1x128 v91 shapeCasts_S1x128_S1x128 -- %92 = vector.shape_cast %91 : vector<1x128xf32> to vector<1x128xf32>  @ test_k:154
  have v93 : FVec F S1024x128 .f32 := broadcastTo S1024x128 v92 broadcasts_S1x128_S1024x128 -- %93 = vector.broadcast %92 : vector<1x128xf32> to vector<1024x128xf32>  @ test_k:154
  have v96 : FVec F S1x1024x128 .f32 := shapeCast S1x1024x128 v93 shapeCasts_S1024x128_S1x1024x128 -- %96 = vector.shape_cast %93 : vector<1024x128xf32> to vector<1x1024x128xf32>  @ test_k:154
  v96

/-- A value of the body, from the values read before it. -/
noncomputable def k3_pay27 (v97 : Vec F S1x128 .f32) : FVec F S1024x128 .f32 :=
  have v98 : FVec F S1x128 .f32 := shapeCast S1x128 v97 shapeCasts_S1x128_S1x128 -- %98 = vector.shape_cast %97 : vector<1x128xf32> to vector<1x128xf32>  @ test_k:154
  have v99 : FVec F S1x128 .f32 := shapeCast S1x128 v98 shapeCasts_S1x128_S1x128 -- %99 = vector.shape_cast %98 : vector<1x128xf32> to vector<1x128xf32>  @ test_k:154
  have v100 : FVec F S1024x128 .f32 := broadcastTo S1024x128 v99 broadcasts_S1x128_S1024x128 -- %100 = vector.broadcast %99 : vector<1x128xf32> to vector<1024x128xf32>  @ test_k:154
  v100

/-- A value of the body, from the values read before it. -/
noncomputable def k3_pay28 (v100 : FVec F S1024x128 .f32) : FVec F S1x1024x128 .f32 :=
  have v103 : FVec F S1x1024x128 .f32 := shapeCast S1x1024x128 v100 shapeCasts_S1024x128_S1x1024x128 -- %103 = vector.shape_cast %100 : vector<1024x128xf32> to vector<1x1024x128xf32>  @ test_k:154
  v103

/-- A value of the body, from the values read before it. -/
noncomputable def k3_pay29 (v104 : Vec F S1x128 .f32) : FVec F S1x1024x128 .f32 :=
  have v105 : FVec F S1x128 .f32 := shapeCast S1x128 v104 shapeCasts_S1x128_S1x128 -- %105 = vector.shape_cast %104 : vector<1x128xf32> to vector<1x128xf32>  @ test_k:154
  have v106 : FVec F S1x128 .f32 := shapeCast S1x128 v105 shapeCasts_S1x128_S1x128 -- %106 = vector.shape_cast %105 : vector<1x128xf32> to vector<1x128xf32>  @ test_k:154
  have v107 : FVec F S1024x128 .f32 := broadcastTo S1024x128 v106 broadcasts_S1x128_S1024x128 -- %107 = vector.broadcast %106 : vector<1x128xf32> to vector<1024x128xf32>  @ test_k:154
  have v110 : FVec F S1x1024x128 .f32 := shapeCast S1x1024x128 v107 shapeCasts_S1024x128_S1x1024x128 -- %110 = vector.shape_cast %107 : vector<1024x128xf32> to vector<1x1024x128xf32>  @ test_k:154
  v110

/-- A value of the body, from the values read before it. -/
noncomputable def k3_pay30 (v111 : Vec F S1x128 .f32) : FVec F S1x1024x128 .f32 :=
  have v112 : FVec F S1x128 .f32 := shapeCast S1x128 v111 shapeCasts_S1x128_S1x128 -- %112 = vector.shape_cast %111 : vector<1x128xf32> to vector<1x128xf32>  @ test_k:154
  have v113 : FVec F S1x128 .f32 := shapeCast S1x128 v112 shapeCasts_S1x128_S1x128 -- %113 = vector.shape_cast %112 : vector<1x128xf32> to vector<1x128xf32>  @ test_k:154
  have v114 : FVec F S1024x128 .f32 := broadcastTo S1024x128 v113 broadcasts_S1x128_S1024x128 -- %114 = vector.broadcast %113 : vector<1x128xf32> to vector<1024x128xf32>  @ test_k:154
  have v117 : FVec F S1x1024x128 .f32 := shapeCast S1x1024x128 v114 shapeCasts_S1024x128_S1x1024x128 -- %117 = vector.shape_cast %114 : vector<1024x128xf32> to vector<1x1024x128xf32>  @ test_k:154
  v117

/-- A value of the body, from the values read before it. -/
noncomputable def k3_pay31 (v118 : Vec F S1x128 .f32) : FVec F S1x1024x128 .f32 :=
  have v119 : FVec F S1x128 .f32 := shapeCast S1x128 v118 shapeCasts_S1x128_S1x128 -- %119 = vector.shape_cast %118 : vector<1x128xf32> to vector<1x128xf32>  @ test_k:154
  have v120 : FVec F S1x128 .f32 := shapeCast S1x128 v119 shapeCasts_S1x128_S1x128 -- %120 = vector.shape_cast %119 : vector<1x128xf32> to vector<1x128xf32>  @ test_k:154
  have v121 : FVec F S1024x128 .f32 := broadcastTo S1024x128 v120 broadcasts_S1x128_S1024x128 -- %121 = vector.broadcast %120 : vector<1x128xf32> to vector<1024x128xf32>  @ test_k:154
  have v124 : FVec F S1x1024x128 .f32 := shapeCast S1x1024x128 v121 shapeCasts_S1024x128_S1x1024x128 -- %124 = vector.shape_cast %121 : vector<1024x128xf32> to vector<1x1024x128xf32>  @ test_k:154
  v124

/-- A value of the body, from the values read before it. -/
noncomputable def k3_pay32 (v125 : Vec F S1x128 .f32) : FVec F S1x1024x128 .f32 :=
  have v126 : FVec F S1x128 .f32 := shapeCast S1x128 v125 shapeCasts_S1x128_S1x128 -- %126 = vector.shape_cast %125 : vector<1x128xf32> to vector<1x128xf32>  @ test_k:154
  have v127 : FVec F S1x128 .f32 := shapeCast S1x128 v126 shapeCasts_S1x128_S1x128 -- %127 = vector.shape_cast %126 : vector<1x128xf32> to vector<1x128xf32>  @ test_k:154
  have v128 : FVec F S1024x128 .f32 := broadcastTo S1024x128 v127 broadcasts_S1x128_S1024x128 -- %128 = vector.broadcast %127 : vector<1x128xf32> to vector<1024x128xf32>  @ test_k:154
  have v131 : FVec F S1x1024x128 .f32 := shapeCast S1x1024x128 v128 shapeCasts_S1024x128_S1x1024x128 -- %131 = vector.shape_cast %128 : vector<1024x128xf32> to vector<1x1024x128xf32>  @ test_k:154
  v131

/-- A value of the body, from the values read before it. -/
noncomputable def k3_pay33 (v132 : Vec F S1x128 .f32) : FVec F S1x1024x128 .f32 :=
  have v133 : FVec F S1x128 .f32 := shapeCast S1x128 v132 shapeCasts_S1x128_S1x128 -- %133 = vector.shape_cast %132 : vector<1x128xf32> to vector<1x128xf32>  @ test_k:154
  have v134 : FVec F S1x128 .f32 := shapeCast S1x128 v133 shapeCasts_S1x128_S1x128 -- %134 = vector.shape_cast %133 : vector<1x128xf32> to vector<1x128xf32>  @ test_k:154
  have v135 : FVec F S1024x128 .f32 := broadcastTo S1024x128 v134 broadcasts_S1x128_S1024x128 -- %135 = vector.broadcast %134 : vector<1x128xf32> to vector<1024x128xf32>  @ test_k:154
  have v138 : FVec F S1x1024x128 .f32 := shapeCast S1x1024x128 v135 shapeCasts_S1024x128_S1x1024x128 -- %138 = vector.shape_cast %135 : vector<1024x128xf32> to vector<1x1024x128xf32>  @ test_k:154
  v138

/-- A value of the body, from the values read before it. -/
noncomputable def k3_pay34 (v139 : Vec F S1x128 .f32) : FVec F S1x1024x128 .f32 :=
  have v140 : FVec F S1x128 .f32 := shapeCast S1x128 v139 shapeCasts_S1x128_S1x128 -- %140 = vector.shape_cast %139 : vector<1x128xf32> to vector<1x128xf32>  @ test_k:154
  have v141 : FVec F S1x128 .f32 := shapeCast S1x128 v140 shapeCasts_S1x128_S1x128 -- %141 = vector.shape_cast %140 : vector<1x128xf32> to vector<1x128xf32>  @ test_k:154
  have v142 : FVec F S1024x128 .f32 := broadcastTo S1024x128 v141 broadcasts_S1x128_S1024x128 -- %142 = vector.broadcast %141 : vector<1x128xf32> to vector<1024x128xf32>  @ test_k:154
  have v145 : FVec F S1x1024x128 .f32 := shapeCast S1x1024x128 v142 shapeCasts_S1024x128_S1x1024x128 -- %145 = vector.shape_cast %142 : vector<1024x128xf32> to vector<1x1024x128xf32>  @ test_k:154
  v145

/-- A value of the body, from the values read before it. -/
noncomputable def k3_pay35 (v146 : Vec F S1x128 .f32) : FVec F S1x1024x128 .f32 :=
  have v147 : FVec F S1x128 .f32 := shapeCast S1x128 v146 shapeCasts_S1x128_S1x128 -- %147 = vector.shape_cast %146 : vector<1x128xf32> to vector<1x128xf32>  @ test_k:154
  have v148 : FVec F S1x128 .f32 := shapeCast S1x128 v147 shapeCasts_S1x128_S1x128 -- %148 = vector.shape_cast %147 : vector<1x128xf32> to vector<1x128xf32>  @ test_k:154
  have v149 : FVec F S1024x128 .f32 := broadcastTo S1024x128 v148 broadcasts_S1x128_S1024x128 -- %149 = vector.broadcast %148 : vector<1x128xf32> to vector<1024x128xf32>  @ test_k:154
  have v152 : FVec F S1x1024x128 .f32 := shapeCast S1x1024x128 v149 shapeCasts_S1024x128_S1x1024x128 -- %152 = vector.shape_cast %149 : vector<1024x128xf32> to vector<1x1024x128xf32>  @ test_k:154
  v152

/-- A value of the body, from the values read before it. -/
noncomputable def k3_pay36 (v153 : Vec F S1x128 .f32) : FVec F S1x1024x128 .f32 :=
  have v154 : FVec F S1x128 .f32 := shapeCast S1x128 v153 shapeCasts_S1x128_S1x128 -- %154 = vector.shape_cast %153 : vector<1x128xf32> to vector<1x128xf32>  @ test_k:154
  have v155 : FVec F S1x128 .f32 := shapeCast S1x128 v154 shapeCasts_S1x128_S1x128 -- %155 = vector.shape_cast %154 : vector<1x128xf32> to vector<1x128xf32>  @ test_k:154
  have v156 : FVec F S1024x128 .f32 := broadcastTo S1024x128 v155 broadcasts_S1x128_S1024x128 -- %156 = vector.broadcast %155 : vector<1x128xf32> to vector<1024x128xf32>  @ test_k:154
  have v159 : FVec F S1x1024x128 .f32 := shapeCast S1x1024x128 v156 shapeCasts_S1024x128_S1x1024x128 -- %159 = vector.shape_cast %156 : vector<1024x128xf32> to vector<1x1024x128xf32>  @ test_k:154
  v159

/-- A value of the body, from the values read before it. -/
noncomputable def k3_pay37 (v160 : Vec F S1x128 .f32) : FVec F S1024x128 .f32 :=
  have v161 : FVec F S1x128 .f32 := shapeCast S1x128 v160 shapeCasts_S1x128_S1x128 -- %161 = vector.shape_cast %160 : vector<1x128xf32> to vector<1x128xf32>  @ test_k:154
  have v162 : FVec F S1x128 .f32 := shapeCast S1x128 v161 shapeCasts_S1x128_S1x128 -- %162 = vector.shape_cast %161 : vector<1x128xf32> to vector<1x128xf32>  @ test_k:154
  have v163 : FVec F S1024x128 .f32 := broadcastTo S1024x128 v162 broadcasts_S1x128_S1024x128 -- %163 = vector.broadcast %162 : vector<1x128xf32> to vector<1024x128xf32>  @ test_k:154
  v163

/-- The body, or a stretch of it, over the named values. -/
noncomputable def cc3__assemble_body_skel (i : grid3.Coords) (arg1 : Memref sig .tc .vmem S128x1024 .f32) (harg1 : arg1.IsWhole) (arg2 : Memref sig .tc .vmem S1024x8 .f32) (harg2 : arg2.IsWhole) (arg3 : Memref sig .tc .vmem S16x128 .f32) (harg3 : arg3.IsWhole) (arg4 : Memref sig .tc .vmem S25x1024x128 .f32) (harg4 : arg4.IsWhole) (arg5 : Memref sig .tc .vmem S1024x128 .f32) (harg5 : arg5.IsWhole) :
    Prog (TpuEff nD τ sig (Elt F) Λ₀ .tc) PUnit := do
  let ⟨v2, v3, v34⟩ : Σ' (v2 : FVec F S1024x128 .f32) (v3 : Vec F S1024x8 .f32), FVec F S1024x128 .f32 ← k3_part1 i arg1 harg1 arg2 harg2 arg3 harg3 arg4 harg4 arg5 harg5 -- statements 1–60 of 318: their part
  let v65 : FVec F S1024x128 .f32 ← k3_part2 i arg1 harg1 arg2 harg2 arg3 harg3 arg4 harg4 arg5 harg5 v2 v3 v34 -- statements 61–120 of 318: their part
  let v100 : FVec F S1024x128 .f32 ← k3_part3 i arg1 harg1 arg2 harg2 arg3 harg3 arg4 harg4 arg5 harg5 v65 -- statements 121–180 of 318: their part
  k3_part4 i arg1 harg1 arg2 harg2 arg3 harg3 arg4 harg4 arg5 harg5 v100 -- statements 181–240 of 318: their part
  let v163 : FVec F S1024x128 .f32 ← k3_part5 i arg1 harg1 arg2 harg2 arg3 harg3 arg4 harg4 arg5 harg5 -- statements 241–300 of 318: their part
  let v164 : Vec F S1x1024x128 .f32 ← Prog.lift (.load arg4 (Rect.unit (s := S25x1024x128) ![24, 0, 0] S1x1024x128.size inb_S25x1024x128_S1x1024x128_24_0_0).toLoadRect (View.loadsAt_vmem h_S1x1024x128)) -- %164 = vector.load %arg4[%c24, %c0_84, %c0_85] : memref<25x1024x128xf32, #tpu.memory_space<vmem>>, vector<1x1024x128xf32>  @ test_k:154
  -- %165 = vector.shape_cast %164 : vector<1x1024x128xf32> to vector<1024x128xf32>  @ test_k:154  — not in the skeleton
  Prog.lift (.store arg4 (Rect.unit (s := S25x1024x128) ![24, 0, 0] S1x1024x128.size inb_S25x1024x128_S1x1024x128_24_0_0) (k3_pay1 v163) Finset.univ (View.stores_vmem_bits_univ h_S1x1024x128 rfl) (.inl rfl)) -- tpu.vector_store %arg4[%c24, %c0_84, %c0_85], %166 {strides = array<i32>} : memref<25x1024x128xf32, #tpu.memory_space<vmem>>, vector<1x1024x128xf32>,  @ test_k:154
  -- %cst = arith.constant dense<0.000000e+00> : vector<1024xf32>  — not in the skeleton
  let v175 : Vec F S1024x128 .f32 ← Prog.lift (.load arg5 (Rect.unit (s := S1024x128) ![0, 0] S1024x128.size inb_S1024x128_S1024x128_0_0).toLoadRect (View.loadsAt_vmem h_S1024x128)) -- %175 = vector.load %arg5[%c0_86, %c0_87] : memref<1024x128xf32, #tpu.memory_space<vmem>>, vector<1024x128xf32>  @ test_k:157
  Prog.lift (.store arg5 (Rect.unit (s := S1024x128) ![0, 0] S1024x128.size inb_S1024x128_S1024x128_0_0) (k3_pay2 v2 v3) Finset.univ (View.stores_vmem_bits_univ h_S1024x128 rfl) (.inl rfl)) -- tpu.vector_store %arg5[%c0_86, %c0_87], %174 {strides = array<i32>} : memref<1024x128xf32, #tpu.memory_space<vmem>>, vector<1024x128xf32>,  @ test_k:157
  pure ⟨⟩                                                               -- func.return

set_option maxRecDepth 65536 in
/-- It is the kernel's own. -/
theorem cc3__assemble_body_eq_skeleton : cc3__assemble_body (F := F) = cc3__assemble_body_skel (F := F) := rfl

/-- The body, or a stretch of it, over the named values. -/
noncomputable def k3_part1_skel (i : grid3.Coords) (arg1 : Memref sig .tc .vmem S128x1024 .f32) (harg1 : arg1.IsWhole) (arg2 : Memref sig .tc .vmem S1024x8 .f32) (harg2 : arg2.IsWhole) (arg3 : Memref sig .tc .vmem S16x128 .f32) (harg3 : arg3.IsWhole) (arg4 : Memref sig .tc .vmem S25x1024x128 .f32) (harg4 : arg4.IsWhole) (arg5 : Memref sig .tc .vmem S1024x128 .f32) (harg5 : arg5.IsWhole) :
    Prog (TpuEff nD τ sig (Elt F) Λ₀ .tc) (Σ' (v2 : FVec F S1024x128 .f32) (v3 : Vec F S1024x8 .f32), FVec F S1024x128 .f32) := do
  -- %arg0: i32, grid coordinate 0  — not in the skeleton
  let v0 : Vec F S128x1024 .f32 ← Prog.lift (.load arg1 (Rect.unit (s := S128x1024) ![0, 0] S128x1024.size inb_S128x1024_S128x1024_0_0).toLoadRect (View.loadsAt_vmem h_S128x1024)) -- %0 = vector.load %arg1[%c0, %c0_0] : memref<128x1024xf32, #tpu.memory_space<vmem>>, vector<128x1024xf32>  @ test_k:144
  let v3 : Vec F S1024x8 .f32 ← Prog.lift (.load arg2 (Rect.unit (s := S1024x8) ![0, 0] S1024x8.size inb_S1024x8_S1024x8_0_0).toLoadRect (View.loadsAt_vmem h_S1024x8)) -- %3 = vector.load %arg2[%c0_1, %c0_2] : memref<1024x8xf32, #tpu.memory_space<vmem>>, vector<1024x8xf32>  @ test_k:145
  let v10 : Vec F S1x1024x128 .f32 ← Prog.lift (.load arg4 (Rect.unit (s := S25x1024x128) ![0, 0, 0] S1x1024x128.size inb_S25x1024x128_S1x1024x128_0_0_0).toLoadRect (View.loadsAt_vmem h_S1x1024x128)) -- %10 = vector.load %arg4[%c0_3, %c0_4, %c0_5] : memref<25x1024x128xf32, #tpu.memory_space<vmem>>, vector<1x1024x128xf32>  @ test_k:150
  -- %11 = vector.shape_cast %10 : vector<1x1024x128xf32> to vector<1024x128xf32>  @ test_k:150  — not in the skeleton
  Prog.lift (.store arg4 (Rect.unit (s := S25x1024x128) ![0, 0, 0] S1x1024x128.size inb_S25x1024x128_S1x1024x128_0_0_0) (k3_pay6 v0 v3) Finset.univ (View.stores_vmem_bits_univ h_S1x1024x128 rfl) (.inl rfl)) -- tpu.vector_store %arg4[%c0_3, %c0_4, %c0_5], %12 {strides = array<i32>} : memref<25x1024x128xf32, #tpu.memory_space<vmem>>, vector<1x1024x128xf32>,  @ test_k:150
  let v13 : Vec F S1x1024x128 .f32 ← Prog.lift (.load arg4 (Rect.unit (s := S25x1024x128) ![6, 0, 0] S1x1024x128.size inb_S25x1024x128_S1x1024x128_6_0_0).toLoadRect (View.loadsAt_vmem h_S1x1024x128)) -- %13 = vector.load %arg4[%c6, %c0_6, %c0_7] : memref<25x1024x128xf32, #tpu.memory_space<vmem>>, vector<1x1024x128xf32>  @ test_k:151
  -- %14 = vector.shape_cast %13 : vector<1x1024x128xf32> to vector<1024x128xf32>  @ test_k:151  — not in the skeleton
  Prog.lift (.store arg4 (Rect.unit (s := S25x1024x128) ![6, 0, 0] S1x1024x128.size inb_S25x1024x128_S1x1024x128_6_0_0) (k3_pay7 v0 v3) Finset.univ (View.stores_vmem_bits_univ h_S1x1024x128 rfl) (.inl rfl)) -- tpu.vector_store %arg4[%c6, %c0_6, %c0_7], %15 {strides = array<i32>} : memref<25x1024x128xf32, #tpu.memory_space<vmem>>, vector<1x1024x128xf32>,  @ test_k:151
  let v18 : Vec F S1x1024x128 .f32 ← Prog.lift (.load arg4 (Rect.unit (s := S25x1024x128) ![3, 0, 0] S1x1024x128.size inb_S25x1024x128_S1x1024x128_3_0_0).toLoadRect (View.loadsAt_vmem h_S1x1024x128)) -- %18 = vector.load %arg4[%c3, %c0_8, %c0_9] : memref<25x1024x128xf32, #tpu.memory_space<vmem>>, vector<1x1024x128xf32>  @ test_k:152
  -- %19 = vector.shape_cast %18 : vector<1x1024x128xf32> to vector<1024x128xf32>  @ test_k:152  — not in the skeleton
  Prog.lift (.store arg4 (Rect.unit (s := S25x1024x128) ![3, 0, 0] S1x1024x128.size inb_S25x1024x128_S1x1024x128_3_0_0) (k3_pay8 v3) Finset.univ (View.stores_vmem_bits_univ h_S1x1024x128 rfl) (.inl rfl)) -- tpu.vector_store %arg4[%c3, %c0_8, %c0_9], %20 {strides = array<i32>} : memref<25x1024x128xf32, #tpu.memory_space<vmem>>, vector<1x1024x128xf32>,  @ test_k:152
  let v27 : Vec F S1x1024x128 .f32 ← Prog.lift (.load arg4 (Rect.unit (s := S25x1024x128) ![1, 0, 0] S1x1024x128.size inb_S25x1024x128_S1x1024x128_1_0_0).toLoadRect (View.loadsAt_vmem h_S1x1024x128)) -- %27 = vector.load %arg4[%c1, %c0_10, %c0_11] : memref<25x1024x128xf32, #tpu.memory_space<vmem>>, vector<1x1024x128xf32>  @ test_k:150
  -- %28 = vector.shape_cast %27 : vector<1x1024x128xf32> to vector<1024x128xf32>  @ test_k:150  — not in the skeleton
  Prog.lift (.store arg4 (Rect.unit (s := S25x1024x128) ![1, 0, 0] S1x1024x128.size inb_S25x1024x128_S1x1024x128_1_0_0) (k3_pay11 v0 v3) Finset.univ (View.stores_vmem_bits_univ h_S1x1024x128 rfl) (.inl rfl)) -- tpu.vector_store %arg4[%c1, %c0_10, %c0_11], %29 {strides = array<i32>} : memref<25x1024x128xf32, #tpu.memory_space<vmem>>, vector<1x1024x128xf32>,  @ test_k:150
  let v30 : Vec F S1x1024x128 .f32 ← Prog.lift (.load arg4 (Rect.unit (s := S25x1024x128) ![7, 0, 0] S1x1024x128.size inb_S25x1024x128_S1x1024x128_7_0_0).toLoadRect (View.loadsAt_vmem h_S1x1024x128)) -- %30 = vector.load %arg4[%c7, %c0_12, %c0_13] : memref<25x1024x128xf32, #tpu.memory_space<vmem>>, vector<1x1024x128xf32>  @ test_k:151
  -- %31 = vector.shape_cast %30 : vector<1x1024x128xf32> to vector<1024x128xf32>  @ test_k:151  — not in the skeleton
  Prog.lift (.store arg4 (Rect.unit (s := S25x1024x128) ![7, 0, 0] S1x1024x128.size inb_S25x1024x128_S1x1024x128_7_0_0) (k3_pay12 v0 v3) Finset.univ (View.stores_vmem_bits_univ h_S1x1024x128 rfl) (.inl rfl)) -- tpu.vector_store %arg4[%c7, %c0_12, %c0_13], %32 {strides = array<i32>} : memref<25x1024x128xf32, #tpu.memory_space<vmem>>, vector<1x1024x128xf32>,  @ test_k:151
  pure ⟨k3_pay3 v0, v3, k3_pay13 v3⟩

set_option maxRecDepth 65536 in
/-- It is the kernel's own. -/
theorem k3_part1_eq_skeleton : k3_part1 (F := F) = k3_part1_skel (F := F) := rfl

/-- The body, or a stretch of it, over the named values. -/
noncomputable def k3_part2_skel (i : grid3.Coords) (arg1 : Memref sig .tc .vmem S128x1024 .f32) (harg1 : arg1.IsWhole) (arg2 : Memref sig .tc .vmem S1024x8 .f32) (harg2 : arg2.IsWhole) (arg3 : Memref sig .tc .vmem S16x128 .f32) (harg3 : arg3.IsWhole) (arg4 : Memref sig .tc .vmem S25x1024x128 .f32) (harg4 : arg4.IsWhole) (arg5 : Memref sig .tc .vmem S1024x128 .f32) (harg5 : arg5.IsWhole) (v2 : FVec F S1024x128 .f32) (v3 : Vec F S1024x8 .f32) (v34 : FVec F S1024x128 .f32) :
    Prog (TpuEff nD τ sig (Elt F) Λ₀ .tc) (FVec F S1024x128 .f32) := do
  let v35 : Vec F S1x1024x128 .f32 ← Prog.lift (.load arg4 (Rect.unit (s := S25x1024x128) ![4, 0, 0] S1x1024x128.size inb_S25x1024x128_S1x1024x128_4_0_0).toLoadRect (View.loadsAt_vmem h_S1x1024x128)) -- %35 = vector.load %arg4[%c4, %c0_14, %c0_15] : memref<25x1024x128xf32, #tpu.memory_space<vmem>>, vector<1x1024x128xf32>  @ test_k:152
  -- %36 = vector.shape_cast %35 : vector<1x1024x128xf32> to vector<1024x128xf32>  @ test_k:152  — not in the skeleton
  Prog.lift (.store arg4 (Rect.unit (s := S25x1024x128) ![4, 0, 0] S1x1024x128.size inb_S25x1024x128_S1x1024x128_4_0_0) (k3_pay14 v34) Finset.univ (View.stores_vmem_bits_univ h_S1x1024x128 rfl) (.inl rfl)) -- tpu.vector_store %arg4[%c4, %c0_14, %c0_15], %37 {strides = array<i32>} : memref<25x1024x128xf32, #tpu.memory_space<vmem>>, vector<1x1024x128xf32>,  @ test_k:152
  let v44 : Vec F S1x1024x128 .f32 ← Prog.lift (.load arg4 (Rect.unit (s := S25x1024x128) ![2, 0, 0] S1x1024x128.size inb_S25x1024x128_S1x1024x128_2_0_0).toLoadRect (View.loadsAt_vmem h_S1x1024x128)) -- %44 = vector.load %arg4[%c2, %c0_16, %c0_17] : memref<25x1024x128xf32, #tpu.memory_space<vmem>>, vector<1x1024x128xf32>  @ test_k:150
  -- %45 = vector.shape_cast %44 : vector<1x1024x128xf32> to vector<1024x128xf32>  @ test_k:150  — not in the skeleton
  Prog.lift (.store arg4 (Rect.unit (s := S25x1024x128) ![2, 0, 0] S1x1024x128.size inb_S25x1024x128_S1x1024x128_2_0_0) (k3_pay17 v2 v3) Finset.univ (View.stores_vmem_bits_univ h_S1x1024x128 rfl) (.inl rfl)) -- tpu.vector_store %arg4[%c2, %c0_16, %c0_17], %46 {strides = array<i32>} : memref<25x1024x128xf32, #tpu.memory_space<vmem>>, vector<1x1024x128xf32>,  @ test_k:150
  let v47 : Vec F S1x1024x128 .f32 ← Prog.lift (.load arg4 (Rect.unit (s := S25x1024x128) ![8, 0, 0] S1x1024x128.size inb_S25x1024x128_S1x1024x128_8_0_0).toLoadRect (View.loadsAt_vmem h_S1x1024x128)) -- %47 = vector.load %arg4[%c8, %c0_18, %c0_19] : memref<25x1024x128xf32, #tpu.memory_space<vmem>>, vector<1x1024x128xf32>  @ test_k:151
  -- %48 = vector.shape_cast %47 : vector<1x1024x128xf32> to vector<1024x128xf32>  @ test_k:151  — not in the skeleton
  Prog.lift (.store arg4 (Rect.unit (s := S25x1024x128) ![8, 0, 0] S1x1024x128.size inb_S25x1024x128_S1x1024x128_8_0_0) (k3_pay18 v2 v3) Finset.univ (View.stores_vmem_bits_univ h_S1x1024x128 rfl) (.inl rfl)) -- tpu.vector_store %arg4[%c8, %c0_18, %c0_19], %49 {strides = array<i32>} : memref<25x1024x128xf32, #tpu.memory_space<vmem>>, vector<1x1024x128xf32>,  @ test_k:151
  let v52 : Vec F S1x1024x128 .f32 ← Prog.lift (.load arg4 (Rect.unit (s := S25x1024x128) ![5, 0, 0] S1x1024x128.size inb_S25x1024x128_S1x1024x128_5_0_0).toLoadRect (View.loadsAt_vmem h_S1x1024x128)) -- %52 = vector.load %arg4[%c5, %c0_20, %c0_21] : memref<25x1024x128xf32, #tpu.memory_space<vmem>>, vector<1x1024x128xf32>  @ test_k:152
  -- %53 = vector.shape_cast %52 : vector<1x1024x128xf32> to vector<1024x128xf32>  @ test_k:152  — not in the skeleton
  Prog.lift (.store arg4 (Rect.unit (s := S25x1024x128) ![5, 0, 0] S1x1024x128.size inb_S25x1024x128_S1x1024x128_5_0_0) (k3_pay19 v3) Finset.univ (View.stores_vmem_bits_univ h_S1x1024x128 rfl) (.inl rfl)) -- tpu.vector_store %arg4[%c5, %c0_20, %c0_21], %54 {strides = array<i32>} : memref<25x1024x128xf32, #tpu.memory_space<vmem>>, vector<1x1024x128xf32>,  @ test_k:152
  let v55 : Vec F S1x128 .f32 ← Prog.lift (.load arg3 (Rect.unit (s := S16x128) ![0, 0] S1x128.size inb_S16x128_S1x128_0_0).toLoadRect (View.loadsAt_vmem h_S1x128)) -- %55 = vector.load %arg3[%c0_22, %c0_23] : memref<16x128xf32, #tpu.memory_space<vmem>>, vector<1x128xf32>  @ test_k:154
  let v59 : Vec F S1x1024x128 .f32 ← Prog.lift (.load arg4 (Rect.unit (s := S25x1024x128) ![9, 0, 0] S1x1024x128.size inb_S25x1024x128_S1x1024x128_9_0_0).toLoadRect (View.loadsAt_vmem h_S1x1024x128)) -- %59 = vector.load %arg4[%c9, %c0_24, %c0_25] : memref<25x1024x128xf32, #tpu.memory_space<vmem>>, vector<1x1024x128xf32>  @ test_k:154
  -- %60 = vector.shape_cast %59 : vector<1x1024x128xf32> to vector<1024x128xf32>  @ test_k:154  — not in the skeleton
  Prog.lift (.store arg4 (Rect.unit (s := S25x1024x128) ![9, 0, 0] S1x1024x128.size inb_S25x1024x128_S1x1024x128_9_0_0) (k3_pay20 v55) Finset.univ (View.stores_vmem_bits_univ h_S1x1024x128 rfl) (.inl rfl)) -- tpu.vector_store %arg4[%c9, %c0_24, %c0_25], %61 {strides = array<i32>} : memref<25x1024x128xf32, #tpu.memory_space<vmem>>, vector<1x1024x128xf32>,  @ test_k:154
  let v62 : Vec F S1x128 .f32 ← Prog.lift (.load arg3 (Rect.unit (s := S16x128) ![1, 0] S1x128.size inb_S16x128_S1x128_1_0).toLoadRect (View.loadsAt_vmem h_S1x128)) -- %62 = vector.load %arg3[%c1_26, %c0_27] : memref<16x128xf32, #tpu.memory_space<vmem>>, vector<1x128xf32>  @ test_k:154
  let v66 : Vec F S1x1024x128 .f32 ← Prog.lift (.load arg4 (Rect.unit (s := S25x1024x128) ![10, 0, 0] S1x1024x128.size inb_S25x1024x128_S1x1024x128_10_0_0).toLoadRect (View.loadsAt_vmem h_S1x1024x128)) -- %66 = vector.load %arg4[%c10, %c0_28, %c0_29] : memref<25x1024x128xf32, #tpu.memory_space<vmem>>, vector<1x1024x128xf32>  @ test_k:154
  -- %67 = vector.shape_cast %66 : vector<1x1024x128xf32> to vector<1024x128xf32>  @ test_k:154  — not in the skeleton
  pure (k3_pay21 v62)

set_option maxRecDepth 65536 in
/-- It is the kernel's own. -/
theorem k3_part2_eq_skeleton : k3_part2 (F := F) = k3_part2_skel (F := F) := rfl

/-- The body, or a stretch of it, over the named values. -/
noncomputable def k3_part3_skel (i : grid3.Coords) (arg1 : Memref sig .tc .vmem S128x1024 .f32) (harg1 : arg1.IsWhole) (arg2 : Memref sig .tc .vmem S1024x8 .f32) (harg2 : arg2.IsWhole) (arg3 : Memref sig .tc .vmem S16x128 .f32) (harg3 : arg3.IsWhole) (arg4 : Memref sig .tc .vmem S25x1024x128 .f32) (harg4 : arg4.IsWhole) (arg5 : Memref sig .tc .vmem S1024x128 .f32) (harg5 : arg5.IsWhole) (v65 : FVec F S1024x128 .f32) :
    Prog (TpuEff nD τ sig (Elt F) Λ₀ .tc) (FVec F S1024x128 .f32) := do
  Prog.lift (.store arg4 (Rect.unit (s := S25x1024x128) ![10, 0, 0] S1x1024x128.size inb_S25x1024x128_S1x1024x128_10_0_0) (k3_pay22 v65) Finset.univ (View.stores_vmem_bits_univ h_S1x1024x128 rfl) (.inl rfl)) -- tpu.vector_store %arg4[%c10, %c0_28, %c0_29], %68 {strides = array<i32>} : memref<25x1024x128xf32, #tpu.memory_space<vmem>>, vector<1x1024x128xf32>,  @ test_k:154
  let v69 : Vec F S1x128 .f32 ← Prog.lift (.load arg3 (Rect.unit (s := S16x128) ![2, 0] S1x128.size inb_S16x128_S1x128_2_0).toLoadRect (View.loadsAt_vmem h_S1x128)) -- %69 = vector.load %arg3[%c2_30, %c0_31] : memref<16x128xf32, #tpu.memory_space<vmem>>, vector<1x128xf32>  @ test_k:154
  let v73 : Vec F S1x1024x128 .f32 ← Prog.lift (.load arg4 (Rect.unit (s := S25x1024x128) ![11, 0, 0] S1x1024x128.size inb_S25x1024x128_S1x1024x128_11_0_0).toLoadRect (View.loadsAt_vmem h_S1x1024x128)) -- %73 = vector.load %arg4[%c11, %c0_32, %c0_33] : memref<25x1024x128xf32, #tpu.memory_space<vmem>>, vector<1x1024x128xf32>  @ test_k:154
  -- %74 = vector.shape_cast %73 : vector<1x1024x128xf32> to vector<1024x128xf32>  @ test_k:154  — not in the skeleton
  Prog.lift (.store arg4 (Rect.unit (s := S25x1024x128) ![11, 0, 0] S1x1024x128.size inb_S25x1024x128_S1x1024x128_11_0_0) (k3_pay23 v69) Finset.univ (View.stores_vmem_bits_univ h_S1x1024x128 rfl) (.inl rfl)) -- tpu.vector_store %arg4[%c11, %c0_32, %c0_33], %75 {strides = array<i32>} : memref<25x1024x128xf32, #tpu.memory_space<vmem>>, vector<1x1024x128xf32>,  @ test_k:154
  let v76 : Vec F S1x128 .f32 ← Prog.lift (.load arg3 (Rect.unit (s := S16x128) ![3, 0] S1x128.size inb_S16x128_S1x128_3_0).toLoadRect (View.loadsAt_vmem h_S1x128)) -- %76 = vector.load %arg3[%c3_34, %c0_35] : memref<16x128xf32, #tpu.memory_space<vmem>>, vector<1x128xf32>  @ test_k:154
  let v80 : Vec F S1x1024x128 .f32 ← Prog.lift (.load arg4 (Rect.unit (s := S25x1024x128) ![12, 0, 0] S1x1024x128.size inb_S25x1024x128_S1x1024x128_12_0_0).toLoadRect (View.loadsAt_vmem h_S1x1024x128)) -- %80 = vector.load %arg4[%c12, %c0_36, %c0_37] : memref<25x1024x128xf32, #tpu.memory_space<vmem>>, vector<1x1024x128xf32>  @ test_k:154
  -- %81 = vector.shape_cast %80 : vector<1x1024x128xf32> to vector<1024x128xf32>  @ test_k:154  — not in the skeleton
  Prog.lift (.store arg4 (Rect.unit (s := S25x1024x128) ![12, 0, 0] S1x1024x128.size inb_S25x1024x128_S1x1024x128_12_0_0) (k3_pay24 v76) Finset.univ (View.stores_vmem_bits_univ h_S1x1024x128 rfl) (.inl rfl)) -- tpu.vector_store %arg4[%c12, %c0_36, %c0_37], %82 {strides = array<i32>} : memref<25x1024x128xf32, #tpu.memory_space<vmem>>, vector<1x1024x128xf32>,  @ test_k:154
  let v83 : Vec F S1x128 .f32 ← Prog.lift (.load arg3 (Rect.unit (s := S16x128) ![4, 0] S1x128.size inb_S16x128_S1x128_4_0).toLoadRect (View.loadsAt_vmem h_S1x128)) -- %83 = vector.load %arg3[%c4_38, %c0_39] : memref<16x128xf32, #tpu.memory_space<vmem>>, vector<1x128xf32>  @ test_k:154
  let v87 : Vec F S1x1024x128 .f32 ← Prog.lift (.load arg4 (Rect.unit (s := S25x1024x128) ![13, 0, 0] S1x1024x128.size inb_S25x1024x128_S1x1024x128_13_0_0).toLoadRect (View.loadsAt_vmem h_S1x1024x128)) -- %87 = vector.load %arg4[%c13, %c0_40, %c0_41] : memref<25x1024x128xf32, #tpu.memory_space<vmem>>, vector<1x1024x128xf32>  @ test_k:154
  -- %88 = vector.shape_cast %87 : vector<1x1024x128xf32> to vector<1024x128xf32>  @ test_k:154  — not in the skeleton
  Prog.lift (.store arg4 (Rect.unit (s := S25x1024x128) ![13, 0, 0] S1x1024x128.size inb_S25x1024x128_S1x1024x128_13_0_0) (k3_pay25 v83) Finset.univ (View.stores_vmem_bits_univ h_S1x1024x128 rfl) (.inl rfl)) -- tpu.vector_store %arg4[%c13, %c0_40, %c0_41], %89 {strides = array<i32>} : memref<25x1024x128xf32, #tpu.memory_space<vmem>>, vector<1x1024x128xf32>,  @ test_k:154
  let v90 : Vec F S1x128 .f32 ← Prog.lift (.load arg3 (Rect.unit (s := S16x128) ![5, 0] S1x128.size inb_S16x128_S1x128_5_0).toLoadRect (View.loadsAt_vmem h_S1x128)) -- %90 = vector.load %arg3[%c5_42, %c0_43] : memref<16x128xf32, #tpu.memory_space<vmem>>, vector<1x128xf32>  @ test_k:154
  let v94 : Vec F S1x1024x128 .f32 ← Prog.lift (.load arg4 (Rect.unit (s := S25x1024x128) ![14, 0, 0] S1x1024x128.size inb_S25x1024x128_S1x1024x128_14_0_0).toLoadRect (View.loadsAt_vmem h_S1x1024x128)) -- %94 = vector.load %arg4[%c14, %c0_44, %c0_45] : memref<25x1024x128xf32, #tpu.memory_space<vmem>>, vector<1x1024x128xf32>  @ test_k:154
  -- %95 = vector.shape_cast %94 : vector<1x1024x128xf32> to vector<1024x128xf32>  @ test_k:154  — not in the skeleton
  Prog.lift (.store arg4 (Rect.unit (s := S25x1024x128) ![14, 0, 0] S1x1024x128.size inb_S25x1024x128_S1x1024x128_14_0_0) (k3_pay26 v90) Finset.univ (View.stores_vmem_bits_univ h_S1x1024x128 rfl) (.inl rfl)) -- tpu.vector_store %arg4[%c14, %c0_44, %c0_45], %96 {strides = array<i32>} : memref<25x1024x128xf32, #tpu.memory_space<vmem>>, vector<1x1024x128xf32>,  @ test_k:154
  let v97 : Vec F S1x128 .f32 ← Prog.lift (.load arg3 (Rect.unit (s := S16x128) ![6, 0] S1x128.size inb_S16x128_S1x128_6_0).toLoadRect (View.loadsAt_vmem h_S1x128)) -- %97 = vector.load %arg3[%c6_46, %c0_47] : memref<16x128xf32, #tpu.memory_space<vmem>>, vector<1x128xf32>  @ test_k:154
  pure (k3_pay27 v97)

set_option maxRecDepth 65536 in
/-- It is the kernel's own. -/
theorem k3_part3_eq_skeleton : k3_part3 (F := F) = k3_part3_skel (F := F) := rfl

/-- The body, or a stretch of it, over the named values. -/
noncomputable def k3_part4_skel (i : grid3.Coords) (arg1 : Memref sig .tc .vmem S128x1024 .f32) (harg1 : arg1.IsWhole) (arg2 : Memref sig .tc .vmem S1024x8 .f32) (harg2 : arg2.IsWhole) (arg3 : Memref sig .tc .vmem S16x128 .f32) (harg3 : arg3.IsWhole) (arg4 : Memref sig .tc .vmem S25x1024x128 .f32) (harg4 : arg4.IsWhole) (arg5 : Memref sig .tc .vmem S1024x128 .f32) (harg5 : arg5.IsWhole) (v100 : FVec F S1024x128 .f32) :
    Prog (TpuEff nD τ sig (Elt F) Λ₀ .tc) (PUnit) := do
  let v101 : Vec F S1x1024x128 .f32 ← Prog.lift (.load arg4 (Rect.unit (s := S25x1024x128) ![15, 0, 0] S1x1024x128.size inb_S25x1024x128_S1x1024x128_15_0_0).toLoadRect (View.loadsAt_vmem h_S1x1024x128)) -- %101 = vector.load %arg4[%c15, %c0_48, %c0_49] : memref<25x1024x128xf32, #tpu.memory_space<vmem>>, vector<1x1024x128xf32>  @ test_k:154
  -- %102 = vector.shape_cast %101 : vector<1x1024x128xf32> to vector<1024x128xf32>  @ test_k:154  — not in the skeleton
  Prog.lift (.store arg4 (Rect.unit (s := S25x1024x128) ![15, 0, 0] S1x1024x128.size inb_S25x1024x128_S1x1024x128_15_0_0) (k3_pay28 v100) Finset.univ (View.stores_vmem_bits_univ h_S1x1024x128 rfl) (.inl rfl)) -- tpu.vector_store %arg4[%c15, %c0_48, %c0_49], %103 {strides = array<i32>} : memref<25x1024x128xf32, #tpu.memory_space<vmem>>, vector<1x1024x128xf32>,  @ test_k:154
  let v104 : Vec F S1x128 .f32 ← Prog.lift (.load arg3 (Rect.unit (s := S16x128) ![7, 0] S1x128.size inb_S16x128_S1x128_7_0).toLoadRect (View.loadsAt_vmem h_S1x128)) -- %104 = vector.load %arg3[%c7_50, %c0_51] : memref<16x128xf32, #tpu.memory_space<vmem>>, vector<1x128xf32>  @ test_k:154
  let v108 : Vec F S1x1024x128 .f32 ← Prog.lift (.load arg4 (Rect.unit (s := S25x1024x128) ![16, 0, 0] S1x1024x128.size inb_S25x1024x128_S1x1024x128_16_0_0).toLoadRect (View.loadsAt_vmem h_S1x1024x128)) -- %108 = vector.load %arg4[%c16, %c0_52, %c0_53] : memref<25x1024x128xf32, #tpu.memory_space<vmem>>, vector<1x1024x128xf32>  @ test_k:154
  -- %109 = vector.shape_cast %108 : vector<1x1024x128xf32> to vector<1024x128xf32>  @ test_k:154  — not in the skeleton
  Prog.lift (.store arg4 (Rect.unit (s := S25x1024x128) ![16, 0, 0] S1x1024x128.size inb_S25x1024x128_S1x1024x128_16_0_0) (k3_pay29 v104) Finset.univ (View.stores_vmem_bits_univ h_S1x1024x128 rfl) (.inl rfl)) -- tpu.vector_store %arg4[%c16, %c0_52, %c0_53], %110 {strides = array<i32>} : memref<25x1024x128xf32, #tpu.memory_space<vmem>>, vector<1x1024x128xf32>,  @ test_k:154
  let v111 : Vec F S1x128 .f32 ← Prog.lift (.load arg3 (Rect.unit (s := S16x128) ![8, 0] S1x128.size inb_S16x128_S1x128_8_0).toLoadRect (View.loadsAt_vmem h_S1x128)) -- %111 = vector.load %arg3[%c8_54, %c0_55] : memref<16x128xf32, #tpu.memory_space<vmem>>, vector<1x128xf32>  @ test_k:154
  let v115 : Vec F S1x1024x128 .f32 ← Prog.lift (.load arg4 (Rect.unit (s := S25x1024x128) ![17, 0, 0] S1x1024x128.size inb_S25x1024x128_S1x1024x128_17_0_0).toLoadRect (View.loadsAt_vmem h_S1x1024x128)) -- %115 = vector.load %arg4[%c17, %c0_56, %c0_57] : memref<25x1024x128xf32, #tpu.memory_space<vmem>>, vector<1x1024x128xf32>  @ test_k:154
  -- %116 = vector.shape_cast %115 : vector<1x1024x128xf32> to vector<1024x128xf32>  @ test_k:154  — not in the skeleton
  Prog.lift (.store arg4 (Rect.unit (s := S25x1024x128) ![17, 0, 0] S1x1024x128.size inb_S25x1024x128_S1x1024x128_17_0_0) (k3_pay30 v111) Finset.univ (View.stores_vmem_bits_univ h_S1x1024x128 rfl) (.inl rfl)) -- tpu.vector_store %arg4[%c17, %c0_56, %c0_57], %117 {strides = array<i32>} : memref<25x1024x128xf32, #tpu.memory_space<vmem>>, vector<1x1024x128xf32>,  @ test_k:154
  let v118 : Vec F S1x128 .f32 ← Prog.lift (.load arg3 (Rect.unit (s := S16x128) ![9, 0] S1x128.size inb_S16x128_S1x128_9_0).toLoadRect (View.loadsAt_vmem h_S1x128)) -- %118 = vector.load %arg3[%c9_58, %c0_59] : memref<16x128xf32, #tpu.memory_space<vmem>>, vector<1x128xf32>  @ test_k:154
  let v122 : Vec F S1x1024x128 .f32 ← Prog.lift (.load arg4 (Rect.unit (s := S25x1024x128) ![18, 0, 0] S1x1024x128.size inb_S25x1024x128_S1x1024x128_18_0_0).toLoadRect (View.loadsAt_vmem h_S1x1024x128)) -- %122 = vector.load %arg4[%c18, %c0_60, %c0_61] : memref<25x1024x128xf32, #tpu.memory_space<vmem>>, vector<1x1024x128xf32>  @ test_k:154
  -- %123 = vector.shape_cast %122 : vector<1x1024x128xf32> to vector<1024x128xf32>  @ test_k:154  — not in the skeleton
  Prog.lift (.store arg4 (Rect.unit (s := S25x1024x128) ![18, 0, 0] S1x1024x128.size inb_S25x1024x128_S1x1024x128_18_0_0) (k3_pay31 v118) Finset.univ (View.stores_vmem_bits_univ h_S1x1024x128 rfl) (.inl rfl)) -- tpu.vector_store %arg4[%c18, %c0_60, %c0_61], %124 {strides = array<i32>} : memref<25x1024x128xf32, #tpu.memory_space<vmem>>, vector<1x1024x128xf32>,  @ test_k:154
  let v125 : Vec F S1x128 .f32 ← Prog.lift (.load arg3 (Rect.unit (s := S16x128) ![10, 0] S1x128.size inb_S16x128_S1x128_10_0).toLoadRect (View.loadsAt_vmem h_S1x128)) -- %125 = vector.load %arg3[%c10_62, %c0_63] : memref<16x128xf32, #tpu.memory_space<vmem>>, vector<1x128xf32>  @ test_k:154
  let v129 : Vec F S1x1024x128 .f32 ← Prog.lift (.load arg4 (Rect.unit (s := S25x1024x128) ![19, 0, 0] S1x1024x128.size inb_S25x1024x128_S1x1024x128_19_0_0).toLoadRect (View.loadsAt_vmem h_S1x1024x128)) -- %129 = vector.load %arg4[%c19, %c0_64, %c0_65] : memref<25x1024x128xf32, #tpu.memory_space<vmem>>, vector<1x1024x128xf32>  @ test_k:154
  -- %130 = vector.shape_cast %129 : vector<1x1024x128xf32> to vector<1024x128xf32>  @ test_k:154  — not in the skeleton
  Prog.lift (.store arg4 (Rect.unit (s := S25x1024x128) ![19, 0, 0] S1x1024x128.size inb_S25x1024x128_S1x1024x128_19_0_0) (k3_pay32 v125) Finset.univ (View.stores_vmem_bits_univ h_S1x1024x128 rfl) (.inl rfl)) -- tpu.vector_store %arg4[%c19, %c0_64, %c0_65], %131 {strides = array<i32>} : memref<25x1024x128xf32, #tpu.memory_space<vmem>>, vector<1x1024x128xf32>,  @ test_k:154
  pure ⟨⟩

set_option maxRecDepth 65536 in
/-- It is the kernel's own. -/
theorem k3_part4_eq_skeleton : k3_part4 (F := F) = k3_part4_skel (F := F) := rfl

/-- The body, or a stretch of it, over the named values. -/
noncomputable def k3_part5_skel (i : grid3.Coords) (arg1 : Memref sig .tc .vmem S128x1024 .f32) (harg1 : arg1.IsWhole) (arg2 : Memref sig .tc .vmem S1024x8 .f32) (harg2 : arg2.IsWhole) (arg3 : Memref sig .tc .vmem S16x128 .f32) (harg3 : arg3.IsWhole) (arg4 : Memref sig .tc .vmem S25x1024x128 .f32) (harg4 : arg4.IsWhole) (arg5 : Memref sig .tc .vmem S1024x128 .f32) (harg5 : arg5.IsWhole) :
    Prog (TpuEff nD τ sig (Elt F) Λ₀ .tc) (FVec F S1024x128 .f32) := do
  let v132 : Vec F S1x128 .f32 ← Prog.lift (.load arg3 (Rect.unit (s := S16x128) ![11, 0] S1x128.size inb_S16x128_S1x128_11_0).toLoadRect (View.loadsAt_vmem h_S1x128)) -- %132 = vector.load %arg3[%c11_66, %c0_67] : memref<16x128xf32, #tpu.memory_space<vmem>>, vector<1x128xf32>  @ test_k:154
  let v136 : Vec F S1x1024x128 .f32 ← Prog.lift (.load arg4 (Rect.unit (s := S25x1024x128) ![20, 0, 0] S1x1024x128.size inb_S25x1024x128_S1x1024x128_20_0_0).toLoadRect (View.loadsAt_vmem h_S1x1024x128)) -- %136 = vector.load %arg4[%c20, %c0_68, %c0_69] : memref<25x1024x128xf32, #tpu.memory_space<vmem>>, vector<1x1024x128xf32>  @ test_k:154
  -- %137 = vector.shape_cast %136 : vector<1x1024x128xf32> to vector<1024x128xf32>  @ test_k:154  — not in the skeleton
  Prog.lift (.store arg4 (Rect.unit (s := S25x1024x128) ![20, 0, 0] S1x1024x128.size inb_S25x1024x128_S1x1024x128_20_0_0) (k3_pay33 v132) Finset.univ (View.stores_vmem_bits_univ h_S1x1024x128 rfl) (.inl rfl)) -- tpu.vector_store %arg4[%c20, %c0_68, %c0_69], %138 {strides = array<i32>} : memref<25x1024x128xf32, #tpu.memory_space<vmem>>, vector<1x1024x128xf32>,  @ test_k:154
  let v139 : Vec F S1x128 .f32 ← Prog.lift (.load arg3 (Rect.unit (s := S16x128) ![12, 0] S1x128.size inb_S16x128_S1x128_12_0).toLoadRect (View.loadsAt_vmem h_S1x128)) -- %139 = vector.load %arg3[%c12_70, %c0_71] : memref<16x128xf32, #tpu.memory_space<vmem>>, vector<1x128xf32>  @ test_k:154
  let v143 : Vec F S1x1024x128 .f32 ← Prog.lift (.load arg4 (Rect.unit (s := S25x1024x128) ![21, 0, 0] S1x1024x128.size inb_S25x1024x128_S1x1024x128_21_0_0).toLoadRect (View.loadsAt_vmem h_S1x1024x128)) -- %143 = vector.load %arg4[%c21, %c0_72, %c0_73] : memref<25x1024x128xf32, #tpu.memory_space<vmem>>, vector<1x1024x128xf32>  @ test_k:154
  -- %144 = vector.shape_cast %143 : vector<1x1024x128xf32> to vector<1024x128xf32>  @ test_k:154  — not in the skeleton
  Prog.lift (.store arg4 (Rect.unit (s := S25x1024x128) ![21, 0, 0] S1x1024x128.size inb_S25x1024x128_S1x1024x128_21_0_0) (k3_pay34 v139) Finset.univ (View.stores_vmem_bits_univ h_S1x1024x128 rfl) (.inl rfl)) -- tpu.vector_store %arg4[%c21, %c0_72, %c0_73], %145 {strides = array<i32>} : memref<25x1024x128xf32, #tpu.memory_space<vmem>>, vector<1x1024x128xf32>,  @ test_k:154
  let v146 : Vec F S1x128 .f32 ← Prog.lift (.load arg3 (Rect.unit (s := S16x128) ![13, 0] S1x128.size inb_S16x128_S1x128_13_0).toLoadRect (View.loadsAt_vmem h_S1x128)) -- %146 = vector.load %arg3[%c13_74, %c0_75] : memref<16x128xf32, #tpu.memory_space<vmem>>, vector<1x128xf32>  @ test_k:154
  let v150 : Vec F S1x1024x128 .f32 ← Prog.lift (.load arg4 (Rect.unit (s := S25x1024x128) ![22, 0, 0] S1x1024x128.size inb_S25x1024x128_S1x1024x128_22_0_0).toLoadRect (View.loadsAt_vmem h_S1x1024x128)) -- %150 = vector.load %arg4[%c22, %c0_76, %c0_77] : memref<25x1024x128xf32, #tpu.memory_space<vmem>>, vector<1x1024x128xf32>  @ test_k:154
  -- %151 = vector.shape_cast %150 : vector<1x1024x128xf32> to vector<1024x128xf32>  @ test_k:154  — not in the skeleton
  Prog.lift (.store arg4 (Rect.unit (s := S25x1024x128) ![22, 0, 0] S1x1024x128.size inb_S25x1024x128_S1x1024x128_22_0_0) (k3_pay35 v146) Finset.univ (View.stores_vmem_bits_univ h_S1x1024x128 rfl) (.inl rfl)) -- tpu.vector_store %arg4[%c22, %c0_76, %c0_77], %152 {strides = array<i32>} : memref<25x1024x128xf32, #tpu.memory_space<vmem>>, vector<1x1024x128xf32>,  @ test_k:154
  let v153 : Vec F S1x128 .f32 ← Prog.lift (.load arg3 (Rect.unit (s := S16x128) ![14, 0] S1x128.size inb_S16x128_S1x128_14_0).toLoadRect (View.loadsAt_vmem h_S1x128)) -- %153 = vector.load %arg3[%c14_78, %c0_79] : memref<16x128xf32, #tpu.memory_space<vmem>>, vector<1x128xf32>  @ test_k:154
  let v157 : Vec F S1x1024x128 .f32 ← Prog.lift (.load arg4 (Rect.unit (s := S25x1024x128) ![23, 0, 0] S1x1024x128.size inb_S25x1024x128_S1x1024x128_23_0_0).toLoadRect (View.loadsAt_vmem h_S1x1024x128)) -- %157 = vector.load %arg4[%c23, %c0_80, %c0_81] : memref<25x1024x128xf32, #tpu.memory_space<vmem>>, vector<1x1024x128xf32>  @ test_k:154
  -- %158 = vector.shape_cast %157 : vector<1x1024x128xf32> to vector<1024x128xf32>  @ test_k:154  — not in the skeleton
  Prog.lift (.store arg4 (Rect.unit (s := S25x1024x128) ![23, 0, 0] S1x1024x128.size inb_S25x1024x128_S1x1024x128_23_0_0) (k3_pay36 v153) Finset.univ (View.stores_vmem_bits_univ h_S1x1024x128 rfl) (.inl rfl)) -- tpu.vector_store %arg4[%c23, %c0_80, %c0_81], %159 {strides = array<i32>} : memref<25x1024x128xf32, #tpu.memory_space<vmem>>, vector<1x1024x128xf32>,  @ test_k:154
  let v160 : Vec F S1x128 .f32 ← Prog.lift (.load arg3 (Rect.unit (s := S16x128) ![15, 0] S1x128.size inb_S16x128_S1x128_15_0).toLoadRect (View.loadsAt_vmem h_S1x128)) -- %160 = vector.load %arg3[%c15_82, %c0_83] : memref<16x128xf32, #tpu.memory_space<vmem>>, vector<1x128xf32>  @ test_k:154
  pure (k3_pay37 v160)

set_option maxRecDepth 65536 in
/-- It is the kernel's own. -/
theorem k3_part5_eq_skeleton : k3_part5 (F := F) = k3_part5_skel (F := F) := rfl

end Cert.Proof.Merge

end
-- ==== Proof.Bodies.lean ====
/-
  The three TensorCore bodies run: what each leaves in its output blocks, as a function of its input blocks.
-/
module

public import proofs.«01_k».proof.Proof.Setup
public import proofs.«01_k».proof.Proof.Payload
public import Idealize.ShloMosaic.Lib.VecWindow
public import Idealize.ShloMosaic.Lib.Pointwise

@[expose] public section

noncomputable section

namespace Cert.Proof.Merge

open Cert.KernelIdeal Cert.KernelIdeal.Gen

open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-- The block of `t` and the block of counts from a block of rays and the radii. -/
theorem run0 (c : Dev nD) (i : grid0.Coords) (M1 : Memref sig .tc .vmem S8x2048 .f32) (h1 : M1.IsWhole) (M2 : Memref sig .tc .vmem S128x1 .f32)
    (h2 : M2.IsWhole) (M3 : Memref sig .tc .vmem S128x2048 .f32) (h3 : M3.IsWhole) (M4 : Memref sig .tc .vmem S1x1x2048 .i32) (h4 : M4.IsWhole)
    (x1 : Vec F S8x2048 .f32) (x2 : Vec F S128x1 .f32) (Q : PUnit → sProp 𝕄) :
    iprop(owns (c : Thread nD τ) M1 fullShare x1 ∗ owns (c : Thread nD τ) M2 fullShare x2 ∗ (∃ d, owns (c : Thread nD τ) M3 fullShare d)
        ∗ (∃ d, owns (c : Thread nD τ) M4 fullShare d)
        ∗ (owns (c : Thread nD τ) M1 fullShare x1 -∗ owns (c : Thread nD τ) M2 fullShare x2
            -∗ owns (c : Thread nD τ) M3 fullShare (k0_pay1 x1 x2) -∗ owns (c : Thread nD τ) M4 fullShare (k0_pay2 x1 x2) -∗ Q ⟨⟩))
      ⊢ wp frame (wpE (defs₀ (F := F)) 𝒱₀ (c : Thread nD τ) none) Set.univ (cc0__tk_body i M1 h1 M2 h2 M3 h3 M4 h4) Q := by
  rw [cc0__tk_body_eq_skeleton]
  unfold cc0__tk_body_skel owns
  rw [h1.set_eq_univ, h2.set_eq_univ, h3.set_eq_univ, h4.set_eq_univ]
  iintro ⟨⟨%f1, %e1, H1⟩, ⟨%f2, %e2, H2⟩, ⟨%d3, %f3, -, H3⟩, ⟨%d4, %f4, -, H4⟩, HK⟩
  sl_exec
  sl_step
  rw [View.readAt_full M1.view f1, View.readAt_full M2.view f2, e1, e2]
  ihave HK := HK $$ [H1]
  · iexists f1; isplitr; · ipureintro; exact e1
    iexact H1
  ihave HK := HK $$ [H2]
  · iexists f2; isplitr; · ipureintro; exact e2
    iexact H2
  ihave HK := HK $$ [H3]
  · iexists _; isplitr; swap; · iexact H3
    ipureintro; exact View.read_writes_full M3.view f3 inb_S128x2048_S128x2048_0_0 _ []
  ihave HK := HK $$ [H4]
  · iexists _; isplitr; swap; · iexact H4
    ipureintro; exact View.read_writes_full M4.view f4 inb_S1x1x2048_S1x1x2048_0_0_0 _ []
  iexact HK

/-- The block of normalized codes from the codes. -/
theorem run1 (c : Dev nD) (M1 : Memref sig .tc .vmem S16x128 .f32) (h1 : M1.IsWhole) (M2 : Memref sig .tc .vmem S16x128 .f32) (h2 : M2.IsWhole)
    (x1 : Vec F S16x128 .f32) (Q : PUnit → sProp 𝕄) :
    iprop(owns (c : Thread nD τ) M1 fullShare x1 ∗ (∃ d, owns (c : Thread nD τ) M2 fullShare d)
        ∗ (owns (c : Thread nD τ) M1 fullShare x1 -∗ owns (c : Thread nD τ) M2 fullShare (k1_pay1 x1) -∗ Q ⟨⟩))
      ⊢ wp frame (wpE (defs₀ (F := F)) 𝒱₀ (c : Thread nD τ) none) Set.univ (cc1__codes_body M1 h1 M2 h2) Q := by
  rw [cc1__codes_body_eq_skeleton]
  unfold cc1__codes_body_skel owns
  rw [h1.set_eq_univ, h2.set_eq_univ]
  iintro ⟨⟨%f1, %e1, H1⟩, ⟨%d2, %f2, -, H2⟩, HK⟩
  sl_exec
  sl_step
  rw [View.readAt_full M1.view f1, e1]
  ihave HK := HK $$ [H1]
  · iexists f1; isplitr; · ipureintro; exact e1
    iexact H1
  ihave HK := HK $$ [H2]
  · iexists _; isplitr; swap; · iexact H2
    ipureintro; exact View.read_writes_full M2.view f2 inb_S16x128_S16x128_0_0 _ []
  iexact HK

/-- The 25 planes of a block: the point, the direction, the point again, the code, each at every ray and sphere. -/
def planes (x1 : Vec F S128x1024 .f32) (x2 : Vec F S1024x8 .f32) (x3 : Vec F S16x128 .f32) : Vec F S25x1024x128 .f32 := fun j =>
  if h3 : (j 0).val < 3 then
    FloatOps.addf (x2 (ix2 (j 1) ⟨(j 0).val, by omega⟩)) (FloatOps.mulf (x1 (ix2 (j 2) (j 1))) (x2 (ix2 (j 1) ⟨(j 0).val + 3, by omega⟩)))
  else if h6 : (j 0).val < 6 then x2 (ix2 (j 1) ⟨(j 0).val, by omega⟩)
  else if h9 : (j 0).val < 9 then
    FloatOps.addf (x2 (ix2 (j 1) ⟨(j 0).val - 6, by omega⟩)) (FloatOps.mulf (x1 (ix2 (j 2) (j 1))) (x2 (ix2 (j 1) ⟨(j 0).val - 3, by omega⟩)))
  else x3 (ix2 ⟨(j 0).val - 9, by have : (j 0).val < 25 := (j 0).isLt; omega⟩ (j 2))

/-- A stored plane is a plane of a function if it is so at every ray and sphere. -/
theorem plane_eq (G : Vec F S25x1024x128 .f32) (c : ℕ) (hc : c < 25) (inb : ∀ a, (![c, 0, 0] : Fin 3 → ℕ) a + S1x1024x128.size a ≤ S25x1024x128.size a)
    (w : Vec F S1x1024x128 .f32) (h : ∀ (y : Fin 1024) (s : Fin 128), w (ix3 0 y s) = G (ix3 ⟨c, hc⟩ y s)) (x : S1x1024x128.Idx) :
    w x = G ((Rect.unit (s := S25x1024x128) ![c, 0, 0] S1x1024x128.size inb).emb x) := by
  have hx : x = ix3 0 (x 1) (x 2) := by
    refine (eq_ix3 x).trans ?_
    congr 1
    exact Subsingleton.elim (α := Fin 1) _ _
  rw [hx]
  refine (h (x 1) (x 2)).trans (congrArg G (funext fun a => Fin.ext ?_))
  match a with
  | 0 => show c = c + 1 * 0; omega
  | 1 => show (x 1).val = 0 + 1 * (x 1).val; omega
  | 2 => show (x 2).val = 0 + 1 * (x 2).val; omega

/-- Which places a stored plane covers. -/
theorem mem_plane (c : ℕ) (inb : ∀ a, (![c, 0, 0] : Fin 3 → ℕ) a + S1x1024x128.size a ≤ S25x1024x128.size a) (y : S25x1024x128.Idx) (h : (y 0).val = c) :
    y ∈ (Rect.unit (s := S25x1024x128) ![c, 0, 0] S1x1024x128.size inb).set := by
  refine (Rect.unit (s := S25x1024x128) ![c, 0, 0] S1x1024x128.size inb).mem_set.mpr fun a => ?_
  match a with
  | 0 => exact ⟨0, Nat.zero_lt_one, by show (y 0).val = c + 1 * 0; omega⟩
  | 1 => exact ⟨(y 1).val, (y 1).isLt, by show (y 1).val = 0 + 1 * (y 1).val; omega⟩
  | 2 => exact ⟨(y 2).val, (y 2).isLt, by show (y 2).val = 0 + 1 * (y 2).val; omega⟩

/-- The 25 planes and the depths from a block of merged distances, a block of rays and the normalized codes. -/
theorem run3 (c : Dev nD) (i : grid3.Coords) (M1 : Memref sig .tc .vmem S128x1024 .f32) (h1 : M1.IsWhole) (M2 : Memref sig .tc .vmem S1024x8 .f32)
    (h2 : M2.IsWhole) (M3 : Memref sig .tc .vmem S16x128 .f32) (h3 : M3.IsWhole) (M4 : Memref sig .tc .vmem S25x1024x128 .f32) (h4 : M4.IsWhole)
    (M5 : Memref sig .tc .vmem S1024x128 .f32) (h5 : M5.IsWhole)
    (x1 : Vec F S128x1024 .f32) (x2 : Vec F S1024x8 .f32) (x3 : Vec F S16x128 .f32) (Q : PUnit → sProp 𝕄) :
    iprop(owns (c : Thread nD τ) M1 fullShare x1 ∗ owns (c : Thread nD τ) M2 fullShare x2 ∗ owns (c : Thread nD τ) M3 fullShare x3
        ∗ (∃ d, owns (c : Thread nD τ) M4 fullShare d) ∗ (∃ d, owns (c : Thread nD τ) M5 fullShare d)
        ∗ (owns (c : Thread nD τ) M1 fullShare x1 -∗ owns (c : Thread nD τ) M2 fullShare x2 -∗ owns (c : Thread nD τ) M3 fullShare x3
            -∗ owns (c : Thread nD τ) M4 fullShare (planes x1 x2 x3) -∗ owns (c : Thread nD τ) M5 fullShare (k3_pay2 (k3_pay3 x1) x2) -∗ Q ⟨⟩))
      ⊢ wp frame (wpE (defs₀ (F := F)) 𝒱₀ (c : Thread nD τ) none) Set.univ (cc3__assemble_body i M1 h1 M2 h2 M3 h3 M4 h4 M5 h5) Q := by
  rw [cc3__assemble_body_eq_skeleton]
  unfold cc3__assemble_body_skel owns
  rw [k3_part1_eq_skeleton, k3_part2_eq_skeleton, k3_part3_eq_skeleton, k3_part4_eq_skeleton, k3_part5_eq_skeleton]
  unfold k3_part1_skel k3_part2_skel k3_part3_skel k3_part4_skel k3_part5_skel
  rw [h1.set_eq_univ, h2.set_eq_univ, h3.set_eq_univ, h4.set_eq_univ, h5.set_eq_univ]
  iintro ⟨⟨%f1, %e1, H1⟩, ⟨%f2, %e2, H2⟩, ⟨%f3, %e3, H3⟩, ⟨%d4, %f4, -, H4⟩, ⟨%d5, %f5, -, H5⟩, HK⟩
  sl_exec
  sl_step
  rw [View.readAt_full M1.view f1, View.readAt_full M2.view f2, e1, e2]
  ihave HK := HK $$ [H1]
  · iexists f1; isplitr; · ipureintro; exact e1
    iexact H1
  ihave HK := HK $$ [H2]
  · iexists f2; isplitr; · ipureintro; exact e2
    iexact H2
  ihave HK := HK $$ [H3]
  · iexists f3; isplitr; · ipureintro; exact e3
    iexact H3
  ihave HK := HK $$ [H4]
  · iexists _; isplitr; swap; · iexact H4
    ipureintro
    subst e3
    funext y
    refine View.read_writes_apply_of_pieces M4.view f4 (planes x1 x2 (View.read (Elt F) M3.view f3)) _ ?_ y ?_
    swap
    · by_contra hn
      simp only [List.mem_cons, List.not_mem_nil, or_false, not_exists, not_and, forall_eq_or_imp, forall_eq] at hn
      have h25 : (y 0).val < 25 := (y 0).isLt
      have hne : ∀ c inb, y ∉ (Rect.unit (s := S25x1024x128) ![c, 0, 0] S1x1024x128.size inb).set → (y 0).val ≠ c :=
        fun c inb h e => h (mem_plane c inb y e)
      obtain ⟨n24, n23, n22, n21, n20, n19, n18, n17, n16, n15, n14, n13, n12, n11, n10, n9, n5, n8, n2, n4, n7, n1, n3, n6, n0⟩ := hn
      replace n0 := hne 0 _ n0
      replace n6 := hne 6 _ n6
      replace n3 := hne 3 _ n3
      replace n1 := hne 1 _ n1
      replace n7 := hne 7 _ n7
      replace n4 := hne 4 _ n4
      replace n2 := hne 2 _ n2
      replace n8 := hne 8 _ n8
      replace n5 := hne 5 _ n5
      replace n9 := hne 9 _ n9
      replace n10 := hne 10 _ n10
      replace n11 := hne 11 _ n11
      replace n12 := hne 12 _ n12
      replace n13 := hne 13 _ n13
      replace n14 := hne 14 _ n14
      replace n15 := hne 15 _ n15
      replace n16 := hne 16 _ n16
      replace n17 := hne 17 _ n17
      replace n18 := hne 18 _ n18
      replace n19 := hne 19 _ n19
      replace n20 := hne 20 _ n20
      replace n21 := hne 21 _ n21
      replace n22 := hne 22 _ n22
      replace n23 := hne 23 _ n23
      replace n24 := hne 24 _ n24
      omega
    refine List.forall_mem_cons.mpr ⟨?_, ?_⟩
    · refine plane_eq _ 24 (by omega) inb_S25x1024x128_S1x1024x128_24_0_0 _ fun y s => ?_
      pointwise [k3_pay1, k3_pay37, planes]; exact congrArg (View.read (Elt F) M3.view f3) (by funext a; match a with | 0 => rfl | 1 => exact Fin.ext (by show 0 + 1 * s.val = s.val; omega))
    refine List.forall_mem_cons.mpr ⟨?_, ?_⟩
    · refine plane_eq _ 23 (by omega) inb_S25x1024x128_S1x1024x128_23_0_0 _ fun y s => ?_
      pointwise [k3_pay36, planes]; exact congrArg (View.read (Elt F) M3.view f3) (by funext a; match a with | 0 => rfl | 1 => exact Fin.ext (by show 0 + 1 * s.val = s.val; omega))
    refine List.forall_mem_cons.mpr ⟨?_, ?_⟩
    · refine plane_eq _ 22 (by omega) inb_S25x1024x128_S1x1024x128_22_0_0 _ fun y s => ?_
      pointwise [k3_pay35, planes]; exact congrArg (View.read (Elt F) M3.view f3) (by funext a; match a with | 0 => rfl | 1 => exact Fin.ext (by show 0 + 1 * s.val = s.val; omega))
    refine List.forall_mem_cons.mpr ⟨?_, ?_⟩
    · refine plane_eq _ 21 (by omega) inb_S25x1024x128_S1x1024x128_21_0_0 _ fun y s => ?_
      pointwise [k3_pay34, planes]; exact congrArg (View.read (Elt F) M3.view f3) (by funext a; match a with | 0 => rfl | 1 => exact Fin.ext (by show 0 + 1 * s.val = s.val; omega))
    refine List.forall_mem_cons.mpr ⟨?_, ?_⟩
    · refine plane_eq _ 20 (by omega) inb_S25x1024x128_S1x1024x128_20_0_0 _ fun y s => ?_
      pointwise [k3_pay33, planes]; exact congrArg (View.read (Elt F) M3.view f3) (by funext a; match a with | 0 => rfl | 1 => exact Fin.ext (by show 0 + 1 * s.val = s.val; omega))
    refine List.forall_mem_cons.mpr ⟨?_, ?_⟩
    · refine plane_eq _ 19 (by omega) inb_S25x1024x128_S1x1024x128_19_0_0 _ fun y s => ?_
      pointwise [k3_pay32, planes]; exact congrArg (View.read (Elt F) M3.view f3) (by funext a; match a with | 0 => rfl | 1 => exact Fin.ext (by show 0 + 1 * s.val = s.val; omega))
    refine List.forall_mem_cons.mpr ⟨?_, ?_⟩
    · refine plane_eq _ 18 (by omega) inb_S25x1024x128_S1x1024x128_18_0_0 _ fun y s => ?_
      pointwise [k3_pay31, planes]; exact congrArg (View.read (Elt F) M3.view f3) (by funext a; match a with | 0 => rfl | 1 => exact Fin.ext (by show 0 + 1 * s.val = s.val; omega))
    refine List.forall_mem_cons.mpr ⟨?_, ?_⟩
    · refine plane_eq _ 17 (by omega) inb_S25x1024x128_S1x1024x128_17_0_0 _ fun y s => ?_
      pointwise [k3_pay30, planes]; exact congrArg (View.read (Elt F) M3.view f3) (by funext a; match a with | 0 => rfl | 1 => exact Fin.ext (by show 0 + 1 * s.val = s.val; omega))
    refine List.forall_mem_cons.mpr ⟨?_, ?_⟩
    · refine plane_eq _ 16 (by omega) inb_S25x1024x128_S1x1024x128_16_0_0 _ fun y s => ?_
      pointwise [k3_pay29, planes]; exact congrArg (View.read (Elt F) M3.view f3) (by funext a; match a with | 0 => rfl | 1 => exact Fin.ext (by show 0 + 1 * s.val = s.val; omega))
    refine List.forall_mem_cons.mpr ⟨?_, ?_⟩
    · refine plane_eq _ 15 (by omega) inb_S25x1024x128_S1x1024x128_15_0_0 _ fun y s => ?_
      pointwise [k3_pay28, k3_pay27, planes]; exact congrArg (View.read (Elt F) M3.view f3) (by funext a; match a with | 0 => rfl | 1 => exact Fin.ext (by show 0 + 1 * s.val = s.val; omega))
    refine List.forall_mem_cons.mpr ⟨?_, ?_⟩
    · refine plane_eq _ 14 (by omega) inb_S25x1024x128_S1x1024x128_14_0_0 _ fun y s => ?_
      pointwise [k3_pay26, planes]; exact congrArg (View.read (Elt F) M3.view f3) (by funext a; match a with | 0 => rfl | 1 => exact Fin.ext (by show 0 + 1 * s.val = s.val; omega))
    refine List.forall_mem_cons.mpr ⟨?_, ?_⟩
    · refine plane_eq _ 13 (by omega) inb_S25x1024x128_S1x1024x128_13_0_0 _ fun y s => ?_
      pointwise [k3_pay25, planes]; exact congrArg (View.read (Elt F) M3.view f3) (by funext a; match a with | 0 => rfl | 1 => exact Fin.ext (by show 0 + 1 * s.val = s.val; omega))
    refine List.forall_mem_cons.mpr ⟨?_, ?_⟩
    · refine plane_eq _ 12 (by omega) inb_S25x1024x128_S1x1024x128_12_0_0 _ fun y s => ?_
      pointwise [k3_pay24, planes]; exact congrArg (View.read (Elt F) M3.view f3) (by funext a; match a with | 0 => rfl | 1 => exact Fin.ext (by show 0 + 1 * s.val = s.val; omega))
    refine List.forall_mem_cons.mpr ⟨?_, ?_⟩
    · refine plane_eq _ 11 (by omega) inb_S25x1024x128_S1x1024x128_11_0_0 _ fun y s => ?_
      pointwise [k3_pay23, planes]; exact congrArg (View.read (Elt F) M3.view f3) (by funext a; match a with | 0 => rfl | 1 => exact Fin.ext (by show 0 + 1 * s.val = s.val; omega))
    refine List.forall_mem_cons.mpr ⟨?_, ?_⟩
    · refine plane_eq _ 10 (by omega) inb_S25x1024x128_S1x1024x128_10_0_0 _ fun y s => ?_
      pointwise [k3_pay22, k3_pay21, planes]; exact congrArg (View.read (Elt F) M3.view f3) (by funext a; match a with | 0 => rfl | 1 => exact Fin.ext (by show 0 + 1 * s.val = s.val; omega))
    refine List.forall_mem_cons.mpr ⟨?_, ?_⟩
    · refine plane_eq _ 9 (by omega) inb_S25x1024x128_S1x1024x128_9_0_0 _ fun y s => ?_
      pointwise [k3_pay20, planes]; exact congrArg (View.read (Elt F) M3.view f3) (by funext a; match a with | 0 => rfl | 1 => exact Fin.ext (by show 0 + 1 * s.val = s.val; omega))
    refine List.forall_mem_cons.mpr ⟨?_, ?_⟩
    · refine plane_eq _ 5 (by omega) inb_S25x1024x128_S1x1024x128_5_0_0 _ fun y s => ?_
      pointwise [k3_pay19, k3_pay15, planes]
    refine List.forall_mem_cons.mpr ⟨?_, ?_⟩
    · refine plane_eq _ 8 (by omega) inb_S25x1024x128_S1x1024x128_8_0_0 _ fun y s => ?_
      pointwise [k3_pay18, k3_pay16, k3_pay15, k3_pay3, planes]
    refine List.forall_mem_cons.mpr ⟨?_, ?_⟩
    · refine plane_eq _ 2 (by omega) inb_S25x1024x128_S1x1024x128_2_0_0 _ fun y s => ?_
      pointwise [k3_pay17, k3_pay16, k3_pay15, k3_pay3, planes]
    refine List.forall_mem_cons.mpr ⟨?_, ?_⟩
    · refine plane_eq _ 4 (by omega) inb_S25x1024x128_S1x1024x128_4_0_0 _ fun y s => ?_
      pointwise [k3_pay14, k3_pay13, k3_pay9, planes]
    refine List.forall_mem_cons.mpr ⟨?_, ?_⟩
    · refine plane_eq _ 7 (by omega) inb_S25x1024x128_S1x1024x128_7_0_0 _ fun y s => ?_
      pointwise [k3_pay12, k3_pay10, k3_pay9, k3_pay3, planes]
    refine List.forall_mem_cons.mpr ⟨?_, ?_⟩
    · refine plane_eq _ 1 (by omega) inb_S25x1024x128_S1x1024x128_1_0_0 _ fun y s => ?_
      pointwise [k3_pay11, k3_pay10, k3_pay9, k3_pay3, planes]
    refine List.forall_mem_cons.mpr ⟨?_, ?_⟩
    · refine plane_eq _ 3 (by omega) inb_S25x1024x128_S1x1024x128_3_0_0 _ fun y s => ?_
      pointwise [k3_pay8, k3_pay4, planes]
    refine List.forall_mem_cons.mpr ⟨?_, ?_⟩
    · refine plane_eq _ 6 (by omega) inb_S25x1024x128_S1x1024x128_6_0_0 _ fun y s => ?_
      pointwise [k3_pay7, k3_pay5, k3_pay4, k3_pay3, planes]
    refine List.forall_mem_cons.mpr ⟨?_, ?_⟩
    · refine plane_eq _ 0 (by omega) inb_S25x1024x128_S1x1024x128_0_0_0 _ fun y s => ?_
      pointwise [k3_pay6, k3_pay5, k3_pay4, k3_pay3, planes]
    exact fun p hp => absurd hp List.not_mem_nil
  ihave HK := HK $$ [H5]
  · iexists _; isplitr; swap; · iexact H5
    ipureintro; exact View.read_writes_full M5.view f5 inb_S1024x128_S1024x128_0_0 _ []
  iexact HK

end Cert.Proof.Merge
-- ==== Proof.Region.lean ====
/-
  The three TensorCore calls as regions of @main: their proof data at any contents of memory, the body at every
  point, and the step from the buffers before a call to the buffers after it.
-/
module

public import proofs.«01_k».proof.Proof.Bodies
public import proofs.«01_k».proof.Proof.Gen.KernelIdeal.Points
public import proofs.«01_k».proof.Proof.Gen.KernelIdeal.Launch
public import Idealize.ShloMosaic.Lib.Pipeline.RegionsLoop
public import Idealize.ShloMosaic.Lib.Pipeline.RegionArrays
public import Idealize.ShloMosaic.Lib.Pipeline.RegionArraysS
public import Idealize.ShloMosaic.Lib.Pipeline.FrameTail
public import Idealize.ShloMosaic.Lib.Pipeline.FrameBody

@[expose] public section

noncomputable section

namespace Cert.Proof.Merge

open Cert.KernelIdeal Cert.KernelIdeal.Gen

open Idealize.ShloMosaic
open Idealize.ShloMosaic.TcCoe
open Idealize.ShloMosaic.SparseCore.Cfg (HIx Pay)
open Idealize.ShloMosaic.Pipeline (Dat Cfg Window BodyObligation cellOf ucRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-- No call reads a table: there is one choice of tables. -/
abbrev adm : (p : Fin 3) → (pcfgs (F := F) p).Adm := fun p => (cfgs p).toPCfg_adm

/-- The waits a TensorCore may have recorded before the SparseCore call number `n`. -/
def waitsTo (n : ℕ) (c : Dev nD) : Set (SemLoc sig × HIx 1) := {x | (K (F := F)).lev (SparseCore.T c, x.1) x.2 ≤ 8 * n}

variable (W : Valuation τ sig (Elt F))

/-! ## The blocks -/

/-- Operand `w`'s block at point `t`. -/
abbrev blk0 (w : Fin 4) (t : Fin cfg0.N) : ((cfg0.win w).xblock (cfg0.grid.coords t)).Idx → Elt F (cfg0.win w).elt :=
  ((cfg0.win w).blk t).view.read (Elt F) (W (Proc.devRef .tc (Pipeline.arrRef spec0 w)))
abbrev blk1 (w : Fin 2) (t : Fin cfg1.N) : ((cfg1.win w).xblock (cfg1.grid.coords t)).Idx → Elt F (cfg1.win w).elt :=
  ((cfg1.win w).blk t).view.read (Elt F) (W (Proc.devRef .tc (Pipeline.arrRef spec1 w)))
abbrev blk3 (w : Fin 5) (t : Fin cfg3.N) : ((cfg3.win w).xblock (cfg3.grid.coords t)).Idx → Elt F (cfg3.win w).elt :=
  ((cfg3.win w).blk t).view.read (Elt F) (W (Proc.devRef .tc (Pipeline.arrRef spec3 w)))

/-- The proof data of the first call. -/
def dat0 (c : Dev nD) : Dat τ (Elt F) (HIx 1) ℕ UU ℕ cfg0 c where
  A w := W (Proc.devRef .tc (Pipeline.arrRef spec0 w))
  after w t := match w with
    | ⟨0, _⟩ => blk0 W 0 t
    | ⟨1, _⟩ => blk0 W 1 t
    | ⟨2, _⟩ => k0_pay1 (blk0 W 0 t) (blk0 W 1 t)
    | ⟨3, _⟩ => k0_pay2 (blk0 W 0 t) (blk0 W 1 t)
  Φ _ := Pipeline.scopedRest (Ix := HIx 1) (Name := ℕ) (U := UU) (Lvl := ℕ) (Val := Elt F) (Pipeline.pin (pcfgs (F := F)) adm 0).spec c
  q _ := fullShare
  owed _ := (K (F := F)).Otc c 0
  recorded _ := waitsTo (F := F) 0 c

/-- The proof data of the second. -/
def dat1 (c : Dev nD) : Dat τ (Elt F) (HIx 1) ℕ UU ℕ cfg1 c where
  A w := W (Proc.devRef .tc (Pipeline.arrRef spec1 w))
  after w t := match w with
    | ⟨0, _⟩ => blk1 W 0 t
    | ⟨1, _⟩ => k1_pay1 (blk1 W 0 t)
  Φ _ := Pipeline.scopedRest (Ix := HIx 1) (Name := ℕ) (U := UU) (Lvl := ℕ) (Val := Elt F) (Pipeline.pin (pcfgs (F := F)) adm 1).spec c
  q _ := fullShare
  owed _ := (K (F := F)).Otc c 0
  recorded _ := waitsTo (F := F) 0 c

/-- The proof data of the last. -/
def dat3 (c : Dev nD) : Dat τ (Elt F) (HIx 1) ℕ UU ℕ cfg3 c where
  A w := W (Proc.devRef .tc (Pipeline.arrRef spec3 w))
  after w t := match w with
    | ⟨0, _⟩ => blk3 W 0 t
    | ⟨1, _⟩ => blk3 W 1 t
    | ⟨2, _⟩ => blk3 W 2 t
    | ⟨3, _⟩ => planes (blk3 W 0 t) (blk3 W 1 t) (blk3 W 2 t)
    | ⟨4, _⟩ => k3_pay2 (k3_pay3 (blk3 W 0 t)) (blk3 W 1 t)
  Φ _ := Pipeline.scopedRest (Ix := HIx 1) (Name := ℕ) (U := UU) (Lvl := ℕ) (Val := Elt F) (Pipeline.pin (pcfgs (F := F)) adm 2).spec c
  q _ := fullShare
  owed _ := (K (F := F)).Otc c 1
  recorded _ := waitsTo (F := F) 1 c

/-! ## The bodies at every point -/

theorem before0_0 (c : Dev nD) (t : Fin cfg0.N) (d) : (dat0 W c).before 0 t d = blk0 W 0 t :=
  (dat0 W c).before_in_eq_fetched 0 rfl (fun _ => rfl) (fun _ _ _ => rfl) (fun _ => rfl) t d
theorem before0_1 (c : Dev nD) (t : Fin cfg0.N) (d) : (dat0 W c).before 1 t d = blk0 W 1 t :=
  (dat0 W c).before_in_eq_fetched 1 rfl (fun _ => rfl) (fun _ _ _ => rfl) (fun _ => rfl) t d
theorem before1_0 (c : Dev nD) (t : Fin cfg1.N) (d) : (dat1 W c).before 0 t d = blk1 W 0 t :=
  (dat1 W c).before_in_eq_fetched 0 rfl (fun _ => rfl) (fun _ _ _ => rfl) (fun _ => rfl) t d
theorem before3_0 (c : Dev nD) (t : Fin cfg3.N) (d) : (dat3 W c).before 0 t d = blk3 W 0 t :=
  (dat3 W c).before_in_eq_fetched 0 rfl (fun _ => rfl) (fun _ _ _ => rfl) (fun _ => rfl) t d
theorem before3_1 (c : Dev nD) (t : Fin cfg3.N) (d) : (dat3 W c).before 1 t d = blk3 W 1 t :=
  (dat3 W c).before_in_eq_fetched 1 rfl (fun _ => rfl) (fun _ _ _ => rfl) (fun _ => rfl) t d
theorem before3_2 (c : Dev nD) (t : Fin cfg3.N) (d) : (dat3 W c).before 2 t d = blk3 W 2 t :=
  (dat3 W c).before_in_eq_fetched 2 rfl (fun _ => rfl) (fun _ _ _ => rfl) (fun _ => rfl) t d

theorem body0 (c : Dev nD) : BodyObligation (dat0 W c) (defs₀ (F := F)) 𝒱₀ none Set.univ := fun t => by
  rw [bigSep_W0, bigSep_W0]
  rw [show (dat0 W c).Φ t.succ = (dat0 W c).Φ t.castSucc from rfl, show (dat0 W c).owesAt none t.succ = (dat0 W c).owesAt none t.castSucc from rfl]
  iintro ⟨HΦ, Howes, ⟨%d0, H0⟩, ⟨%d1, H1⟩, ⟨%d2, H2⟩, ⟨%d3, H3⟩⟩
  rw [before0_0, before0_1]
  iapply (run0 c (grid0.coords t) (win0_0.stage (cfg0.slots t 0)) (hstage0_0 ((cfg0.slots t 0).cast nbuf0_0)) (win0_1.stage (cfg0.slots t 1))
    (hstage0_1 ((cfg0.slots t 1).cast nbuf0_1)) (win0_2.stage (cfg0.slots t 2)) (hstage0_2 ((cfg0.slots t 2).cast nbuf0_2)) (win0_3.stage (cfg0.slots t 3))
    (hstage0_3 ((cfg0.slots t 3).cast nbuf0_3)) (blk0 W 0 t) (blk0 W 1 t) _)
  isplitl [H0]; · iexact H0
  isplitl [H1]; · iexact H1
  isplitl [H2]; · iexists _; iexact H2
  isplitl [H3]; · iexists _; iexact H3
  iintro H0 H1 H2 H3
  isplitl [HΦ]; · iexact HΦ
  isplitl [Howes]; · iexact Howes
  isplitl [H0]; · iexact H0
  isplitl [H1]; · iexact H1
  isplitl [H2]; · iexact H2
  rw [show (dat0 W c).after 3 t = k0_pay2 (blk0 W 0 t) (blk0 W 1 t) from by dsimp only [dat0]]
  iexact H3

theorem body1 (c : Dev nD) : BodyObligation (dat1 W c) (defs₀ (F := F)) 𝒱₀ none Set.univ := fun t => by
  rw [bigSep_W1, bigSep_W1]
  rw [show (dat1 W c).Φ t.succ = (dat1 W c).Φ t.castSucc from rfl, show (dat1 W c).owesAt none t.succ = (dat1 W c).owesAt none t.castSucc from rfl]
  iintro ⟨HΦ, Howes, ⟨%d0, H0⟩, ⟨%d1, H1⟩⟩
  rw [before1_0]
  iapply (run1 c (win1_0.stage (cfg1.slots t 0)) (hstage1_0 0) (win1_1.stage (cfg1.slots t 1)) (hstage1_1 0) (blk1 W 0 t) _)
  isplitl [H0]; · iexact H0
  isplitl [H1]; · iexists _; iexact H1
  iintro H0 H1
  isplitl [HΦ]; · iexact HΦ
  isplitl [Howes]; · iexact Howes
  isplitl [H0]; · iexact H0
  iexact H1

theorem body3 (c : Dev nD) : BodyObligation (dat3 W c) (defs₀ (F := F)) 𝒱₀ none Set.univ := fun t => by
  rw [bigSep_W3, bigSep_W3]
  rw [show (dat3 W c).Φ t.succ = (dat3 W c).Φ t.castSucc from rfl, show (dat3 W c).owesAt none t.succ = (dat3 W c).owesAt none t.castSucc from rfl]
  iintro ⟨HΦ, Howes, ⟨%d0, H0⟩, ⟨%d1, H1⟩, ⟨%d2, H2⟩, ⟨%d3, H3⟩, ⟨%d4, H4⟩⟩
  rw [before3_0, before3_1, before3_2]
  iapply (run3 c (grid3.coords t) (win3_0.stage (cfg3.slots t 0)) (hstage3_0 ((cfg3.slots t 0).cast nbuf3_0)) (win3_1.stage (cfg3.slots t 1))
    (hstage3_1 ((cfg3.slots t 1).cast nbuf3_1)) (win3_2.stage (cfg3.slots t 2)) (hstage3_2 ((cfg3.slots t 2).cast nbuf3_2)) (win3_3.stage (cfg3.slots t 3))
    (hstage3_3 ((cfg3.slots t 3).cast nbuf3_3)) (win3_4.stage (cfg3.slots t 4)) (hstage3_4 ((cfg3.slots t 4).cast nbuf3_4))
    (blk3 W 0 t) (blk3 W 1 t) (blk3 W 2 t) _)
  isplitl [H0]; · iexact H0
  isplitl [H1]; · iexact H1
  isplitl [H2]; · iexact H2
  isplitl [H3]; · iexists _; iexact H3
  isplitl [H4]; · iexists _; iexact H4
  iintro H0 H1 H2 H3 H4
  isplitl [HΦ]; · iexact HΦ
  isplitl [Howes]; · iexact Howes
  isplitl [H0]; · iexact H0
  isplitl [H1]; · iexact H1
  isplitl [H2]; · iexact H2
  isplitl [H3]; · iexact H3
  iexact H4

/-! ## The regions -/

/-- What the TensorCore holds between calls: every unscoped buffer at `W`, and what it owes before SparseCore call `n`. -/
def atCall (n : ℕ) (W : Valuation τ sig (Elt F)) (c : Dev nD) : sProp 𝕄 :=
  iprop(StableHlo.held (c : Thread nD τ) (ucRefs τ sig) W
    ∗ ∃ B, ⌜(K (F := F)).WBelow (SparseCore.T c) B (8 * n)⌝ ∗ owes (c : Thread nD τ) ((K (F := F)).Otc c n) B)

set_option backward.isDefEq.respectTransparency.types false in
/-- A call as a region, from its proof data. -/
def seg (p : Fin 3) (kit : Pipeline.LaunchFacts (nD := nD) (τ := τ) cfgs p)
    (pd : (p : Fin 3) → (c : Dev nD) → Dat τ (Elt F) (HIx 1) ℕ UU ℕ (Pipeline.pin (pcfgs (F := F)) adm p) c) (n : ℕ)
    (hbody : ∀ c, BodyObligation (pd p c) (defs₀ (F := F)) 𝒱₀ none Set.univ)
    (hA : ∀ c w, (pd p c).A w = W (Proc.devRef .tc (Pipeline.arrRef (Pipeline.pin (pcfgs (F := F)) adm p).spec w)))
    (hq : ∀ c w, (pd p c).q w = fullShare)
    (hΦ : ∀ c t, (pd p c).Φ t = Pipeline.scopedRest (Ix := HIx 1) (Name := ℕ) (U := UU) (Lvl := ℕ) (Val := Elt F) (Pipeline.pin (pcfgs (F := F)) adm p).spec c)
    (howed : ∀ c t, (pd p c).owed t = (K (F := F)).Otc c n) (hrec : ∀ c t, (pd p c).recorded t = waitsTo (F := F) n c)
    (W' : Valuation τ sig (Elt F)) (hW' : ∀ c w, (pd p c).arrAt w (Pipeline.pin (pcfgs (F := F)) adm p).N = W' (Proc.devRef .tc (Pipeline.arrRef (Pipeline.pin (pcfgs (F := F)) adm p).spec w)))
    (hoff : ∀ b : Ref sig .tc, b ∉ Finset.univ.image (Pipeline.arrRef (Pipeline.pin (pcfgs (F := F)) adm p).spec) → W' (Proc.devRef .tc b) = W (Proc.devRef .tc b)) :
    Pipeline.RegionSeg (pcfgs (F := F)) adm pd none defs₀ 𝒱₀ (K (F := F)).L (K (F := F)).lev p where
  win := kit.win.to₀
  block_pos := kit.block_pos
  stage_whole := kit.stage_whole
  K := PEmpty
  osem k := k.elim
  ho := Pipeline.OwnSemFacts.none _
  hbody c := (hbody c).loose
  hwaits c := Pipeline.cellsWaits_of_cut (Pipeline.pin (pcfgs (F := F)) adm) pd none p c (8 * n) _ (howed c)
    (fun _ _ => Finset.mem_univ _) (fun _ _ => Nat.zero_le _) (fun g i h => ⟨Finset.mem_univ _, (K (F := F)).lev_of_Otc_pos h⟩)
  pre := atCall n W
  post := atCall n W'
  X _ := BI.emp
  Y _ := BI.emp
  Z c := Pipeline.unscopedRest (Ix := HIx 1) (Name := ℕ) (U := UU) (Lvl := ℕ) (Pipeline.pin (pcfgs (F := F)) adm p).spec c fun b => W b
  hentry c := by
    rw [Pipeline.ownSems0_none, Pipeline.prefHeld_of_none _ rfl]
    unfold atCall
    rw [← Pipeline.unscopedBufs_held]
    have hsplit := Pipeline.arrays_of_unscopedBufs (pcfgs (F := F)) adm pd (p := p) kit.win kit.arr_whole c ((pd p c).share_full (hq c)) (fun b => W b) (hA c)
    iintro ⟨⟨Hub, HO⟩, -, -⟩
    ihave H := hsplit $$ Hub
    icases H with ⟨Ha, Hrest⟩
    imodintro
    isplitl [Ha]; · iexact Ha
    isplitr; · iempintro
    isplitl [HO]
    · unfold Pipeline.Dat.owesAt Pipeline.owesWithin Pipeline.Dat.bound
      rw [howed c 0, hrec c 0]
      icases HO with ⟨%B, %hB, HO⟩; iexists B; isplitr
      · ipureintro; exact fun x hx => Or.inl (hB x hx)
      iexact HO
    isplitr; · iempintro
    iexact Hrest
  hin c := by
    rw [hΦ c 0]
    iintro ⟨-, -, Hr⟩; iexact Hr
  hout c := by
    rw [Pipeline.ownSems0_none, hΦ c]
    iintro Hr
    isplitr; · iempintro
    isplitr; · iempintro
    iexact Hr
  hexit c := by
    unfold atCall
    rw [← Pipeline.unscopedBufs_held]
    have hjoin := Pipeline.unscopedBufs_of_arrays (p := p) (pcfgs (F := F)) adm (Ix := HIx 1) (Name := ℕ) (U := UU) (Lvl := ℕ) kit.win kit.arr_whole c
      pd ((pd p c).share_full (hq c)) (fun b => W b) (fun b => W' b) ((pd p c).arrAt · (Pipeline.pin (pcfgs (F := F)) adm p).N) (hW' c) hoff
    iintro ⟨Ha, HO, -, Hrest⟩
    imodintro
    isplitl [Ha Hrest]
    · iapply hjoin; isplitl [Ha] <;> iassumption
    unfold Pipeline.Dat.owesAt Pipeline.owesWithin Pipeline.Dat.bound
    rw [howed c, hrec c]
    icases HO with ⟨%B, %hB, HO⟩; iexists B; isplitr
    · ipureintro
      intro x hx
      rcases hB hx with h | ⟨w, s, h⟩
      · exact h
      · rw [h]; exact Nat.zero_le _
    iexact HO

/-- Data for a call a region does not run. -/
def junkDat {cfg : Cfg sig Λ₀} (c : Dev nD) : Dat τ (Elt F) (HIx 1) ℕ UU ℕ cfg c where
  A _ := fun _ => Classical.arbitrary _
  after _ _ := fun _ => Classical.arbitrary _
  Φ _ := BI.emp
  q _ := fullShare
  owed _ := 0

def pd0 : (p : Fin 3) → (c : Dev nD) → Dat τ (Elt F) (HIx 1) ℕ UU ℕ (Pipeline.pin (pcfgs (F := F)) adm p) c
  | ⟨0, _⟩ => fun c => dat0 W c
  | ⟨1, _⟩ => fun c => junkDat c
  | ⟨2, _⟩ => fun c => junkDat c
def pd1 : (p : Fin 3) → (c : Dev nD) → Dat τ (Elt F) (HIx 1) ℕ UU ℕ (Pipeline.pin (pcfgs (F := F)) adm p) c
  | ⟨0, _⟩ => fun c => junkDat c
  | ⟨1, _⟩ => fun c => dat1 W c
  | ⟨2, _⟩ => fun c => junkDat c
def pd3 : (p : Fin 3) → (c : Dev nD) → Dat τ (Elt F) (HIx 1) ℕ UU ℕ (Pipeline.pin (pcfgs (F := F)) adm p) c
  | ⟨0, _⟩ => fun c => junkDat c
  | ⟨1, _⟩ => fun c => junkDat c
  | ⟨2, _⟩ => fun c => dat3 W c

/-- Memory after each call. -/
def after0 : Valuation τ sig (Elt F) := Pipeline.afterRegion (dat0 W (0 : Dev nD)) W
def after1 : Valuation τ sig (Elt F) := Pipeline.afterRegion (dat1 W (0 : Dev nD)) W
def after3 : Valuation τ sig (Elt F) := Pipeline.afterRegion (dat3 W (0 : Dev nD)) W

theorem off_of {W gr : ℕ} {win : Fin W → Pipeline.WinSpec sig gr} {b : Ref sig .tc} (h : b ∉ Finset.univ.image (Pipeline.arrRef win)) :
    ∀ w, b ≠ Pipeline.arrRef win w := fun w e => h (Finset.mem_image.mpr ⟨w, Finset.mem_univ _, e.symm⟩)

def seg0 : Pipeline.RegionSeg (pcfgs (F := F)) adm (pd0 W) none defs₀ 𝒱₀ (K (F := F)).L (K (F := F)).lev 0 :=
  seg W 0 launch0 (pd0 W) 0 (body0 W) (fun _ _ => rfl)
    (fun _ _ => rfl)
    (fun _ _ => by dsimp only [pd0, pd1, pd3, dat0, dat1, dat3])
    (fun _ _ => by dsimp only [pd0, pd1, pd3, dat0, dat1, dat3])
    (fun _ _ => by dsimp only [pd0, pd1, pd3, dat0, dat1, dat3])
    (after0 W)
    (fun c w => by
      obtain rfl : c = 0 := Subsingleton.elim _ _
      exact (Pipeline.afterRegion_arr (dat0 W 0) W winFacts0.arr_inj w).symm)
    (fun b h => Pipeline.afterRegion_of_not_arr (dat0 W 0) W (off_of h))
def seg1 : Pipeline.RegionSeg (pcfgs (F := F)) adm (pd1 W) none defs₀ 𝒱₀ (K (F := F)).L (K (F := F)).lev 1 :=
  seg W 1 launch1 (pd1 W) 0 (body1 W) (fun _ _ => rfl)
    (fun _ _ => rfl)
    (fun _ _ => by dsimp only [pd0, pd1, pd3, dat0, dat1, dat3])
    (fun _ _ => by dsimp only [pd0, pd1, pd3, dat0, dat1, dat3])
    (fun _ _ => by dsimp only [pd0, pd1, pd3, dat0, dat1, dat3])
    (after1 W)
    (fun c w => by
      obtain rfl : c = 0 := Subsingleton.elim _ _
      exact (Pipeline.afterRegion_arr (dat1 W 0) W winFacts1.arr_inj w).symm)
    (fun b h => Pipeline.afterRegion_of_not_arr (dat1 W 0) W (off_of h))
def seg3 : Pipeline.RegionSeg (pcfgs (F := F)) adm (pd3 W) none defs₀ 𝒱₀ (K (F := F)).L (K (F := F)).lev 2 :=
  seg W 2 launch3 (pd3 W) 1 (body3 W) (fun _ _ => rfl)
    (fun _ _ => rfl)
    (fun _ _ => by dsimp only [pd0, pd1, pd3, dat0, dat1, dat3])
    (fun _ _ => by dsimp only [pd0, pd1, pd3, dat0, dat1, dat3])
    (fun _ _ => by dsimp only [pd0, pd1, pd3, dat0, dat1, dat3])
    (after3 W)
    (fun c w => by
      obtain rfl : c = 0 := Subsingleton.elim _ _
      exact (Pipeline.afterRegion_arr (dat3 W 0) W winFacts3.arr_inj w).symm)
    (fun b h => Pipeline.afterRegion_of_not_arr (dat3 W 0) W (off_of h))

end Cert.Proof.Merge

end
-- ==== Proof.Lane.lean ====
/-
  One lane group's step (`lanes`) with its values: from both scratches, the pointers where the walk stands after `t`
  steps, it writes the sixteen columns' values of row `t` and leaves the pointers where the walk stands after `t + 1`.
-/
module

public import proofs.«01_k».proof.Proof.Setup

@[expose] public section

noncomputable section

namespace Cert.Proof.Merge

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The scatter at one row, sixteen neighbouring columns -/

/-- One lane's write. -/
def scatterStep {s : Shape} {c : Fin 1 → ℕ} (idxs : Fin s.rank → IVec ⟨1, c⟩ 32) (h : ∀ a x, (idxs a x).toNat < s.size a)
    (v : Vec F ⟨1, c⟩ .f32) (g : Vec F s .f32) (k : Fin (c 0)) : Vec F s .f32 :=
  fun j => if ∀ a, (j a).val = (idxAt idxs h (Shape.ofLane k) a).val then v (Shape.ofLane k) else g j

/-- A scatter of every lane is its lanes' writes in order. -/
theorem storeIdx_eq {s : Shape} {c : Fin 1 → ℕ} (idxs : Fin s.rank → IVec ⟨1, c⟩ 32) (h : ∀ a x, (idxs a x).toNat < s.size a)
    (v : Vec F ⟨1, c⟩ .f32) (f : Vec F s .f32) :
    storeIdx f idxs v (fun _ => 1#1) false h = (List.finRange (c 0)).foldl (scatterStep idxs h v) f := by
  unfold storeIdx
  congr 1
  funext g k
  refine (if_pos rfl).trans ?_
  funext j
  unfold scatterStep
  simp only [Bool.false_eq_true, if_false]

/-- The lanes of a group. -/
abbrev L16 : Type := Fin ((![16] : Fin 1 → ℕ) 0)

section Scatter

variable {row rid : IVec S16 32} {t b : ℕ} (hrow : ∀ x, (row x).toNat = t) (hrid : ∀ x, (rid x).toNat = b + (x 0).val)
    (hst : ∀ a x, ((![row, rid] : Fin 2 → IVec S16 32) a x).toNat < S128x256.size a)

include hrow hrid

/-- Lane `k` names row `t`, column `b + k`. -/
theorem idxAt_iff (k : L16) (j : S128x256.Idx) :
    (∀ a, (j a).val = (idxAt ![row, rid] hst (Shape.ofLane k) a).val) ↔ (j 0).val = t ∧ (j 1).val = b + k.val := by
  constructor
  · intro h
    exact ⟨(h 0).trans (hrow _), (h 1).trans (hrid _)⟩
  · rintro ⟨h0, h1⟩ a
    match a with
    | 0 => exact h0.trans (hrow _).symm
    | 1 => exact h1.trans (hrid (Shape.ofLane k)).symm

theorem scatterStep_apply (v : Vec F S16 .f32) (g : Vec F S128x256 .f32) (k : L16) (j : S128x256.Idx) :
    scatterStep ![row, rid] hst v g k j = if (j 0).val = t ∧ (j 1).val = b + k.val then v (Shape.ofLane k) else g j := by
  unfold scatterStep
  by_cases h : (j 0).val = t ∧ (j 1).val = b + k.val
  · rw [if_pos h]; exact if_pos ((idxAt_iff hrow hrid hst k j).mpr h)
  · rw [if_neg h]; exact if_neg fun h' => h ((idxAt_iff hrow hrid hst k j).mp h')

theorem scatter_miss (v : Vec F S16 .f32) (j : S128x256.Idx) (l : List L16) (f : Vec F S128x256 .f32)
    (h : ∀ k ∈ l, ¬((j 0).val = t ∧ (j 1).val = b + k.val)) : l.foldl (scatterStep ![row, rid] hst v) f j = f j := by
  induction l generalizing f with
  | nil => rfl
  | cons a l ih =>
    rw [List.foldl_cons, ih _ fun k hk => h k (List.mem_cons_of_mem _ hk), scatterStep_apply hrow hrid hst, if_neg (h a List.mem_cons_self)]

theorem scatter_hit (v : Vec F S16 .f32) (j : S128x256.Idx) (k : L16) (h0 : (j 0).val = t) (h1 : (j 1).val = b + k.val)
    (l : List L16) (f : Vec F S128x256 .f32) (hk : k ∈ l) : l.foldl (scatterStep ![row, rid] hst v) f j = v (Shape.ofLane k) := by
  induction l generalizing f with
  | nil => exact absurd hk List.not_mem_nil
  | cons a l ih =>
    rw [List.foldl_cons]
    by_cases hl : k ∈ l
    · exact ih _ hl
    · have ha : k = a := (List.mem_cons.mp hk).resolve_right hl
      subst ha
      rw [scatter_miss hrow hrid hst v j l _ fun k' hk' => fun h => hl (by
          have : k = k' := Fin.ext (by omega)
          exact this ▸ hk'), scatterStep_apply hrow hrid hst, if_pos ⟨h0, h1⟩]

/-- The scattered contents at a place of the row and the columns. -/
theorem storeIdx_hit (f : Vec F S128x256 .f32) (v : Vec F S16 .f32) (j : S128x256.Idx) (x : S16.Idx) (h0 : (j 0).val = t) (h1 : (j 1).val = b + (x 0).val) :
    storeIdx f ![row, rid] v (fun _ => 1#1) false hst j = v x := by
  have hx : x = (Shape.ofLane (x 0) : S16.Idx) := by
    funext a
    match a with
    | 0 => rfl
  rw [storeIdx_eq]
  refine (scatter_hit hrow hrid hst v j (x 0) h0 h1 (List.finRange ((![16] : Fin 1 → ℕ) 0)) f (List.mem_finRange (x 0))).trans ?_
  exact congrArg v hx.symm

/-- The scattered contents elsewhere. -/
theorem storeIdx_miss (f : Vec F S128x256 .f32) (v : Vec F S16 .f32) (j : S128x256.Idx)
    (h : ¬((j 0).val = t ∧ b ≤ (j 1).val ∧ (j 1).val < b + 16)) :
    storeIdx f ![row, rid] v (fun _ => 1#1) false hst j = f j := by
  rw [storeIdx_eq]
  exact scatter_miss hrow hrid hst v j (List.finRange ((![16] : Fin 1 → ℕ) 0)) f fun k _ hk => h ⟨hk.1, by omega, by have : k.val < 16 := k.isLt; omega⟩

end Scatter

/-! ## Progress -/

/-- Column `c` of the out scratch is merged in its first `n c` rows. -/
def Done (big : F .f32) (f5 : Vec F S128x256 .f32) (f7 : Vec F S256 .i32) (f6 : Vec F S128x256 .f32) (n : ℕ → ℕ) : Prop :=
  ∀ j : S128x256.Idx, (j 0).val < n (j 1).val → f6 j = mergedV big f5 f7 j

/-- The pointers of the group at column `b` stand where the walks do after `t` steps. -/
def AtStep (big : F .f32) (f5 : Vec F S128x256 .f32) (f7 : Vec F S256 .i32) (b t : ℕ) (lo hi : IVec S16 32) : Prop :=
  ∀ x : S16.Idx, (lo x, hi x) = walk big (fun r => f5 (ix r (b + (x 0).val))) (f7 (ixk (b + (x 0).val))) t

/-- `n` with the group at `b` one row on. -/
def bump (n : ℕ → ℕ) (b t : ℕ) (c : ℕ) : ℕ := if b ≤ c ∧ c < b + 16 then t + 1 else n c

section Step

variable {row rid : IVec S16 32} {t b : ℕ} (hrow : ∀ x, (row x).toNat = t) (hrid : ∀ x, (rid x).toNat = b + (x 0).val)
  (ht : t < 128) (hb : b + 16 ≤ 256)

include hrid hb in
/-- The group's columns and rows in range are inside the scratch. -/
theorem chk_of (r : IVec S16 32) (hr : ∀ x, (r x).toNat < 128) : ∀ a x, ((![r, rid] : Fin 2 → IVec S16 32) a x).toNat < S128x256.size a := by
  intro a x
  match a with
  | 0 => exact hr x
  | 1 =>
    show (rid x).toNat < 256
    have h16 : (x 0).val < 16 := (x 0).isLt
    rw [hrid]; omega

include hrid hb in
/-- What a gather at the clipped pointers reads, lane by lane. -/
theorem load_clip (f5 : Vec F S128x256 .f32) (p : IVec S16 32)
    (h : ∀ a x, ((![clip p, rid] : Fin 2 → IVec S16 32) a x).toNat < S128x256.size a) (x : S16.Idx) :
    loadIdx f5 ![clip p, rid] h x = f5 (ix (clip1 (p x)).toNat (b + (x 0).val)) := by
  show f5 _ = f5 _
  congr 1
  have h16 : (x 0).val < 16 := (x 0).isLt
  funext a
  match a with
  | 0 => exact Fin.ext (show (clip p x).toNat = (clip1 (p x)).toNat % 128 by rw [clip_apply, Nat.mod_eq_of_lt (clip1_lt _)])
  | 1 => exact Fin.ext (show (rid x).toNat = (b + (x 0).val) % 256 by rw [hrid, Nat.mod_eq_of_lt (by omega)])

/-- The group's choice. -/
abbrev tkOf {rid lo hi : IVec S16 32} (h1 : ∀ a x, ((![clip lo, rid] : Fin 2 → IVec S16 32) a x).toNat < S128x256.size a)
    (h2 : ∀ a x, ((![clip hi, rid] : Fin 2 → IVec S16 32) a x).toNat < S128x256.size a) (big : F .f32) (f5 : Vec F S128x256 .f32) : IVec S16 1 :=
  takeLo big lo hi (loadIdx f5 ![clip lo, rid] h1) (loadIdx f5 ![clip hi, rid] h2)

variable {big : F .f32} {f5 f6 : Vec F S128x256 .f32} {f7 : Vec F S256 .i32} {lo hi : IVec S16 32} {n : ℕ → ℕ}
  (h1 : ∀ a x, ((![clip lo, rid] : Fin 2 → IVec S16 32) a x).toNat < S128x256.size a)
  (h2 : ∀ a x, ((![clip hi, rid] : Fin 2 → IVec S16 32) a x).toNat < S128x256.size a)

include hrid hb in
theorem tkOf_apply (hs : AtStep big f5 f7 b t lo hi) (x : S16.Idx) :
    tkOf h1 h2 big f5 x
      = choice big (fun r => f5 (ix r (b + (x 0).val))) (walk big (fun r => f5 (ix r (b + (x 0).val))) (f7 (ixk (b + (x 0).val))) t) := by
  rw [tkOf, takeLo_apply, load_clip hrid hb, load_clip hrid hb, ← hs x]
  rfl

include hrid hb in
/-- The pointers after the step. -/
theorem atStep_succ (hs : AtStep big f5 f7 b t lo hi) :
    AtStep big f5 f7 b (t + 1) (nextLo (tkOf h1 h2 big f5) lo) (nextHi (tkOf h1 h2 big f5) hi) := by
  intro x
  have hc := tkOf_apply hrid hb h1 h2 hs x
  have hx := hs x
  show ((if tkOf h1 h2 big f5 x = 1#1 then lo x - 1#32 else lo x), (if tkOf h1 h2 big f5 x = 1#1 then hi x else hi x + 1#32)) = _
  rw [walk, hc, ← hx]
  split <;> rfl

include hrow hrid hb ht in
/-- The progress after the step. -/
theorem done_succ (hst : ∀ a x, ((![row, rid] : Fin 2 → IVec S16 32) a x).toNat < S128x256.size a)
    (hs : AtStep big f5 f7 b t lo hi) (hn : ∀ c, b ≤ c → c < b + 16 → n c = t) (hd : Done big f5 f7 f6 n) :
    Done big f5 f7 (storeIdx f6 ![row, rid]
      (select (tkOf h1 h2 big f5) (loadIdx f5 ![clip lo, rid] h1) (loadIdx f5 ![clip hi, rid] h2)) (fun _ => 1#1) false hst) (bump n b t) := by
  intro j hj
  by_cases hg : b ≤ (j 1).val ∧ (j 1).val < b + 16
  · rw [bump, if_pos hg] at hj
    by_cases h0 : (j 0).val = t
    · obtain ⟨x, hx⟩ : ∃ x : S16.Idx, (j 1).val = b + (x 0).val :=
        ⟨fun | 0 => ⟨(j 1).val - b, by show (j 1).val - b < 16; omega⟩, by show (j 1).val = b + ((j 1).val - b); omega⟩
      rw [storeIdx_hit hrow hrid hst f6 _ j x h0 hx]
      show (if tkOf h1 h2 big f5 x = 1#1 then loadIdx f5 ![clip lo, rid] h1 x else loadIdx f5 ![clip hi, rid] h2 x) = _
      rw [tkOf_apply hrid hb h1 h2 hs, load_clip hrid hb, load_clip hrid hb]
      have hw := hs x
      rw [mergedV, pick, h0, hx, ← hw]
    · rw [storeIdx_miss hrow hrid hst f6 _ j fun h => h0 h.1]
      exact hd j (by rw [hn _ hg.1 hg.2]; omega)
  · rw [bump, if_neg hg] at hj
    rw [storeIdx_miss hrow hrid hst f6 _ j fun h => hg h.2]
    exact hd j hj

end Step

/-! ## The scratches as a tile holds them -/

section Wp

variable (thr : Thread nD τ)

abbrev m5 : Memref sig .scVector .vmem S128x256 .f32 := Memref.whole cc2_scratch0
abbrev m6 : Memref sig .scVector .vmem S128x256 .f32 := Memref.whole cc2_scratch1
abbrev m7 : Memref sig .scVector .vmem S256 .i32 := Memref.whole cc2_scratch2

variable (d : Dev nD) (p : Fin τ.nSC × Fin τ.nSub)

/-- The columns of `t` a tile holds. -/
abbrev pts5 (f : Vec F S128x256 .f32) : sProp 𝕄 := (V d p.1 p.2).loc cc2_scratch0 ↦{fullShare} f
/-- The merged columns a tile holds. -/
abbrev pts6 (f : Vec F S128x256 .f32) : sProp 𝕄 := (V d p.1 p.2).loc cc2_scratch1 ↦{fullShare} f
/-- The counts a tile holds. -/
abbrev pts7 (f : Vec F S256 .i32) : sProp 𝕄 := (V d p.1 p.2).loc cc2_scratch2 ↦{fullShare} f

theorem pts6_whole (f : Vec F S128x256 .f32) :
    ((m6.access (.whole S128x256)).loc (V d p.1 p.2) ↦[(m6.access (.whole S128x256)).set]{fullShare} f : sProp 𝕄) = pts6 d p f := by
  rw [show (m6.access (.whole S128x256)).set = Finset.univ from Memref.set_access_whole (cc2_scratch1 : Ref sig .scVector)]

/-- The out scratch, its progress `n`. -/
def out6 (big : F .f32) (f5 : Vec F S128x256 .f32) (f7 : Vec F S256 .i32) (n : ℕ → ℕ) : sProp 𝕄 :=
  iprop(∃ f6 : Vec F S128x256 .f32, ⌜Done big f5 f7 f6 n⌝ ∗ pts6 d p f6)

/-- What a gather reads is the held contents. -/
theorem read5 (f : Vec F S128x256 .f32) : View.read (Elt F) (m5.access (Rect.whole S128x256)) f = f :=
  Memref.read_access_whole (Elt F) (cc2_scratch0 : Ref sig .scVector) f
theorem read6 (f : Vec F S128x256 .f32) : View.read (Elt F) (m6.access (Rect.whole S128x256)) f = f :=
  Memref.read_access_whole (Elt F) (cc2_scratch1 : Ref sig .scVector) f
theorem write6 (f w : Vec F S128x256 .f32) : View.write (Elt F) (m6.access (Rect.whole S128x256)) f w Finset.univ = w :=
  Memref.write_access_whole_univ (Elt F) (cc2_scratch1 : Ref sig .scVector) f w

/-- A group's step at the head of a program. -/
theorem wp_lanes {row rid : IVec S16 32} {t b : ℕ} (hrow : ∀ x, (row x).toNat = t) (hrid : ∀ x, (rid x).toNat = b + (x 0).val)
    (ht : t < 128) (hb : b + 16 ≤ 256) {big : F .f32} {f5 : Vec F S128x256 .f32} {f7 : Vec F S256 .i32} {lo hi : IVec S16 32} {n : ℕ → ℕ}
    (hst : ∀ a x, ((![row, rid] : Fin 2 → IVec S16 32) a x).toNat < S128x256.size a)
    (hs : AtStep big f5 f7 b t lo hi) (hn : ∀ c, b ≤ c → c < b + 16 → n c = t)
    {α : Type} (k : IVec S16 32 × IVec S16 32 → Prog (TpuEff nD τ sig (Elt F) Λ₀ (.scVector p.1 p.2)) α) (Q : α → sProp 𝕄) [Named F] :
    iprop(pts5 d p f5 ∗ out6 d p big f5 f7 n
        ∗ (∀ lo' hi', ⌜AtStep big f5 f7 b (t + 1) lo' hi'⌝ -∗ pts5 d p f5 -∗ out6 d p big f5 f7 (bump n b t)
            -∗ wp frame (wpE (defs₀ (F := F)) 𝒱₀ (V d p.1 p.2) none) Set.univ (k (lo', hi')) Q))
      ⊢ wp frame (wpE (defs₀ (F := F)) 𝒱₀ (V d p.1 p.2) none) Set.univ (lanes p m5 m6 big rid row hst lo hi >>= k) Q := by
  have h1 : k2_chk1 rid (clip lo) := chk_of hrid hb (clip lo) fun x => clip1_lt _
  have h2 : k2_chk1 rid (clip hi) := chk_of hrid hb (clip hi) fun x => clip1_lt _
  unfold lanes
  iintro ⟨H5, H6, HK⟩
  unfold out6
  icases H6 with ⟨%f6, %hd, H6⟩
  simp only [bind_assoc]
  simp only [Prog.bind_lift]
  rw [wp_assume_of _ _ _ _ h1]
  rw [wp_assume_of _ _ _ _ h2]
  iapply (SparseCore.wp_vectorLoadIdx 𝒱₀ (V d p.1 p.2) none Set.univ (base := m5) (S := Finset.univ) (q := fullShare) (f := f5) (Finset.subset_univ _)) $$ H5
  iintro H5
  iapply (SparseCore.wp_vectorLoadIdx 𝒱₀ (V d p.1 p.2) none Set.univ (base := m5) (S := Finset.univ) (q := fullShare) (f := f5) (Finset.subset_univ _)) $$ H5
  iintro H5
  ihave H6 := (Entails.of_eq (pts6_whole (F := F) d p _).symm) $$ H6
  iapply (SparseCore.wp_vectorStoreIdx 𝒱₀ (V d p.1 p.2) none Set.univ (base := m6)) $$ H6
  iintro H6
  ihave H6 := (Entails.of_eq (pts6_whole (F := F) d p _)) $$ H6
  rw [write6, read6, read5]
  rw [pure_bind]
  ihave HK1 := HK $$ %_ %_ []
  · ipureintro; exact atStep_succ hrid hb h1 h2 hs
  ihave HK2 := HK1 $$ [H5]; · iexact H5
  iapply HK2
  iexists _
  isplitr
  · ipureintro
    exact done_succ hrow hrid ht hb h1 h2 hst hs hn hd
  · iexact H6

end Wp

end Cert.Proof.Merge

end
-- ==== Proof.Block.lean ====
/-
  One block of the SparseCore kernel with its values: the loop of 128 trips over four lane groups carries the walks of
  sixty-four columns from their first step to their last, and the four blocks of a half merge all 256 columns.
-/
module

public import proofs.«01_k».proof.Proof.Lane

@[expose] public section

noncomputable section

namespace Cert.Proof.Merge

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## Rows and columns as numbers -/

theorem trips_eq : k2_t1_loop.trips = 128 := by decide

/-- Trip `t` writes row `t`. -/
theorem row_toNat (t : ℕ) (ht : t < 128) (x : S16.Idx) :
    ((addi (broadcast S16 0#32) (broadcast S16 (Scf.iv 0#32 1#32 t)) : IVec S16 32) x).toNat = t := by
  show (0#32 + Scf.iv 0#32 1#32 t).toNat = t
  simp [Scf.iv]
  omega

/-- Lane `x` of the group at `o` is column `o + x`. -/
theorem rid_toNat (o : BitVec 32) (ho : o.toNat < 4096) (x : S16.Idx) : (ridOf o x).toNat = o.toNat + (x 0).val := by
  have h16 : (x 0).val < 16 := (x 0).isLt
  show (o + iota .scVector S16 32 [0] iota_S16_d0_w32_scVector x).toNat = _
  have : iota .scVector S16 32 [0] iota_S16_d0_w32_scVector x = BitVec.ofNat 32 (x 0).val := by
    simp [iota]
  rw [this, BitVec.toNat_add, BitVec.toNat_ofNat, Nat.mod_eq_of_lt (by omega : (x 0).val < 2 ^ 32), Nat.mod_eq_of_lt (by omega)]

/-- `n` with the sixty-four columns from `b` at row `t`. -/
def span (n : ℕ → ℕ) (b t : ℕ) (c : ℕ) : ℕ := if b ≤ c ∧ c < b + 64 then t else n c

theorem span_succ (n : ℕ → ℕ) (b t : ℕ) :
    bump (bump (bump (bump (span n b t) b t) (b + 16) t) (b + 32) t) (b + 48) t = span n b (t + 1) := by
  funext c
  simp only [bump, span]
  repeat' split
  all_goals first | rfl | omega

section Wp

variable (d : Dev nD) (p : Fin τ.nSC × Fin τ.nSub)

/-- Fewer rows are merged too. -/
theorem out6_mono {big : F .f32} {f5 : Vec F S128x256 .f32} {f7 : Vec F S256 .i32} {n n' : ℕ → ℕ} (h : ∀ c, n' c ≤ n c) :
    (out6 d p big f5 f7 n : sProp 𝕄) ⊢ out6 d p big f5 f7 n' := by
  unfold out6
  iintro ⟨%f6, %hd, H⟩
  iexists f6; isplitr
  · ipureintro; exact fun j hj => hd j (lt_of_lt_of_le hj (h _))
  · iexact H

/-- The loop's invariant: the columns of `t` held, the block's columns merged in their first `t` rows, the four groups'
    pointers where the walks stand. -/
def loopInv (big : F .f32) (f5 : Vec F S128x256 .f32) (f7 : Vec F S256 .i32) (n : ℕ → ℕ) (b t : ℕ) (s : Ptrs F) : sProp 𝕄 :=
  iprop(pts5 d p f5 ∗ out6 d p big f5 f7 (span n b t)
    ∗ ⌜AtStep big f5 f7 b t s.1 s.2.1 ∧ AtStep big f5 f7 (b + 16) t s.2.2.1 s.2.2.2.1
        ∧ AtStep big f5 f7 (b + 32) t s.2.2.2.2.1 s.2.2.2.2.2.1 ∧ AtStep big f5 f7 (b + 48) t s.2.2.2.2.2.2.1 s.2.2.2.2.2.2.2⌝)

/-- One trip takes the invariant to the next. -/
theorem wp_trip {r0 r1 r2 r3 row : IVec S16 32} {t b : ℕ} (hrow : ∀ x, (row x).toNat = t)
    (h0 : ∀ x, (r0 x).toNat = b + (x 0).val) (h1 : ∀ x, (r1 x).toNat = b + 16 + (x 0).val)
    (h2 : ∀ x, (r2 x).toNat = b + 32 + (x 0).val) (h3 : ∀ x, (r3 x).toNat = b + 48 + (x 0).val)
    (ht : t < 128) (hb : b + 64 ≤ 256) (big : F .f32) (f5 : Vec F S128x256 .f32) (f7 : Vec F S256 .i32) (n : ℕ → ℕ) (s : Ptrs F) :
    (loopInv d p big f5 f7 n b t s : sProp 𝕄)
      ⊢ wp frame (wpE (defs₀ (F := F)) 𝒱₀ (V d p.1 p.2) none) Set.univ (trip p m5 m6 big r0 r1 r2 r3 row s) (loopInv d p big f5 f7 n b (t + 1)) := by
  have hr : ∀ x, (row x).toNat < 128 := fun x => (hrow x).symm ▸ ht
  have hc : k2_chk3 r0 r1 r2 r3 row :=
    ⟨chk_of h0 (by omega) row hr, chk_of h1 (by omega) row hr, chk_of h2 (by omega) row hr, chk_of h3 (by omega) row hr⟩
  unfold trip loopInv
  simp only [Prog.bind_lift]
  rw [wp_assume_of _ _ _ _ hc]
  iintro ⟨H5, H6, %hs0, %hs1, %hs2, %hs3⟩
  iapply (wp_lanes (F := F) d p hrow h0 ht (by omega) hc.1 hs0 (n := span n b t) (by intro c _ _; simp only [span]; split <;> omega)) $$ [H5 H6]
  isplitl [H5]; · iexact H5
  isplitl [H6]; · iexact H6
  iintro %lo0 %hi0 %hs0' H5 H6
  iapply (wp_lanes (F := F) d p hrow h1 ht (by omega) hc.2.1 hs1 (n := bump (span n b t) b t) (by intro c _ _; simp only [span, bump]; (repeat' split) <;> omega)) $$ [H5 H6]
  isplitl [H5]; · iexact H5
  isplitl [H6]; · iexact H6
  iintro %lo1 %hi1 %hs1' H5 H6
  iapply (wp_lanes (F := F) d p hrow h2 ht (by omega) hc.2.2.1 hs2 (n := bump (bump (span n b t) b t) (b + 16) t) (by intro c _ _; simp only [span, bump]; (repeat' split) <;> omega)) $$ [H5 H6]
  isplitl [H5]; · iexact H5
  isplitl [H6]; · iexact H6
  iintro %lo2 %hi2 %hs2' H5 H6
  iapply (wp_lanes (F := F) d p hrow h3 ht (by omega) hc.2.2.2 hs3 (n := bump (bump (bump (span n b t) b t) (b + 16) t) (b + 32) t) (by intro c _ _; simp only [span, bump]; (repeat' split) <;> omega)) $$ [H5 H6]
  isplitl [H5]; · iexact H5
  isplitl [H6]; · iexact H6
  iintro %lo3 %hi3 %hs3' H5 H6
  rw [wp_pure]
  imodintro
  isplitl [H5]; · iexact H5
  isplitl [H6]
  · rw [span_succ]; iexact H6
  ipureintro
  exact ⟨hs0', hs1', hs2', hs3'⟩

/-- The loop at the head of a program. -/
theorem wp_mergeLoop {r0 r1 r2 r3 : IVec S16 32} {b : ℕ}
    (h0 : ∀ x, (r0 x).toNat = b + (x 0).val) (h1 : ∀ x, (r1 x).toNat = b + 16 + (x 0).val)
    (h2 : ∀ x, (r2 x).toNat = b + 32 + (x 0).val) (h3 : ∀ x, (r3 x).toNat = b + 48 + (x 0).val)
    (hb : b + 64 ≤ 256) (big : F .f32) (f5 : Vec F S128x256 .f32) (f7 : Vec F S256 .i32) (n : ℕ → ℕ) (s : Ptrs F)
    {α : Type} (k : Ptrs F → Prog (TpuEff nD τ sig (Elt F) Λ₀ (.scVector p.1 p.2)) α) (Q : α → sProp 𝕄) :
    (loopInv d p big f5 f7 n b 0 s : sProp 𝕄)
      ⊢ iprop((∀ s', loopInv d p big f5 f7 n b 128 s' -∗ wp frame (wpE (defs₀ (F := F)) 𝒱₀ (V d p.1 p.2) none) Set.univ (k s') Q)
        -∗ wp frame (wpE (defs₀ (F := F)) 𝒱₀ (V d p.1 p.2) none) Set.univ (mergeLoop p m5 m6 0#32 1#32 r0 r1 r2 r3 big s >>= k) Q) := by
  have h := Scf.wp_for_bind frame (wpE (defs₀ (F := F)) 𝒱₀ (V d p.1 p.2) none) Set.univ k2_t1_loop.lb k2_t1_loop.ub k2_t1_loop.st k2_t1_ok s
    (fun t s => trip p m5 m6 big r0 r1 r2 r3 (addi (broadcast S16 0#32) (broadcast S16 (Scf.iv 0#32 1#32 t))) s)
    (fun t s => (loopInv d p big f5 f7 n b t s : sProp 𝕄))
    (fun t s => wp_trip d p (row_toNat t.val (trips_eq ▸ t.isLt)) h0 h1 h2 h3 (trips_eq ▸ t.isLt) hb big f5 f7 n s) (kk := k) (Q := Q)
  iintro HI HK
  iapply h $$ HI
  iintro %s' HI
  iapply HK
  iapply (Entails.of_eq (congrArg (fun t => (loopInv d p big f5 f7 n b t s' : sProp 𝕄)) trips_eq)); iexact HI

/-- What sixteen counts' load reads. -/
theorem counts_read (f7 : Vec F S256 .i32) (o : ℕ) (b : ∀ a, (![o] : Fin 1 → ℕ) a + S16.size a ≤ S256.size a) (x : S16.Idx) :
    m7.view.readAt (Elt F) (Rect.unit (s := S256) ![o] S16.size b).toLoadRect f7 x = f7 (ixk (o + (x 0).val)) := by
  have ho : o + 16 ≤ 256 := b 0
  have h16 : (x 0).val < 16 := (x 0).isLt
  show f7 _ = f7 _
  congr 1
  funext a
  match a with
  | 0 => exact Fin.ext (by
      show o + 1 * (x 0).val = (o + (x 0).val) % 256
      rw [Nat.mod_eq_of_lt (by omega)]; omega)

/-- The group's pointers before the first step. -/
theorem atStep_zero {big : F .f32} {f5 : Vec F S128x256 .f32} {f7 : Vec F S256 .i32} {k : Vec F S16 .i32} {b : ℕ}
    (hk : ∀ x : S16.Idx, k x = f7 (ixk (b + (x 0).val))) : AtStep big f5 f7 b 0 (below k) k := by
  intro x
  show (k x - 1#32, k x) = (f7 (ixk (b + (x 0).val)) - 1#32, f7 (ixk (b + (x 0).val)))
  rw [hk]

/-- A block at the head of a program: sixty-four more columns merged. -/
theorem wp_block {b : ℕ} {w0 w1 w2 w3 : BitVec 32} (hw0 : w0.toNat = b) (hw1 : w1.toNat = b + 16) (hw2 : w2.toNat = b + 32) (hw3 : w3.toNat = b + 48)
    (b0 : ∀ a, (![b] : Fin 1 → ℕ) a + S16.size a ≤ S256.size a) (b1 : ∀ a, (![b + 16] : Fin 1 → ℕ) a + S16.size a ≤ S256.size a)
    (b2 : ∀ a, (![b + 32] : Fin 1 → ℕ) a + S16.size a ≤ S256.size a) (b3 : ∀ a, (![b + 48] : Fin 1 → ℕ) a + S16.size a ≤ S256.size a)
    (big : F .f32) (f5 : Vec F S128x256 .f32) (f7 : Vec F S256 .i32) (n : ℕ → ℕ)
    {α : Type} (k : Ptrs F → Prog (TpuEff nD τ sig (Elt F) Λ₀ (.scVector p.1 p.2)) α) (Q : α → sProp 𝕄) :
    iprop(pts5 d p f5 ∗ pts7 d p f7 ∗ out6 d p big f5 f7 n
        ∗ (∀ s', pts5 d p f5 -∗ pts7 d p f7 -∗ out6 d p big f5 f7 (span n b 128)
            -∗ wp frame (wpE (defs₀ (F := F)) 𝒱₀ (V d p.1 p.2) none) Set.univ (k s') Q))
      ⊢ wp frame (wpE (defs₀ (F := F)) 𝒱₀ (V d p.1 p.2) none) Set.univ
          (block p m5 m6 m7 b (b + 16) (b + 32) (b + 48) b0 b1 b2 b3 w0 w1 w2 w3 big >>= k) Q := by
  have hb : b + 64 ≤ 256 := by have h : b + 48 + 16 ≤ 256 := b3 0; omega
  unfold block counts
  simp only [bind_assoc]
  simp only [Prog.bind_lift]
  iintro ⟨H5, H7, H6, HK⟩
  iapply (wp_load 𝒱₀ (V d p.1 p.2) none Set.univ (m := m7) (S := Finset.univ) (q := fullShare) (f := f7) (Finset.subset_univ _)) $$ H7; iintro H7
  iapply (wp_load 𝒱₀ (V d p.1 p.2) none Set.univ (m := m7) (S := Finset.univ) (q := fullShare) (f := f7) (Finset.subset_univ _)) $$ H7; iintro H7
  iapply (wp_load 𝒱₀ (V d p.1 p.2) none Set.univ (m := m7) (S := Finset.univ) (q := fullShare) (f := f7) (Finset.subset_univ _)) $$ H7; iintro H7
  iapply (wp_load 𝒱₀ (V d p.1 p.2) none Set.univ (m := m7) (S := Finset.univ) (q := fullShare) (f := f7) (Finset.subset_univ _)) $$ H7; iintro H7
  iapply (wp_mergeLoop d p (b := b)
    (fun x => by rw [rid_toNat _ (by omega), hw0]) (fun x => by rw [rid_toNat _ (by omega), hw1])
    (fun x => by rw [rid_toNat _ (by omega), hw2]) (fun x => by rw [rid_toNat _ (by omega), hw3]) hb big f5 f7 n) $$ [H5 H6]
  · unfold loopInv
    isplitl [H5]; · iexact H5
    isplitl [H6]
    · iapply (out6_mono d p (n := n) (fun c => by simp only [span]; split <;> omega)); iexact H6
    · ipureintro
      exact ⟨atStep_zero (counts_read f7 b b0), atStep_zero (counts_read f7 (b + 16) b1),
        atStep_zero (counts_read f7 (b + 32) b2), atStep_zero (counts_read f7 (b + 48) b3)⟩
  iintro %s' HI
  unfold loopInv
  icases HI with ⟨H5, H6, -⟩
  ihave HK1 := HK $$ %s'
  ihave HK2 := HK1 $$ [H5]; · iexact H5
  ihave HK3 := HK2 $$ [H7]; · iexact H7
  iapply HK3
  iexact H6

/-- The four blocks at the head of a program: all 256 columns merged. -/
theorem wp_blocks (big : F .f32) (f5 : Vec F S128x256 .f32) (f7 : Vec F S256 .i32)
    {α : Type} (k : PUnit → Prog (TpuEff nD τ sig (Elt F) Λ₀ (.scVector p.1 p.2)) α) (Q : α → sProp 𝕄) :
    iprop(pts5 d p f5 ∗ pts7 d p f7 ∗ (∃ f6, pts6 d p f6)
        ∗ (pts5 d p f5 -∗ pts7 d p f7 -∗ pts6 d p (mergedV big f5 f7)
            -∗ wp frame (wpE (defs₀ (F := F)) 𝒱₀ (V d p.1 p.2) none) Set.univ (k ⟨⟩) Q))
      ⊢ wp frame (wpE (defs₀ (F := F)) 𝒱₀ (V d p.1 p.2) none) Set.univ (blocks p m5 m6 m7 big >>= k) Q := by
  unfold blocks
  simp only [bind_assoc, pure_bind]
  iintro ⟨H5, H7, ⟨%f6, H6⟩, HK⟩
  iapply (wp_block d p (b := 0) rfl rfl rfl rfl _ _ _ _ big f5 f7 (fun _ => 0))
  isplitl [H5]; · iexact H5
  isplitl [H7]; · iexact H7
  isplitl [H6]
  · unfold out6; iexists f6; isplitr
    · ipureintro; exact fun j hj => absurd hj (Nat.not_lt_zero _)
    · iexact H6
  iintro %_ H5 H7 H6
  iapply (wp_block d p (b := 64) rfl rfl rfl rfl _ _ _ _ big f5 f7)
  isplitl [H5]; · iexact H5
  isplitl [H7]; · iexact H7
  isplitl [H6]; · iexact H6
  iintro %_ H5 H7 H6
  iapply (wp_block d p (b := 128) rfl rfl rfl rfl _ _ _ _ big f5 f7)
  isplitl [H5]; · iexact H5
  isplitl [H7]; · iexact H7
  isplitl [H6]; · iexact H6
  iintro %_ H5 H7 H6
  iapply (wp_block d p (b := 192) rfl rfl rfl rfl _ _ _ _ big f5 f7)
  isplitl [H5]; · iexact H5
  isplitl [H7]; · iexact H7
  isplitl [H6]; · iexact H6
  iintro %_ H5 H7 H6
  ihave HK1 := HK $$ [H5]; · iexact H5
  ihave HK2 := HK1 $$ [H7]; · iexact H7
  iapply HK2
  unfold out6
  icases H6 with ⟨%f6', %hd, H6⟩
  have he : f6' = mergedV big f5 f7 := by
    funext j
    refine hd j ?_
    have h0 : (j 0).val < 128 := (j 0).isLt
    have h1 : (j 1).val < 256 := (j 1).isLt
    simp only [span]
    repeat' split
    all_goals omega
  rw [← he]
  iexact H6

end Wp

end Cert.Proof.Merge

end
-- ==== Proof.Half.lean ====
/-
  One half of a tile's work with its values: 256 columns of `t` and their counts copied in, merged, and copied out.
-/
module

public import proofs.«01_k».proof.Proof.Block

@[expose] public section

noncomputable section

namespace Cert.Proof.Merge

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

abbrev m2 : Memref sig .scVector .hbm S128x16384 .f32 := Memref.whole main_v2_0_scv
abbrev m3 : Memref sig .scVector .hbm S16384 .i32 := Memref.whole main_v3_scv
abbrev m4 : Memref sig .scVector .hbm S128x16384 .f32 := Memref.whole main_v6_scv

/-- 256 columns of the array of `t`. -/
abbrev cols2 (off : Fin 2 → ℕ) (h : ∀ a, off a + S128x256.size a ≤ S128x16384.size a) : Memref sig .scVector .hbm S128x256 .f32 :=
  m2.slice (Rect.unit (s := S128x16384) off S128x256.size h) (fun _ => rfl)
/-- 256 columns of the merged array. -/
abbrev cols4 (off : Fin 2 → ℕ) (h : ∀ a, off a + S128x256.size a ≤ S128x16384.size a) : Memref sig .scVector .hbm S128x256 .f32 :=
  m4.slice (Rect.unit (s := S128x16384) off S128x256.size h) (fun _ => rfl)
/-- 256 counts. -/
abbrev part3 (off : Fin 1 → ℕ) (h : ∀ a, off a + S256.size a ≤ S16384.size a) : Memref sig .scVector .hbm S256 .i32 :=
  m3.slice (Rect.unit (s := S16384) off S256.size h) (fun _ => rfl)

variable (d : Dev nD) (p : Fin τ.nSC × Fin τ.nSub)

/-- The scratches as the transfers address them. -/
theorem pts5_view (f : Vec F S128x256 .f32) : (m5.view.loc (V d p.1 p.2) ↦{fullShare} f : sProp 𝕄) = pts5 d p f := rfl
theorem pts6_view (f : Vec F S128x256 .f32) : (m6.view.loc (V d p.1 p.2) ↦{fullShare} f : sProp 𝕄) = pts6 d p f := rfl
theorem pts7_view (f : Vec F S256 .i32) : (m7.view.loc (V d p.1 p.2) ↦{fullShare} f : sProp 𝕄) = pts7 d p f := rfl

/-- 256 columns of the array of `t`, at `t`. -/
def at2 (off : Fin 2 → ℕ) (h : ∀ a, off a + S128x256.size a ≤ S128x16384.size a) (t : Vec F S128x16384 .f32) : sProp 𝕄 :=
  (cols2 off h).view.loc (V d p.1 p.2) ↦[(cols2 off h).view.set]{fullShare} t
/-- 256 counts, at `k`. -/
def at3 (off : Fin 1 → ℕ) (h : ∀ a, off a + S256.size a ≤ S16384.size a) (k : Vec F S16384 .i32) : sProp 𝕄 :=
  (part3 off h).view.loc (V d p.1 p.2) ↦[(part3 off h).view.set]{fullShare} k
/-- 256 columns of the merged array, at `f`. -/
def at4 (off : Fin 2 → ℕ) (h : ∀ a, off a + S128x256.size a ≤ S128x16384.size a) (f : Vec F S128x16384 .f32) : sProp 𝕄 :=
  (cols4 off h).view.loc (V d p.1 p.2) ↦[(cols4 off h).view.set]{fullShare} f

theorem at4_view (off : Fin 2 → ℕ) (h : ∀ a, off a + S128x256.size a ≤ S128x16384.size a) (f : Vec F S128x16384 .f32) :
    ((cols4 off h).view.loc (V d p.1 p.2) ↦[(cols4 off h).view.set]{fullShare} f : sProp 𝕄) = at4 d p off h f := rfl

/-- The columns as the scratch reads them. -/
def read2 (off : Fin 2 → ℕ) (h : ∀ a, off a + S128x256.size a ≤ S128x16384.size a) (t : Vec F S128x16384 .f32) : Vec F S128x256 .f32 :=
  View.read (Elt F) (cols2 off h).view t
/-- The counts as the scratch reads them. -/
def read3 (off : Fin 1 → ℕ) (h : ∀ a, off a + S256.size a ≤ S16384.size a) (k : Vec F S16384 .i32) : Vec F S256 .i32 :=
  View.read (Elt F) (part3 off h).view k

/-- A scratch written whole holds what was written. -/
theorem land5 (f w : Vec F S128x256 .f32) :
    (m5.view.loc (V d p.1 p.2) ↦{fullShare} View.write (Elt F) m5.view f w Finset.univ : sProp 𝕄) ⊢ pts5 d p w :=
  Entails.of_eq (congrArg (pts5 (F := F) d p) (View.write_whole_univ (Val := Elt F) (cc2_scratch0 : Ref sig .scVector) f w))
theorem land7 (f w : Vec F S256 .i32) :
    (m7.view.loc (V d p.1 p.2) ↦{fullShare} View.write (Elt F) m7.view f w Finset.univ : sProp 𝕄) ⊢ pts7 d p w :=
  Entails.of_eq (congrArg (pts7 (F := F) d p) (View.write_whole_univ (Val := Elt F) (cc2_scratch2 : Ref sig .scVector) f w))

/-- The merged array after 256 of its columns are written. -/
def put4 (off : Fin 2 → ℕ) (h : ∀ a, off a + S128x256.size a ≤ S128x16384.size a) (fo : Vec F S128x16384 .f32) (w : Vec F S128x256 .f32) :
    Vec F S128x16384 .f32 := View.write (Elt F) (cols4 off h).view fo w Finset.univ

/-- What the copy out leaves is the array with its columns written. -/
theorem land4 (off : Fin 2 → ℕ) (h : ∀ a, off a + S128x256.size a ≤ S128x16384.size a) (fo : Vec F S128x16384 .f32) (w : Vec F S128x256 .f32) :
    ((cols4 off h).view.loc (V d p.1 p.2) ↦[(cols4 off h).view.set]{fullShare} (cols4 off h).view.writes (Elt F) fo [⟨Rect.whole S128x256, w⟩] : sProp 𝕄)
      ⊢ at4 d p off h (put4 off h fo w) := by
  unfold at4 put4
  rw [← View.write_univ_eq_writes_whole (cols4 off h).view fo [] w, View.writes_nil]

/-- The two copies in, at the head of a program. -/
theorem wp_copies {off : Fin 2 → ℕ} {offk : Fin 1 → ℕ}
    (hoff : ∀ a, off a + S128x256.size a ≤ S128x16384.size a)
    (hoffk : ∀ a, offk a + S256.size a ≤ S16384.size a) (s0 s1 : DmaSems sig S_)
    (t : Vec F S128x16384 .f32) (kk : Vec F S16384 .i32)
    (O : CellTallies nD τ sig (HIx 1)) (W : Waits sig (HIx 1))
    {α : Type} (k : PUnit → Prog (TpuEff nD τ sig (Elt F) Λ₀ (.scVector p.1 p.2)) α) (Q : α → sProp 𝕄) :
    iprop(Transfers.MayWaits (V d p.1 p.2) (none : HIx 1) O ∗ (∃ f5, pts5 d p f5) ∗ (∃ f7, pts7 d p f7)
        ∗ at2 d p off hoff t ∗ at3 d p offk hoffk kk
        ∗ semVal (V d p.1 p.2, SemLoc.dma s0.sem) 0 ∗ semVal (V d p.1 p.2, SemLoc.dma s1.sem) 0 ∗ owes (V d p.1 p.2) O W
        ∗ (Transfers.MayWaits (V d p.1 p.2) (none : HIx 1) O -∗ pts5 d p (read2 off hoff t) -∗ pts7 d p (read3 offk hoffk kk)
            -∗ at2 d p off hoff t -∗ at3 d p offk hoffk kk
            -∗ semVal (V d p.1 p.2, SemLoc.dma s0.sem) 0 -∗ semVal (V d p.1 p.2, SemLoc.dma s1.sem) 0
            -∗ owes (V d p.1 p.2) O (insert (SemLoc.dma s1.sem, none) (insert (SemLoc.dma s0.sem, none) W))
            -∗ wp frame (wpE (defs₀ (F := F)) 𝒱₀ (V d p.1 p.2) none) Set.univ (k ⟨⟩) Q))
      ⊢ wp frame (wpE (defs₀ (F := F)) 𝒱₀ (V d p.1 p.2) none) Set.univ
          (copyIn p m5 m2 (Memref.isWhole_whole _) off hoff s0 >>= fun _ => copyCounts p m7 m3 (Memref.isWhole_whole _) offk hoffk s1 >>= k) Q := by
  unfold copyIn copyCounts
  simp only [bind_assoc]
  simp only [Prog.bind_lift]
  unfold at2 at3
  iintro ⟨Hmw, ⟨%f5, H5⟩, ⟨%f7, H7⟩, H2, H3, Hs0, Hs1, HO, HK⟩
  ihave H5 := (Entails.of_eq (pts5_view (F := F) d p _).symm) $$ H5
  ihave H7 := (Entails.of_eq (pts7_view (F := F) d p _).symm) $$ H7
  sl_exec
  ihave H5 := (land5 d p f5 _) $$ H5
  ihave H7 := (land7 d p f7 _) $$ H7
  ihave HK := HK $$ [Hmw]; · iexact Hmw
  ihave HK := HK $$ [H5]; · iexact H5
  ihave HK := HK $$ [H7]; · iexact H7
  ihave HK := HK $$ [H2]; · iexact H2
  ihave HK := HK $$ [H3]; · iexact H3
  ihave HK := HK $$ [Hs0]; · iexact Hs0
  ihave HK := HK $$ [Hs1]; · iexact Hs1
  iapply HK
  iexact HO

/-- The copy out, at the head of a program. -/
theorem wp_copyOut {offo : Fin 2 → ℕ}
    (hoffo : ∀ a, offo a + S128x256.size a ≤ S128x16384.size a) (s2 : DmaSems sig S_) (f6 : Vec F S128x256 .f32)
    (O : CellTallies nD τ sig (HIx 1)) (W : Waits sig (HIx 1))
    {α : Type} (k : PUnit → Prog (TpuEff nD τ sig (Elt F) Λ₀ (.scVector p.1 p.2)) α) (Q : α → sProp 𝕄) :
    iprop(Transfers.MayWaits (V d p.1 p.2) (none : HIx 1) O ∗ pts6 d p f6 ∗ (∃ fo, at4 d p offo hoffo fo)
        ∗ semVal (V d p.1 p.2, SemLoc.dma s2.sem) 0 ∗ owes (V d p.1 p.2) O W
        ∗ (Transfers.MayWaits (V d p.1 p.2) (none : HIx 1) O -∗ pts6 d p f6
            -∗ (∃ fo, at4 d p offo hoffo (put4 offo hoffo fo f6))
            -∗ semVal (V d p.1 p.2, SemLoc.dma s2.sem) 0
            -∗ owes (V d p.1 p.2) O (insert (SemLoc.dma s2.sem, none) W)
            -∗ wp frame (wpE (defs₀ (F := F)) 𝒱₀ (V d p.1 p.2) none) Set.univ (k ⟨⟩) Q))
      ⊢ wp frame (wpE (defs₀ (F := F)) 𝒱₀ (V d p.1 p.2) none) Set.univ
          (copyOut p m6 m4 (Memref.isWhole_whole _) offo hoffo s2 >>= k) Q := by
  unfold copyOut
  simp only [bind_assoc]
  simp only [Prog.bind_lift]
  iintro ⟨Hmw, H6, ⟨%fo, H4⟩, Hs2, HO, HK⟩
  ihave H6 := (Entails.of_eq (pts6_view (F := F) d p _).symm) $$ H6
  ihave H4 := (Entails.of_eq (at4_view (F := F) d p offo hoffo fo).symm) $$ H4
  sl_exec
  ihave H4 := (land4 d p offo hoffo fo _) $$ H4
  ihave HK := HK $$ [Hmw]; · iexact Hmw
  ihave HK := HK $$ [H6]; · iexact H6
  ihave HK := HK $$ [H4]
  · iexists fo; iexact H4
  ihave HK := HK $$ [Hs2]; · iexact Hs2
  iapply HK
  iexact HO

/-- Merging the columns read is reading the merged columns. -/
theorem merged_read {b : ℕ} (hb : b + 256 ≤ 16384)
    (h : ∀ a, (![0, b] : Fin 2 → ℕ) a + S128x256.size a ≤ S128x16384.size a) (hk : ∀ a, (![b] : Fin 1 → ℕ) a + S256.size a ≤ S16384.size a)
    (big : F .f32) (t : Vec F S128x16384 .f32) (kk : Vec F S16384 .i32) (x : S128x256.Idx) :
    mergedV big (read2 ![0, b] h t) (read3 ![b] hk kk) x = mergedT big t kk ((cols4 ![0, b] h).view.emb x) := by
  have h0 : (((cols4 ![0, b] h).view.emb x) 0).val = (x 0).val := by
    show 0 + 1 * (x 0).val = _; omega
  have h1 : (((cols4 ![0, b] h).view.emb x) 1).val = b + (x 1).val := by
    show b + 1 * (x 1).val = _; omega
  have hx : (x 1).val < 256 := (x 1).isLt
  unfold mergedV mergedT
  rw [h0, h1]
  have hc : (fun r => read2 ![0, b] h t (ix r (x 1).val)) = fun r => t (ixT r (b + (x 1).val)) := by
    funext r
    show t _ = t _
    congr 1
    funext a
    match a with
    | 0 => exact Fin.ext (show 0 + 1 * (r % 128) = r % 128 by omega)
    | 1 => exact Fin.ext (show b + 1 * ((x 1).val % 256) = (b + (x 1).val) % 16384 by omega)
  have hk' : read3 ![b] hk kk (ixk (x 1).val) = kk (ixK (b + (x 1).val)) := by
    show kk _ = kk _
    congr 1
    funext a
    match a with
    | 0 => exact Fin.ext (show b + 1 * ((x 1).val % 256) = (b + (x 1).val) % 16384 by omega)
  rw [hc, hk']

/-- What the copy out leaves on its columns: the merged columns. -/
theorem at4_merged {b : ℕ} (hb : b + 256 ≤ 16384)
    (h : ∀ a, (![0, b] : Fin 2 → ℕ) a + S128x256.size a ≤ S128x16384.size a) (hk : ∀ a, (![b] : Fin 1 → ℕ) a + S256.size a ≤ S16384.size a)
    (big : F .f32) (t : Vec F S128x16384 .f32) (kk : Vec F S16384 .i32) (fo : Vec F S128x16384 .f32) :
    (at4 d p ![0, b] h (put4 ![0, b] h fo (mergedV big (read2 ![0, b] h t) (read3 ![b] hk kk))) : sProp 𝕄)
      = at4 d p ![0, b] h (mergedT big t kk) := by
  unfold at4 put4
  refine pointsTo_congr fun i hi => ?_
  obtain ⟨x, -, rfl⟩ := Finset.mem_map.mp hi
  rw [View.write_emb_of_mem _ _ (Finset.mem_univ _)]
  exact merged_read hb h hk big t kk x

/-- A half at the head of a program: its columns of the merged array. -/
theorem wp_half {b : ℕ} (hb : b + 256 ≤ 16384)
    (h : ∀ a, (![0, b] : Fin 2 → ℕ) a + S128x256.size a ≤ S128x16384.size a) (hk : ∀ a, (![b] : Fin 1 → ℕ) a + S256.size a ≤ S16384.size a)
    {off offo : Fin 2 → ℕ} {offk : Fin 1 → ℕ} (e : off = ![0, b]) (eo : offo = ![0, b]) (ek : offk = ![b])
    (hoff : ∀ a, off a + S128x256.size a ≤ S128x16384.size a) (hoffo : ∀ a, offo a + S128x256.size a ≤ S128x16384.size a)
    (hoffk : ∀ a, offk a + S256.size a ≤ S16384.size a) (s0 s1 s2 : DmaSems sig S_) (big : F .f32)
    (t : Vec F S128x16384 .f32) (kk : Vec F S16384 .i32)
    (O : CellTallies nD τ sig (HIx 1)) (W : Waits sig (HIx 1))
    {α : Type} (k : PUnit → Prog (TpuEff nD τ sig (Elt F) Λ₀ (.scVector p.1 p.2)) α) (Q : α → sProp 𝕄) :
    iprop(Transfers.MayWaits (V d p.1 p.2) (none : HIx 1) O ∗ (∃ f5, pts5 d p f5) ∗ (∃ f6, pts6 d p f6) ∗ (∃ f7, pts7 d p f7)
        ∗ at2 d p ![0, b] h t ∗ at3 d p ![b] hk kk ∗ (∃ fo, at4 d p ![0, b] h fo)
        ∗ semVal (V d p.1 p.2, SemLoc.dma s0.sem) 0 ∗ semVal (V d p.1 p.2, SemLoc.dma s1.sem) 0 ∗ semVal (V d p.1 p.2, SemLoc.dma s2.sem) 0
        ∗ owes (V d p.1 p.2) O W
        ∗ (Transfers.MayWaits (V d p.1 p.2) (none : HIx 1) O -∗ (∃ f5, pts5 d p f5) -∗ (∃ f6, pts6 d p f6) -∗ (∃ f7, pts7 d p f7)
            -∗ at2 d p ![0, b] h t -∗ at3 d p ![b] hk kk -∗ at4 d p ![0, b] h (mergedT big t kk)
            -∗ semVal (V d p.1 p.2, SemLoc.dma s0.sem) 0 -∗ semVal (V d p.1 p.2, SemLoc.dma s1.sem) 0 -∗ semVal (V d p.1 p.2, SemLoc.dma s2.sem) 0
            -∗ owes (V d p.1 p.2) O (insert (SemLoc.dma s2.sem, none) (insert (SemLoc.dma s1.sem, none) (insert (SemLoc.dma s0.sem, none) W)))
            -∗ wp frame (wpE (defs₀ (F := F)) 𝒱₀ (V d p.1 p.2) none) Set.univ (k ⟨⟩) Q))
      ⊢ wp frame (wpE (defs₀ (F := F)) 𝒱₀ (V d p.1 p.2) none) Set.univ
          (half p m5 m6 m7 m2 m4 m3 (Memref.isWhole_whole _) (Memref.isWhole_whole _) (Memref.isWhole_whole _) off offo offk hoff hoffo hoffk s0 s1 s2 big >>= k) Q := by
  subst e eo ek
  unfold half
  simp only [bind_assoc]
  iintro ⟨Hmw, H5, H6, H7, H2, H3, H4, Hs0, Hs1, Hs2, HO, HK⟩
  iapply (wp_copies d p h hk s0 s1 t kk O W)
  isplitl [Hmw]; · iexact Hmw
  isplitl [H5]; · iexact H5
  isplitl [H7]; · iexact H7
  isplitl [H2]; · iexact H2
  isplitl [H3]; · iexact H3
  isplitl [Hs0]; · iexact Hs0
  isplitl [Hs1]; · iexact Hs1
  isplitl [HO]; · iexact HO
  iintro Hmw H5 H7 H2 H3 Hs0 Hs1 HO
  iapply (wp_blocks d p big (read2 ![0, b] h t) (read3 ![b] hk kk))
  isplitl [H5]; · iexact H5
  isplitl [H7]; · iexact H7
  isplitl [H6]; · iexact H6
  iintro H5 H7 H6
  iapply (wp_copyOut d p h s2 _ O _)
  isplitl [Hmw]; · iexact Hmw
  isplitl [H6]; · iexact H6
  isplitl [H4]; · iexact H4
  isplitl [Hs2]; · iexact Hs2
  isplitl [HO]; · iexact HO
  iintro Hmw H6 ⟨%fo, H4⟩ Hs2 HO
  ihave H4 := (Entails.of_eq (at4_merged d p hb h hk big t kk fo)) $$ H4
  ihave HK := HK $$ [Hmw]; · iexact Hmw
  ihave HK := HK $$ [H5]; · iexists _; iexact H5
  ihave HK := HK $$ [H6]; · iexists _; iexact H6
  ihave HK := HK $$ [H7]; · iexists _; iexact H7
  ihave HK := HK $$ [H2]; · iexact H2
  ihave HK := HK $$ [H3]; · iexact H3
  ihave HK := HK $$ [H4]; · iexact H4
  ihave HK := HK $$ [Hs0]; · iexact Hs0
  ihave HK := HK $$ [Hs1]; · iexact Hs1
  ihave HK := HK $$ [Hs2]; · iexact Hs2
  iapply HK
  iexact HO

end Cert.Proof.Merge

end
-- ==== Proof.Tile.lean ====
/-
  One tile's whole task with its values, and how the three arrays split among the tiles: 64 blocks of 256 columns, two
  for each of the 32 tiles.
-/
module

public import proofs.«01_k».proof.Proof.Half

@[expose] public section

noncomputable section

namespace Cert.Proof.Merge

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## The blocks of columns -/

/-- The first column of half `h` of tile (c, s). -/
def col0 (c s h : ℕ) : ℕ := (s * 2 + c) * 512 + 256 * h

/-- The 256 columns from `b`. -/
def colsAt (b : ℕ) : Finset S128x16384.Idx := Finset.univ.filter fun j => b ≤ (j 1).val ∧ (j 1).val < b + 256
/-- The 256 counts from `b`. -/
def partAt (b : ℕ) : Finset S16384.Idx := Finset.univ.filter fun j => b ≤ (j 0).val ∧ (j 0).val < b + 256

theorem mem_colsAt {b : ℕ} {j : S128x16384.Idx} : j ∈ colsAt b ↔ b ≤ (j 1).val ∧ (j 1).val < b + 256 := by simp [colsAt]
theorem mem_partAt {b : ℕ} {j : S16384.Idx} : j ∈ partAt b ↔ b ≤ (j 0).val ∧ (j 0).val < b + 256 := by simp [partAt]

/-- A slice of 256 columns is those columns. -/
theorem cols2_set {b : ℕ} (h : ∀ a, (![0, b] : Fin 2 → ℕ) a + S128x256.size a ≤ S128x16384.size a) : (cols2 ![0, b] h).view.set = colsAt b := by
  ext j
  rw [mem_colsAt]
  have hj : (j 0).val < 128 := (j 0).isLt
  constructor
  · intro hj
    obtain ⟨x, -, rfl⟩ := Finset.mem_map.mp hj
    have hx : (x 1).val < 256 := (x 1).isLt
    show b ≤ b + 1 * (x 1).val ∧ b + 1 * (x 1).val < b + 256
    omega
  · rintro ⟨h1, h2⟩
    refine Finset.mem_map.mpr ⟨(fun | 0 => ⟨(j 0).val, hj⟩ | 1 => ⟨(j 1).val - b, by show _ < 256; omega⟩ : S128x256.Idx), Finset.mem_univ _, ?_⟩
    funext a
    match a with
    | 0 => exact Fin.ext (show 0 + 1 * (j 0).val = (j 0).val by omega)
    | 1 => exact Fin.ext (show b + 1 * ((j 1).val - b) = (j 1).val by omega)
theorem cols4_set {b : ℕ} (h : ∀ a, (![0, b] : Fin 2 → ℕ) a + S128x256.size a ≤ S128x16384.size a) : (cols4 ![0, b] h).view.set = colsAt b :=
  cols2_set h
/-- A slice of 256 counts is those counts. -/
theorem part3_set {b : ℕ} (h : ∀ a, (![b] : Fin 1 → ℕ) a + S256.size a ≤ S16384.size a) : (part3 ![b] h).view.set = partAt b := by
  ext j
  rw [mem_partAt]
  constructor
  · intro hj
    obtain ⟨x, -, rfl⟩ := Finset.mem_map.mp hj
    have hx : (x 0).val < 256 := (x 0).isLt
    show b ≤ b + 1 * (x 0).val ∧ b + 1 * (x 0).val < b + 256
    omega
  · rintro ⟨h1, h2⟩
    refine Finset.mem_map.mpr ⟨(fun | 0 => ⟨(j 0).val - b, by show _ < 256; omega⟩ : S256.Idx), Finset.mem_univ _, ?_⟩
    funext a
    match a with
    | 0 => exact Fin.ext (show b + 1 * ((j 0).val - b) = (j 0).val by omega)

/-- A half's columns lie in the array. -/
theorem col0_le {c s h : ℕ} (hc : c < 2) (hs : s < 16) (hh : h < 2) : col0 c s h + 256 ≤ 16384 := by unfold col0; omega

/-- Every half: its SparseCore, its tile, its number. -/
abbrev Halves : Type := Fin 2 × Fin 16 × Fin 2
abbrev at0 (n : Halves) : ℕ := col0 n.1.val n.2.1.val n.2.2.val

theorem halves_sep {n n' : Halves} {x : ℕ} (h : at0 n ≤ x ∧ x < at0 n + 256) (h' : at0 n' ≤ x ∧ x < at0 n' + 256) : n = n' := by
  obtain ⟨c, s, k⟩ := n; obtain ⟨c', s', k'⟩ := n'
  simp only [at0, col0] at h h'
  have := c.isLt; have := c'.isLt; have := k.isLt; have := k'.isLt
  have e1 : s.val = s'.val := by omega
  have e2 : c.val = c'.val := by omega
  have e3 : k.val = k'.val := by omega
  rw [Fin.ext e1, Fin.ext e2, Fin.ext e3]

theorem halves_cover {x : ℕ} (hx : x < 16384) : ∃ n : Halves, at0 n ≤ x ∧ x < at0 n + 256 :=
  ⟨(⟨x / 512 % 2, by omega⟩, ⟨x / 1024, by omega⟩, ⟨x / 256 % 2, by omega⟩), by simp only [at0, col0]; omega⟩

theorem cols_disjoint : ∀ n ∈ (Finset.univ : Finset Halves), ∀ n' ∈ (Finset.univ : Finset Halves), n ≠ n' → Disjoint (colsAt (at0 n)) (colsAt (at0 n')) :=
  fun _ _ _ _ hne => Finset.disjoint_left.mpr fun _ h h' => hne (halves_sep (mem_colsAt.mp h) (mem_colsAt.mp h'))
theorem parts_disjoint : ∀ n ∈ (Finset.univ : Finset Halves), ∀ n' ∈ (Finset.univ : Finset Halves), n ≠ n' → Disjoint (partAt (at0 n)) (partAt (at0 n')) :=
  fun _ _ _ _ hne => Finset.disjoint_left.mpr fun _ h h' => hne (halves_sep (mem_partAt.mp h) (mem_partAt.mp h'))
theorem cols_cover : (Finset.univ : Finset Halves).biUnion (fun n => colsAt (at0 n)) = Finset.univ := by
  ext j
  simp only [Finset.mem_biUnion, Finset.mem_univ, true_and, iff_true, mem_colsAt]
  exact halves_cover (j 1).isLt
theorem parts_cover : (Finset.univ : Finset Halves).biUnion (fun n => partAt (at0 n)) = Finset.univ := by
  ext j
  simp only [Finset.mem_biUnion, Finset.mem_univ, true_and, iff_true, mem_partAt]
  exact halves_cover (j 0).isLt

/-! ## What a tile takes and gives back -/

abbrev tLoc (d : Dev nD) : Loc nD τ sig := (SparseCore.T d).loc main_v2_0
abbrev kLoc (d : Dev nD) : Loc nD τ sig := (SparseCore.T d).loc main_v3
abbrev oLoc (d : Dev nD) : Loc nD τ sig := (SparseCore.T d).loc main_v6

variable (tA : Vec F S128x16384 .f32) (kA : Vec F S16384 .i32) (d : Dev nD)

/-- What a half takes: its columns of `t` and its counts, and its columns of the merged array at whatever they hold. -/
def halfGo (b : ℕ) : sProp 𝕄 :=
  iprop((tLoc d ↦[colsAt b]{fullShare} tA) ∗ (kLoc d ↦[partAt b]{fullShare} kA) ∗ ∃ f, oLoc d ↦[colsAt b]{fullShare} f)
/-- What a half gives back: the same, the merged columns now merged. -/
def halfTd (b : ℕ) : sProp 𝕄 :=
  iprop((tLoc d ↦[colsAt b]{fullShare} tA) ∗ (kLoc d ↦[partAt b]{fullShare} kA) ∗ oLoc d ↦[colsAt b]{fullShare} mergedT bigOf tA kA)

instance halfGo_storable (b : ℕ) : BI.Storable (upEmb : UEmb _ 𝕄) (halfGo tA kA d b) := by unfold halfGo; infer_instance
instance halfTd_storable (b : ℕ) : BI.Storable (upEmb : UEmb _ 𝕄) (halfTd tA kA d b) := by unfold halfTd; infer_instance

def tileGo (c s : ℕ) : sProp 𝕄 := bigSep Finset.univ fun h : Fin 2 => halfGo tA kA d (col0 c s h.val)
def tileTd (c s : ℕ) : sProp 𝕄 := bigSep Finset.univ fun h : Fin 2 => halfTd tA kA d (col0 c s h.val)

theorem bigSep_two (Φ : Fin 2 → sProp 𝕄) : bigSep Finset.univ Φ = iprop(Φ 0 ∗ Φ 1) := by
  rw [show (Finset.univ : Finset (Fin 2)) = {0, 1} by decide, SparseCore.bigSep_insert' (by decide), bigSep_singleton]

/-- The arrays whole are every half's share. -/
theorem halves_split (f : Vec F S128x16384 .f32) :
    iprop((tLoc d ↦{fullShare} tA) ∗ (kLoc d ↦{fullShare} kA) ∗ oLoc d ↦{fullShare} f)
      ⊢ (bigSep Finset.univ fun c : Fin 2 => bigSep Finset.univ fun s : Fin 16 => tileGo tA kA d c.val s.val : sProp 𝕄) := by
  have e : (bigSep Finset.univ fun c : Fin 2 => bigSep Finset.univ fun s : Fin 16 => tileGo tA kA d c.val s.val : sProp 𝕄)
      = bigSep Finset.univ fun n : Halves => halfGo tA kA d (at0 n) := by
    unfold tileGo
    rw [← Finset.univ_product_univ, SparseCore.bigSep_product]
    refine bigSep_congr fun c _ => ?_
    rw [← Finset.univ_product_univ, SparseCore.bigSep_product]
  rw [e]
  unfold halfGo
  rw [bigSep_sep', bigSep_sep']
  rw [← pointsTo_biUnion Finset.univ (ℓ := tLoc d) (fun n : Halves => colsAt (at0 n)) cols_disjoint, cols_cover,
    ← pointsTo_biUnion Finset.univ (ℓ := kLoc d) (fun n : Halves => partAt (at0 n)) parts_disjoint, parts_cover]
  iintro ⟨Ht, Hk, Ho⟩
  isplitl [Ht]; · iexact Ht
  isplitl [Hk]; · iexact Hk
  have ho : (oLoc d ↦{fullShare} f : sProp 𝕄) ⊢ bigSep Finset.univ fun n : Halves => iprop(∃ f, oLoc d ↦[colsAt (at0 n)]{fullShare} f) := by
    rw [show (oLoc d ↦{fullShare} f : sProp 𝕄) = bigSep Finset.univ fun n : Halves => oLoc d ↦[colsAt (at0 n)]{fullShare} f by
      rw [← pointsTo_biUnion Finset.univ (ℓ := oLoc d) (fun n : Halves => colsAt (at0 n)) cols_disjoint, cols_cover]]
    exact bigSep_mono fun n _ => show (oLoc d ↦[colsAt (at0 n)]{fullShare} f : sProp 𝕄) ⊢ iprop(∃ f, oLoc d ↦[colsAt (at0 n)]{fullShare} f) from by
      iintro H; iexists f; iexact H
  iapply ho; iexact Ho

/-- Every half's share given back is the arrays whole, the merged array merged. -/
theorem halves_join :
    (bigSep Finset.univ fun c : Fin 2 => bigSep Finset.univ fun s : Fin 16 => tileTd tA kA d c.val s.val : sProp 𝕄)
      = iprop((tLoc d ↦{fullShare} tA) ∗ (kLoc d ↦{fullShare} kA) ∗ oLoc d ↦{fullShare} mergedT bigOf tA kA) := by
  have e : (bigSep Finset.univ fun c : Fin 2 => bigSep Finset.univ fun s : Fin 16 => tileTd tA kA d c.val s.val : sProp 𝕄)
      = bigSep Finset.univ fun n : Halves => halfTd tA kA d (at0 n) := by
    unfold tileTd
    rw [← Finset.univ_product_univ, SparseCore.bigSep_product]
    refine bigSep_congr fun c _ => ?_
    rw [← Finset.univ_product_univ, SparseCore.bigSep_product]
  rw [e]
  unfold halfTd
  rw [bigSep_sep', bigSep_sep']
  rw [← pointsTo_biUnion Finset.univ (ℓ := tLoc d) (fun n : Halves => colsAt (at0 n)) cols_disjoint, cols_cover,
    ← pointsTo_biUnion Finset.univ (ℓ := kLoc d) (fun n : Halves => partAt (at0 n)) parts_disjoint, parts_cover,
    ← pointsTo_biUnion Finset.univ (ℓ := oLoc d) (fun n : Halves => colsAt (at0 n)) cols_disjoint, cols_cover]

/-! ## The task -/

section Task

variable (L : grid2.Coords)

abbrev cV : Fin τ.nSC := (L 0).castLE hcore2
abbrev jV : Fin τ.nSub := (L 1).castLE hsub2

abbrev cell (s : DmaSems sig S_) : GSem nD τ sig := (V d (cV L) (jV L), SemLoc.dma s.sem)

theorem at2_cols {b : ℕ} (h : ∀ a, (![0, b] : Fin 2 → ℕ) a + S128x256.size a ≤ S128x16384.size a) (f : Vec F S128x16384 .f32) :
    (at2 d (tileOf L) ![0, b] h f : sProp 𝕄) = tLoc d ↦[colsAt b]{fullShare} f := by
  unfold at2; rw [cols2_set]
theorem at4_cols {b : ℕ} (h : ∀ a, (![0, b] : Fin 2 → ℕ) a + S128x256.size a ≤ S128x16384.size a) (f : Vec F S128x16384 .f32) :
    (at4 d (tileOf L) ![0, b] h f : sProp 𝕄) = oLoc d ↦[colsAt b]{fullShare} f := by
  unfold at4; rw [cols4_set]
theorem at3_part {b : ℕ} (h : ∀ a, (![b] : Fin 1 → ℕ) a + S256.size a ≤ S16384.size a) (f : Vec F S16384 .i32) :
    (at3 d (tileOf L) ![b] h f : sProp 𝕄) = kLoc d ↦[partAt b]{fullShare} f := by
  unfold at3; rw [part3_set]

theorem off_word {c s x : ℕ} (hc : c < 2) (hs : s < 16) (hx : x ≤ 256) :
    (Scalar.addi (Scalar.muli (Scalar.addi (Scalar.muli (BitVec.ofNat 32 s) 2#32) (BitVec.ofNat 32 c)) 512#32) (BitVec.ofNat 32 x)).toNat
      = (s * 2 + c) * 512 + x := by
  show (((BitVec.ofNat 32 s * 2#32 + BitVec.ofNat 32 c) * 512#32 + BitVec.ofNat 32 x : BitVec 32)).toNat = _
  simp only [BitVec.toNat_add, BitVec.toNat_mul, BitVec.toNat_ofNat, Nat.reducePow, Nat.reduceMod]
  omega

theorem c_lt : (L 0).val < 2 := (L 0).isLt
theorem s_lt : (L 1).val < 16 := (L 1).isLt

theorem off1_eq : k2_off1 L = ![0, col0 (L 0).val (L 1).val 0] := congrArg (fun n => (![0, n] : Fin 2 → ℕ)) (off_word (c_lt L) (s_lt L) (x := 0) (by omega))
theorem off30_eq : k2_off3 L 0#32 = ![0, col0 (L 0).val (L 1).val 0] := congrArg (fun n => (![0, n] : Fin 2 → ℕ)) (off_word (c_lt L) (s_lt L) (x := 0) (by omega))
theorem off2_eq : k2_off2 L = ![col0 (L 0).val (L 1).val 0] := congrArg (fun n => (![n] : Fin 1 → ℕ)) (off_word (c_lt L) (s_lt L) (x := 0) (by omega))
theorem off31_eq : k2_off3 L 256#32 = ![0, col0 (L 0).val (L 1).val 1] := congrArg (fun n => (![0, n] : Fin 2 → ℕ)) (off_word (c_lt L) (s_lt L) (x := 256) (by omega))
theorem off5_eq : k2_off5 L = ![0, col0 (L 0).val (L 1).val 1] := congrArg (fun n => (![0, n] : Fin 2 → ℕ)) (off_word (c_lt L) (s_lt L) (x := 256) (by omega))
theorem off4_eq : k2_off4 L = ![col0 (L 0).val (L 1).val 1] := congrArg (fun n => (![n] : Fin 1 → ℕ)) (off_word (c_lt L) (s_lt L) (x := 256) (by omega))

theorem inb2 {b : ℕ} (hb : b + 256 ≤ 16384) : ∀ a, (![0, b] : Fin 2 → ℕ) a + S128x256.size a ≤ S128x16384.size a :=
  fun | 0 => by show 0 + 128 ≤ 128; omega
      | 1 => by show b + 256 ≤ 16384; omega
theorem inb1 {b : ℕ} (hb : b + 256 ≤ 16384) : ∀ a, (![b] : Fin 1 → ℕ) a + S256.size a ≤ S16384.size a :=
  fun | 0 => by show b + 256 ≤ 16384; omega

/-- The six semaphores of the task's copies. -/
def sems : List (DmaSems sig S_) := [cc2_scoped0, cc2_scoped1, cc2_scoped2, cc2_scoped3, cc2_scoped4, cc2_scoped5]

/-- Six of a tile's own semaphores at zero, and the rest. -/
theorem ownSems0_V :
    (ownSems0 (V d (cV L) (jV L)) : sProp 𝕄)
      = iprop(semVal (cell d L cc2_scoped0) 0 ∗ semVal (cell d L cc2_scoped1) 0 ∗ semVal (cell d L cc2_scoped2) 0
          ∗ semVal (cell d L cc2_scoped3) 0 ∗ semVal (cell d L cc2_scoped4) 0 ∗ semVal (cell d L cc2_scoped5) 0
          ∗ bigSep (((((((ownCells (V d (cV L) (jV L))).erase (cell d L cc2_scoped0)).erase (cell d L cc2_scoped1)).erase (cell d L cc2_scoped2)).erase
              (cell d L cc2_scoped3)).erase (cell d L cc2_scoped4)).erase (cell d L cc2_scoped5)) fun g => semVal g 0) := by
  have mem (s : DmaSems sig S_) (h : (SemLoc.dma s.sem : SemLoc sig).isScoped .scVector = true) : cell d L s ∈ ownCells (V d (cV L) (jV L)) :=
    mem_ownCells.mpr ⟨rfl, h⟩
  have ne {s s' : DmaSems sig S_} (h : s.sem ≠ s'.sem) : cell d L s ≠ cell d L s' := fun e => h (SemLoc.dma.inj (Prod.mk.inj e).2)
  unfold SparseCore.Cfg.ownSems0
  rw [SparseCore.bigSep_erase' (mem cc2_scoped0 (by decide)),
    SparseCore.bigSep_erase' (Finset.mem_erase.mpr ⟨ne (s := cc2_scoped1) (s' := cc2_scoped0) (by decide), mem cc2_scoped1 (by decide)⟩),
    SparseCore.bigSep_erase' (Finset.mem_erase.mpr ⟨ne (s := cc2_scoped2) (s' := cc2_scoped1) (by decide),
      Finset.mem_erase.mpr ⟨ne (s := cc2_scoped2) (s' := cc2_scoped0) (by decide), mem cc2_scoped2 (by decide)⟩⟩),
    SparseCore.bigSep_erase' (Finset.mem_erase.mpr ⟨ne (s := cc2_scoped3) (s' := cc2_scoped2) (by decide),
      Finset.mem_erase.mpr ⟨ne (s := cc2_scoped3) (s' := cc2_scoped1) (by decide),
      Finset.mem_erase.mpr ⟨ne (s := cc2_scoped3) (s' := cc2_scoped0) (by decide), mem cc2_scoped3 (by decide)⟩⟩⟩),
    SparseCore.bigSep_erase' (Finset.mem_erase.mpr ⟨ne (s := cc2_scoped4) (s' := cc2_scoped3) (by decide),
      Finset.mem_erase.mpr ⟨ne (s := cc2_scoped4) (s' := cc2_scoped2) (by decide),
      Finset.mem_erase.mpr ⟨ne (s := cc2_scoped4) (s' := cc2_scoped1) (by decide),
      Finset.mem_erase.mpr ⟨ne (s := cc2_scoped4) (s' := cc2_scoped0) (by decide), mem cc2_scoped4 (by decide)⟩⟩⟩⟩),
    SparseCore.bigSep_erase' (Finset.mem_erase.mpr ⟨ne (s := cc2_scoped5) (s' := cc2_scoped4) (by decide),
      Finset.mem_erase.mpr ⟨ne (s := cc2_scoped5) (s' := cc2_scoped3) (by decide),
      Finset.mem_erase.mpr ⟨ne (s := cc2_scoped5) (s' := cc2_scoped2) (by decide),
      Finset.mem_erase.mpr ⟨ne (s := cc2_scoped5) (s' := cc2_scoped1) (by decide),
      Finset.mem_erase.mpr ⟨ne (s := cc2_scoped5) (s' := cc2_scoped0) (by decide), mem cc2_scoped5 (by decide)⟩⟩⟩⟩⟩)]

/-- The three scratches among a tile's own buffers, and the rest. -/
theorem ownBufs_V :
    (ownBufs (V d (cV L) (jV L)) : sProp 𝕄)
      = iprop((∃ f, pts5 d (tileOf L) f) ∗ (∃ f, pts6 d (tileOf L) f) ∗ (∃ f, pts7 d (tileOf L) f)
          ∗ bigSep ((((ownRefs (τ := τ) (.scVector (cV L) (jV L))).erase ((Proc.scVector (cV L) (jV L)).devRef cc2_scratch0)).erase
              ((Proc.scVector (cV L) (jV L)).devRef cc2_scratch1)).erase ((Proc.scVector (cV L) (jV L)).devRef cc2_scratch2))
              fun b => iprop(∃ f, ((d, b) : Loc nD τ sig) ↦{fullShare} f)) := by
  have mem (b : Ref sig .scVector) (h : ((Proc.scVector (τ := τ) (cV L) (jV L)).devRef b).owner = .proc (.scVector (cV L) (jV L))) :
      (Proc.scVector (cV L) (jV L)).devRef b ∈ ownRefs (τ := τ) (.scVector (cV L) (jV L)) :=
    SparseCore.Cfg.mem_ownRefs_of_owner h
  have ne {b b' : Ref sig .scVector} (h : b ≠ b') : (Proc.scVector (τ := τ) (cV L) (jV L)).devRef b ≠ (Proc.scVector (cV L) (jV L)).devRef b' :=
    fun e => h (Proc.devRef_injective _ e)
  unfold SparseCore.Cfg.ownBufs
  refine (SparseCore.bigSep_erase' (mem cc2_scratch0 rfl)).trans ?_
  rw [SparseCore.bigSep_erase' (Finset.mem_erase.mpr ⟨ne (b := cc2_scratch1) (b' := cc2_scratch0) (by decide), mem cc2_scratch1 rfl⟩),
    SparseCore.bigSep_erase' (Finset.mem_erase.mpr ⟨ne (b := cc2_scratch2) (b' := cc2_scratch1) (by decide),
      Finset.mem_erase.mpr ⟨ne (b := cc2_scratch2) (b' := cc2_scratch0) (by decide), mem cc2_scratch2 rfl⟩⟩)]
  rfl

theorem waits_mem {W : Waits sig (HIx 1)} {W' : Waits sig (HIx 1)} (hW : ∀ p ∈ W', p ∈ W ∨ p.2 = none) (s : SemLoc sig) :
    ∀ p ∈ insert (s, (none : HIx 1)) W', p ∈ W ∨ p.2 = none := by
  intro p hp
  rcases Finset.mem_insert.mp hp with rfl | hp
  · exact .inr rfl
  · exact hW p hp

/-- The task on tile `L`: from its two shares, the same shares with the merged columns. -/
theorem tile_body (hF : (K (F := F)).Facts) (O : CellTallies nD τ sig (HIx 1)) (W : Waits sig (HIx 1)) (hO : ∀ g, O g none = 0) :
    iprop(levAts (K (F := F)).L (K (F := F)).lev ∗ emp ∗ tileGo tA kA d (L 0).val (L 1).val
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc2__sc_merge_body L m2 (Memref.isWhole_whole _) m3 (Memref.isWhole_whole _) m4 (Memref.isWhole_whole _)
            m5 (Memref.isWhole_whole _) m6 (Memref.isWhole_whole _) m7 (Memref.isWhole_whole _)
            cc2_scoped0 cc2_scoped1 cc2_scoped2 cc2_scoped3 cc2_scoped4 cc2_scoped5)
          fun _ => iprop(tileTd tA kA d (L 0).val (L 1).val ∗ scopedBufs (V d (cV L) (jV L)) ∗ scopedSems0 (V d (cV L) (jV L))
            ∗ ∃ W', ⌜∀ p ∈ W', p ∈ W ∨ p.2 = none⌝ ∗ owes (V d (cV L) (jV L)) O W') := by
  have hb0 := col0_le (h := 0) (c_lt L) (s_lt L) (by omega)
  have hb1 := col0_le (h := 1) (c_lt L) (s_lt L) (by omega)
  rw [body_eq, (K (F := F)).scopedBufs_V hF d (cV L) (jV L), SparseCore.Cfg.scopedSems0_V (Val := Elt F) d (cV L) (jV L), ownSems0_V, ownBufs_V]
  unfold tileGo tileTd
  rw [bigSep_two, bigSep_two]
  unfold halfGo halfTd
  rw [show ((0 : Fin 2).val) = 0 from rfl, show ((1 : Fin 2).val) = 1 from rfl]
  rw [← at2_cols d L (inb2 hb0), ← at2_cols d L (inb2 hb1), ← at3_part d L (inb1 hb0), ← at3_part d L (inb1 hb1),
    ← at4_cols d L (inb2 hb0) (mergedT bigOf tA kA), ← at4_cols d L (inb2 hb1) (mergedT bigOf tA kA)]
  simp only [← at4_cols d L (inb2 hb0), ← at4_cols d L (inb2 hb1)]
  iintro ⟨#Hlv, -, ⟨⟨Ht0, Hk0, Ho0⟩, ⟨Ht1, Hk1, Ho1⟩⟩, ⟨H5, H6, H7, Hbufs⟩, ⟨Hs0, Hs1, Hs2, Hs3, Hs4, Hs5, Hsems⟩, HO⟩
  ihave Hmw := ((K (F := F)).mayWaits_none (thr := V d (cV L) (jV L)) hO) $$ Hlv
  iapply (wp_half d (tileOf L) hb0 (inb2 hb0) (inb1 hb0) (off1_eq L) (off30_eq L) (off2_eq L) (k2_off1_inb L) (k2_off3_inb L 0) (k2_off2_inb L)
    cc2_scoped0 cc2_scoped1 cc2_scoped2 bigOf tA kA O W)
  isplitl [Hmw]; · iexact Hmw
  isplitl [H5]; · iexact H5
  isplitl [H6]; · iexact H6
  isplitl [H7]; · iexact H7
  isplitl [Ht0]; · iexact Ht0
  isplitl [Hk0]; · iexact Hk0
  isplitl [Ho0]; · iexact Ho0
  isplitl [Hs0]; · iexact Hs0
  isplitl [Hs1]; · iexact Hs1
  isplitl [Hs2]; · iexact Hs2
  isplitl [HO]; · iexact HO
  iintro Hmw H5 H6 H7 Ht0 Hk0 Ho0 Hs0 Hs1 Hs2 HO
  rw [← bind_pure (half _ _ _ _ _ _ _ _ _ _ _ _ _ _ _ _ _ _ _ _)]
  iapply (wp_half d (tileOf L) hb1 (inb2 hb1) (inb1 hb1) (off31_eq L) (off5_eq L) (off4_eq L) (k2_off3_inb L 1) (k2_off5_inb L) (k2_off4_inb L)
    cc2_scoped3 cc2_scoped4 cc2_scoped5 bigOf tA kA O _)
  isplitl [Hmw]; · iexact Hmw
  isplitl [H5]; · iexact H5
  isplitl [H6]; · iexact H6
  isplitl [H7]; · iexact H7
  isplitl [Ht1]; · iexact Ht1
  isplitl [Hk1]; · iexact Hk1
  isplitl [Ho1]; · iexact Ho1
  isplitl [Hs3]; · iexact Hs3
  isplitl [Hs4]; · iexact Hs4
  isplitl [Hs5]; · iexact Hs5
  isplitl [HO]; · iexact HO
  iintro - H5 H6 H7 Ht1 Hk1 Ho1 Hs3 Hs4 Hs5 HO
  simp only [wp_pure]
  imodintro
  isplitl [Ht0 Hk0 Ho0 Ht1 Hk1 Ho1]
  · isplitl [Ht0 Hk0 Ho0]
    · isplitl [Ht0]; · iexact Ht0
      isplitl [Hk0]; · iexact Hk0
      iexact Ho0
    · isplitl [Ht1]; · iexact Ht1
      isplitl [Hk1]; · iexact Hk1
      iexact Ho1
  isplitl [H5 H6 H7 Hbufs]
  · isplitl [H5]; · iexact H5
    isplitl [H6]; · iexact H6
    isplitl [H7]; · iexact H7
    iexact Hbufs
  isplitl [Hs0 Hs1 Hs2 Hs3 Hs4 Hs5 Hsems]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    iexact Hsems
  iexists (insert (SemLoc.dma cc2_scoped5.sem, none) (insert (SemLoc.dma cc2_scoped4.sem, none) (insert (SemLoc.dma cc2_scoped3.sem, none)
    (insert (SemLoc.dma cc2_scoped2.sem, none) (insert (SemLoc.dma cc2_scoped1.sem, none) (insert (SemLoc.dma cc2_scoped0.sem, none) W))))))
  isplitr
  · ipureintro
    exact waits_mem (waits_mem (waits_mem (waits_mem (waits_mem (waits_mem (fun _ h => .inl h) _) _) _) _) _) _
  iexact HO

end Task

end Cert.Proof.Merge

end
-- ==== Proof.Main.lean ====
/-
  The program's run: memory after each operation of @main, the SparseCore call's payloads, @main on the TensorCore, and
  the launch. Every execution ends with the arrays at `V7`, and every semaphore back at zero.
-/
module

public import proofs.«01_k».proof.Proof.Region
public import proofs.«01_k».proof.Proof.Tile
public import Idealize.ShloMosaic.Lib.SparseCore.Quiescent
public import Idealize.ShloMosaic.Lib.StableHlo.Run

@[expose] public section

noncomputable section

namespace Cert.Proof.Merge

open Cert.KernelIdeal Cert.KernelIdeal.Gen

open Idealize.ShloMosaic
open Idealize.ShloMosaic.TcCoe
open Idealize.ShloMosaic.SparseCore (S V)
open Idealize.ShloMosaic.SparseCore.Cfg (HIx Pay)
open Idealize.ShloMosaic.Pipeline (Dat Cfg Window BodyObligation cellOf ucRefs)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## Memory after each operation -/

abbrev op1 : HloOp τ sig (Elt F) := StableHlo.unary main_arg0 main_v0 ((transpose S8x16384 [1, 0] · transposes_S16384x8_S8x16384_1_0) : (⟨S16384x8, .f32⟩ : BufTy).Contents (Elt F) → (⟨S8x16384, .f32⟩ : BufTy).Contents (Elt F))
abbrev op2 : HloOp τ sig (Elt F) := StableHlo.reshape main_arg1 main_v1 (rfl : (.f32 : EltTy) = .f32) shapeCasts_S128_S128x1
abbrev op3 : HloOp τ sig (Elt F) := StableHlo.reshape main_v2_1 main_v3 (rfl : (.i32 : EltTy) = .i32) shapeCasts_S8x1x2048_S16384
abbrev op4 : HloOp τ sig (Elt F) := StableHlo.unary main_arg2 main_v4 ((transpose S16x128 [1, 0] · transposes_S128x16_S16x128_1_0) : (⟨S128x16, .f32⟩ : BufTy).Contents (Elt F) → (⟨S16x128, .f32⟩ : BufTy).Contents (Elt F))
abbrev op5 : HloOp τ sig (Elt F) := StableHlo.unary main_v7_0 main_v8 ((transpose S16384x128x25 [1, 2, 0] · transposes_S25x16384x128_S16384x128x25_1_2_0) : (⟨S25x16384x128, .f32⟩ : BufTy).Contents (Elt F) → (⟨S16384x128x25, .f32⟩ : BufTy).Contents (Elt F))

variable (m : (ℓ : Loc nD τ sig) → Buf (Elt F) ℓ) (ρ : Dev nD → PrngReg)

abbrev t' : DevRef τ sig := Proc.devRef .tc main_v2_0
abbrev k' : DevRef τ sig := Proc.devRef .tc main_v3
abbrev o' : DevRef τ sig := Proc.devRef .tc main_v6

def V0 : Valuation τ sig (Elt F) := fun b => m ((0 : Dev nD), b)
def V1 : Valuation τ sig (Elt F) := op2.result (op1.result (V0 m))
def V2 : Valuation τ sig (Elt F) := after0 (V1 m)
def V3 : Valuation τ sig (Elt F) := op4.result (op3.result (V2 m))
def V4 : Valuation τ sig (Elt F) := after1 (V3 m)
/-- The distances, as the first call leaves them; -/
def tA : Vec F S128x16384 .f32 := V4 m t'
/-- the counts, as the first call leaves them, on one row. -/
def kA : Vec F S16384 .i32 := V4 m k'
def V5 : Valuation τ sig (Elt F) := Function.update (V4 m) o' (mergedT bigOf (tA m) (kA m))
def V6 : Valuation τ sig (Elt F) := after3 (V5 m)
def V7 : Valuation τ sig (Elt F) := op5.result (V6 m)

/-! ## The SparseCore call -/

/-- A SparseCore takes its 16 tiles' halves and brings them back merged. -/
def P : (K (F := F)).Pay (nD := nD) (Val := Elt F) (Name := ℕ) (U := UU) where
  st := fun _ d c => bigSep Finset.univ fun s : Fin 16 => tileGo (tA m) (kA m) d c.val s.val
  dn := fun _ d c => bigSep Finset.univ fun s : Fin 16 => tileTd (tA m) (kA m) d c.val s.val
  go := fun _ d c i => tileGo (tA m) (kA m) d c.val i.val
  td := fun _ d c i => tileTd (tA m) (kA m) d c.val i.val
  x := fun _ _ => iprop(emp)

instance P_storable : (P (F := F) m).IsStorable where
  st _ d c := by unfold P tileGo; infer_instance
  dn _ d c := by unfold P tileTd; infer_instance
  go _ _ _ _ := by unfold P tileGo; infer_instance
  td _ _ _ _ := by unfold P tileTd; infer_instance

def coordsV (c : Fin (grid2.bound 0)) (s : Fin (grid2.bound 1)) : grid2.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 2 ()
      = SparseCore.onTile hcore2 hsub2 (fun c s => cc2__sc_merge_body (coordsV c s)
          m2 (Memref.isWhole_whole _) m3 (Memref.isWhole_whole _) m4 (Memref.isWhole_whole _)
          m5 (Memref.isWhole_whole _) m6 (Memref.isWhole_whole _) m7 (Memref.isWhole_whole _)
          cc2_scoped0 cc2_scoped1 cc2_scoped2 cc2_scoped3 cc2_scoped4 cc2_scoped5) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  have hc : ((K (F := F)).core 0 c).val < grid2.bound 0 ∧ ((K (F := F)).sub 0 i).val < grid2.bound 1 := ⟨c.isLt, i.isLt⟩
  rw [defs₀_vector]; simp only [SparseCore.onTile, hc, and_self, ↓reduceDIte]
  exact (tile_body (tA m) (kA m) d (coordsV ⟨_, hc.1⟩ ⟨_, hc.2⟩) hF O W hO).trans (wp_mono frame _ _ fun _ => obl_post)

theorem vecSplit : (K (F := F)).VecSplit' (P m) 0 := by
  intro d c
  show (bigSep Finset.univ fun s : Fin 16 => tileGo (tA m) (kA m) d c.val s.val) ⊢ |={Set.univ}=> iprop(
      (bigSep Finset.univ fun s : Fin 16 => tileGo (tA m) (kA m) d c.val s.val)
      ∗ ((bigSep Finset.univ fun s : Fin 16 => tileTd (tA m) (kA m) d c.val s.val)
          -∗ bigSep Finset.univ fun s : Fin 16 => tileTd (tA m) (kA m) d c.val s.val))
  iintro H; imodintro
  isplitl [H]; · iexact H
  iintro H; iexact H

/-! ## The launch's ghost state -/

theorem phinj : Function.Injective (Pipeline.cellOf (nD := nD) (τ := τ) (Pipeline.pin (pcfgs (F := F)) adm)) := cellOf_inj

def u₀ : UU := (initOf (K (F := F)).hsCells (K (F := F)).hsToks,
  (initOf (Pipeline.cells (Pipeline.pin (pcfgs (F := F)) adm) phinj) (Pipeline.launchToks (Pipeline.pin (pcfgs (F := F)) adm) phinj), 1))

theorem ownU_split (a : UH) (b : UP) (c : Counters) : (ownU (a, (b, c)) : sProp 𝕄) ⊢ iprop(BI.own (EH a) ∗ BI.own (EP (F := F) b)) := by
  have h1 : (ownU (a, (b, c)) : sProp 𝕄) ⊢ iprop(BI.own (EH a) ∗ BI.own (uEmb (nD := nD) (sig := sig) (Ix := HIx 1) (Val := Elt F) (Name := ℕ) (U := UU) (Lvl := ℕ) ((1 : UH), (b, c)))) :=
    BI.own_op_elim ((uEmb (nD := nD) (sig := sig) (Ix := HIx 1) (Val := Elt F) (Name := ℕ) (U := UU) (Lvl := ℕ)).toEmb.op_of_mem
      (Prod.mk_mem_op (URA.mem_op_one a) (URA.mem_one_op (b, c))))
  have h2 : (BI.own (uEmb (nD := nD) (sig := sig) (Ix := HIx 1) (Val := Elt F) (Name := ℕ) (U := UU) (Lvl := ℕ) ((1 : UH), (b, c))) : sProp 𝕄)
      ⊢ iprop(BI.own (EP (F := F) b) ∗ BI.own (uEmb (nD := nD) (sig := sig) (Ix := HIx 1) (Val := Elt F) (Name := ℕ) (U := UU) (Lvl := ℕ) ((1 : UH), ((1 : UP), c)))) :=
    BI.own_op_elim ((uEmb (nD := nD) (sig := sig) (Ix := HIx 1) (Val := Elt F) (Name := ℕ) (U := UU) (Lvl := ℕ)).toEmb.op_of_mem
      (Prod.mk_mem_op (URA.mem_op_one (1 : UH)) (Prod.mk_mem_op (URA.mem_op_one b) (URA.mem_one_op c))))
  iintro H
  ihave H1 := h1 $$ H
  icases H1 with ⟨HA, HB⟩
  ihave H2 := h2 $$ HB
  icases H2 with ⟨HB, -⟩
  isplitl [HA]; · iexact HA
  iexact HB

/-- The three calls' ghost state on a core. -/
abbrev G (d : Dev nD) : sProp 𝕄 :=
  iprop((bigSep Finset.univ fun p => Pipeline.cellsGhost (Pipeline.pin (pcfgs (F := F)) adm) EP p d)
    ∗ bigSep Finset.univ fun p => Pipeline.toksInit (Pipeline.pin (pcfgs (F := F)) adm) EP p d)

theorem bigSep_emp' {I : Type} (s : Finset I) : (bigSep s fun _ => iprop(emp)) = (iprop(emp) : sProp 𝕄) := bigSep_emp_const s

theorem bigSep_sep₁ {I : Type} (s : Finset I) (Φ Ψ : I → sProp 𝕄) : (bigSep s fun i => iprop(Φ i ∗ Ψ i)) = iprop(bigSep s Φ ∗ bigSep s Ψ) := BI.bigSep_sep s Φ Ψ

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m).x q thr) := by
  unfold u₀
  iintro Hu
  ihave H := (ownU_split _ _ _) $$ Hu
  icases H with ⟨HH, HK⟩
  imod (Pipeline.fund_ghost (Pipeline.pin (pcfgs (F := F)) adm) EP phinj) $$ HK with ⟨Hg, Ht⟩
  imodintro
  isplitl [HH]; · iexact HH
  isplitl [Hg Ht]
  · unfold G
    rw [bigSep_sep₁]
    isplitl [Hg]; · iexact Hg
    iexact Ht
  unfold P
  dsimp only
  simp only [bigSep_emp']
  iempintro

/-! ## @main on the TensorCore -/

theorem bigSep_three (Φ : Fin 3 → sProp 𝕄) : bigSep Finset.univ Φ = iprop(Φ 0 ∗ Φ 1 ∗ Φ 2) := by
  rw [show (Finset.univ : Finset (Fin 3)) = {0, 1, 2} by decide, SparseCore.bigSep_insert' (by decide), SparseCore.bigSep_insert' (by decide), bigSep_singleton]

/-- A TensorCore call at the head of @main. -/
theorem wp_region {p : Fin 3} {pd : (p : Fin 3) → (c : Dev nD) → Dat τ (Elt F) (HIx 1) ℕ UU ℕ (Pipeline.pin (pcfgs (F := F)) adm p) c}
    [∀ e, Nonempty (Elt F e)]
    (R : Pipeline.RegionSeg (pcfgs (F := F)) adm pd none defs₀ 𝒱₀ (K (F := F)).L (K (F := F)).lev p) (d : Dev nD) (Q : PUnit → sProp 𝕄) :
    iprop((iprop(boundary (SparseCore.T d) ∗ R.post d) -∗ Q ⟨⟩) ∗ boundary (SparseCore.T d) ∗ R.pre d ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (SparseCore.T d) none) Set.univ (Prog.lift (.customCall (SparseCore.inner (Pipeline.entry p)) ())) Q := by
  refine BI.Entails.trans ?_ ((K (F := F)).wp_liftProg (D (F := F)) 𝒱 (SparseCore.T d) Set.univ none
    (.op (.customCall (Pipeline.entry p) ()) .ret) Q)
  refine BI.Entails.trans ?_ (R.wp (pcfgs (F := F)) adm pd none phinj EP defs₀ 𝒱₀ (K (F := F)).L (K (F := F)).lev d none (fun _ h => nomatch h) .ret Q)
  show (iprop(_ ∗ _) : sProp 𝕄) ⊢ iprop(_ ∗ _)
  iintro ⟨HK, H⟩
  isplitr [H]
  · iintro HB
    rw [wp_ret]
    imodintro
    iapply HK; iexact HB
  · iexact H

/-- The three arrays the SparseCore call works on, out of the core's memory, and what is left. -/
abbrev triple : Finset (DevRef τ sig) := {t', k', o'}

theorem triple_sub : triple ⊆ ucRefs τ sig := by decide

theorem held_triple (d : Dev nD) (V : Valuation τ sig (Elt F)) : (held (d : Thread nD τ) triple V : sProp 𝕄)
    = iprop((tLoc d ↦{fullShare} V t') ∗ (kLoc d ↦{fullShare} V k') ∗ oLoc d ↦{fullShare} V o') := by
  unfold held triple
  rw [SparseCore.bigSep_insert' (by decide), SparseCore.bigSep_insert' (by decide), bigSep_singleton]

theorem V5_t : V5 m t' = tA m := Function.update_of_ne (by decide) _ _
theorem V5_k : V5 m k' = kA m := Function.update_of_ne (by decide) _ _
theorem V5_o : V5 m o' = mergedT bigOf (tA m) (kA m) := Function.update_self _ _ _

/-- The SparseCore call at the head of @main: the three arrays go to the tiles and come back merged. -/
theorem wp_call (κ : GSem nD τ sig → ℕ) (d : Dev nD) (Q : PUnit → sProp 𝕄) :
    iprop((K (F := F)).ctx EH (P m) κ ∗ (K (F := F)).tcSt EH d 0 ∗ held (d : Thread nD τ) (ucRefs τ sig) (V4 m)
        ∗ (iprop((K (F := F)).tcSt EH d 1 ∗ held (d : Thread nD τ) (ucRefs τ sig) (V5 m)) -∗ Q ⟨⟩))
      ⊢ wp frame (wpE ((K (F := F)).defs (D (F := F))) 𝒱 (SparseCore.T d) none) Set.univ ((K (F := F)).run d 0) Q := by
  rw [StableHlo.held_sub_split (d : Thread nD τ) triple_sub (V4 m), StableHlo.held_sub_split (d : Thread nD τ) triple_sub (V5 m),
    held_triple, held_triple, V5_t, V5_k, V5_o,
    StableHlo.held_congr (d : Thread nD τ) (S := ucRefs τ sig \ triple) (V := V5 m) (V' := V4 m) (fun b hb => by
      exact Function.update_of_ne (fun e => (Finset.mem_sdiff.mp hb).2 (by rw [e]; decide)) _ _)]
  iintro ⟨#Hctx, Hst, ⟨⟨Ht, Hk, Ho⟩, Hrest⟩, HQ⟩
  iapply ((K (F := F)).wp_run (D (F := F)) 𝒱 (EH := EH) (P := P m) κ d 0) $$ [Hst Ht Hk Ho Hrest HQ]
  isplitr; · iexact Hctx
  isplitl [Hst]; · iexact Hst
  isplitl [Ht Hk Ho]
  · iapply (halves_split (tA m) (kA m) d (V4 m o'))
    isplitl [Ht]; · iexact Ht
    isplitl [Hk]; · iexact Hk
    iexact Ho
  iintro ⟨Hst, Hdn⟩
  ihave Hdn' := (Entails.of_eq (halves_join (tA m) (kA m) d)) $$ [Hdn]
  · iexact Hdn
  icases Hdn' with ⟨Ht, Hk, Ho⟩
  iapply HQ
  isplitl [Hst]; · iexact Hst
  isplitr [Hrest]
  · isplitl [Ht]; · iexact Ht
    isplitl [Hk]; · iexact Hk
    iexact Ho
  iexact Hrest

/-- A host operation at the head of @main. -/
theorem wp_host (d : Dev nD) {hp : (SparseCore.T d).2.kind.runsHlo = true} (op : HloOp τ sig (Elt F)) (h : op.bufs ⊆ StableHlo.tcRefs τ sig) (hf : op.fresh = ∅)
    (V : Valuation τ sig (Elt F)) (Q : PUnit → sProp 𝕄) :
    iprop((boundary (SparseCore.T d) ∗ held (d : Thread nD τ) (ucRefs τ sig) V)
        ∗ (iprop(boundary (SparseCore.T d) ∗ held (d : Thread nD τ) (ucRefs τ sig) (op.result V)) -∗ Q ⟨⟩))
      ⊢ wp frame (wpE ((K (F := F)).defs (D (F := F))) 𝒱 (SparseCore.T d) none) Set.univ (hlo hp op (fun _ => .ret ⟨⟩)) Q := by
  iintro ⟨H, HQ⟩
  iapply (wp_hlo_within 𝒱 (SparseCore.T d) none Set.univ (op := op) (S := ucRefs τ sig) (Pipeline.sub_ucRefs op h) (V := V) hf) $$ [H]
  · iexact H
  iintro H
  rw [wp_ret]
  imodintro
  iapply HQ; iexact H

/-- What @main leaves: the arrays at `V7`. -/
abbrev FIN (d : Dev nD) : sProp 𝕄 := held (d : Thread nD τ) (ucRefs τ sig) (V7 m)

/-- The ledger half of the TensorCore's state between SparseCore calls. -/
theorem tcSt_eq (d : Dev nD) (n : ℕ) : ∃ R : sProp 𝕄, (K (F := F)).tcSt EH d n
    = iprop((∃ B, ⌜(K (F := F)).WBelow (SparseCore.T d) B (8 * n)⌝ ∗ owes (d : Thread nD τ) ((K (F := F)).Otc d n) B) ∗ R) := ⟨_, rfl⟩

/-- A TensorCore call inside @main: `after` is the memory it leaves. -/
theorem wp_tc {p : Fin 3} {pd : (p : Fin 3) → (c : Dev nD) → Dat τ (Elt F) (HIx 1) ℕ UU ℕ (Pipeline.pin (pcfgs (F := F)) adm p) c}
    [∀ e, Nonempty (Elt F e)]
    (R : Pipeline.RegionSeg (pcfgs (F := F)) adm pd none defs₀ 𝒱₀ (K (F := F)).L (K (F := F)).lev p) (d : Dev nD) (n : ℕ)
    (V W : Valuation τ sig (Elt F)) (hpre : R.pre d = atCall n V d) (hpost : R.post d = atCall n W d)
    (κ : GSem nD τ sig → ℕ) (Q : PUnit → sProp 𝕄) :
    iprop((K (F := F)).ctx EH (P m) κ ∗ (K (F := F)).tcSt EH d n ∗ boundary (SparseCore.T d) ∗ held (d : Thread nD τ) (ucRefs τ sig) V
        ∗ (Pipeline.cellsGhost (Pipeline.pin (pcfgs (F := F)) adm) EP p d ∗ Pipeline.toksInit (Pipeline.pin (pcfgs (F := F)) adm) EP p d)
        ∗ (iprop((K (F := F)).tcSt EH d n ∗ boundary (SparseCore.T d) ∗ held (d : Thread nD τ) (ucRefs τ sig) W) -∗ Q ⟨⟩))
      ⊢ wp frame (wpE ((K (F := F)).defs (D (F := F))) 𝒱 (SparseCore.T d) none) Set.univ (Prog.lift (.customCall (SparseCore.inner (Pipeline.entry p)) ())) Q := by
  obtain ⟨RR, hst⟩ := tcSt_eq (F := F) d n
  rw [hst]
  iintro ⟨#Hctx, ⟨Ho, HR⟩, Hb, Hh, ⟨Hg, Ht⟩, HQ⟩
  iapply (wp_region R d Q)
  isplitl [HR HQ]
  · rw [hpost]
    unfold atCall
    iintro ⟨Hb, Hh, Ho⟩
    iapply HQ
    isplitl [Ho HR]
    · isplitl [Ho]; · iexact Ho
      iexact HR
    isplitl [Hb]; · iexact Hb
    iexact Hh
  isplitl [Hb]; · iexact Hb
  isplitl [Hh Ho]
  · rw [hpre]
    unfold atCall
    isplitl [Hh]; · iexact Hh
    iexact Ho
  isplitr; · iapply ((K (F := F)).ctx_levAts κ); iexact Hctx
  isplitl [Hg]; · iexact Hg
  iexact Ht

/-- @main on the TensorCore. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  have hm : (unscopedBufs d (fun b => m ((SparseCore.T d).loc b)) : sProp 𝕄) = held (d : Thread nD τ) (ucRefs τ sig) (V0 m) := by
    obtain rfl : d = 0 := Subsingleton.elim _ _
    exact Pipeline.unscopedBufs_held 0 (V0 m)
  unfold SparseCore.Cfg.tcRes SparseCore.Cfg.tcEnd G
  rw [hm, bigSep_three, bigSep_three]
  simp only [main, wp_bind, wp_pure]
  iintro ⟨#Hctx, Hst, ⟨Hb, Hh, Hts, -⟩, ⟨⟨Hg0, Hg1, Hg2⟩, Ht0, Ht1, Ht2⟩⟩
  iapply (wp_host d op1 (StableHlo.unary_bufs_sub ..) rfl (V0 m))
  isplitl [Hb Hh]
  · isplitl [Hb]; · iexact Hb
    iexact Hh
  iintro ⟨Hb, Hh⟩
  iapply (wp_host d op2 (StableHlo.reshape_bufs_sub ..) rfl _)
  isplitl [Hb Hh]
  · isplitl [Hb]; · iexact Hb
    iexact Hh
  iintro ⟨Hb, Hh⟩
  iapply (wp_tc m (seg0 (V1 m)) d 0 (V1 m) (V2 m) rfl rfl κ)
  isplitr; · iexact Hctx
  isplitl [Hst]; · iexact Hst
  isplitl [Hb]; · iexact Hb
  isplitl [Hh]; · iexact Hh
  isplitl [Hg0 Ht0]
  · isplitl [Hg0]; · iexact Hg0
    iexact Ht0
  iintro ⟨Hst, Hb, Hh⟩
  iapply (wp_host d op3 (StableHlo.reshape_bufs_sub ..) rfl (V2 m))
  isplitl [Hb Hh]
  · isplitl [Hb]; · iexact Hb
    iexact Hh
  iintro ⟨Hb, Hh⟩
  iapply (wp_host d op4 (StableHlo.unary_bufs_sub ..) rfl _)
  isplitl [Hb Hh]
  · isplitl [Hb]; · iexact Hb
    iexact Hh
  iintro ⟨Hb, Hh⟩
  iapply (wp_tc m (seg1 (V3 m)) d 0 (V3 m) (V4 m) rfl rfl κ)
  isplitr; · iexact Hctx
  isplitl [Hst]; · iexact Hst
  isplitl [Hb]; · iexact Hb
  isplitl [Hh]; · iexact Hh
  isplitl [Hg1 Ht1]
  · isplitl [Hg1]; · iexact Hg1
    iexact Ht1
  iintro ⟨Hst, Hb, Hh⟩
  iapply (wp_call m κ d)
  isplitr; · iexact Hctx
  isplitl [Hst]; · iexact Hst
  isplitl [Hh]; · iexact Hh
  iintro ⟨Hst, Hh⟩
  iapply (wp_tc m (seg3 (V5 m)) d 1 (V5 m) (V6 m) rfl rfl κ)
  isplitr; · iexact Hctx
  isplitl [Hst]; · iexact Hst
  isplitl [Hb]; · iexact Hb
  isplitl [Hh]; · iexact Hh
  isplitl [Hg2 Ht2]
  · isplitl [Hg2]; · iexact Hg2
    iexact Ht2
  iintro ⟨Hst, Hb, Hh⟩
  iapply (wp_host d op5 (StableHlo.unary_bufs_sub ..) rfl (V6 m))
  isplitl [Hb Hh]
  · isplitl [Hb]; · iexact Hb
    iexact Hh
  iintro ⟨Hb, Hh⟩
  imodintro
  isplitl [Hst]; · iexact Hst
  isplitl [Hh]; · iexact Hh
  isplitl [Hb] <;> iassumption

/-! ## The launch -/

/-- What @main leaves in one array is what memory holds there at the end. -/
theorem fin_read (d : Dev nD) (r : Ref sig .tc) (h : Proc.devRef .tc r ∈ ucRefs τ sig) (s' : Phys nD τ sig (Elt F)) :
    iprop(FIN m d ∗ SI s') ⊢ (⌜s'.mem.mem ((SparseCore.T d).loc r) = V7 m (Proc.devRef .tc r)⌝ : sProp 𝕄) := by
  have hr : FIN m d ⊢ (((SparseCore.T d).loc r) ↦{fullShare} V7 m (Proc.devRef .tc r) : sProp 𝕄) := by
    unfold FIN held
    exact bigSep_elim h
  iintro ⟨Hh, HSI⟩
  ihave Hr := hr $$ Hh
  ihave H := (SI_pointsTo_agree (st := s') (ℓ := (SparseCore.T d).loc r) (I := Finset.univ) (q := fullShare) (f := V7 m (Proc.devRef .tc r))) $$ [HSI Hr]
  · isplitl [HSI] <;> iassumption
  icases H with %h2
  ipureintro; exact funext fun i => h2 i (Finset.mem_univ i)

/-- The arguments and the results at the end. -/
def fq (d : Dev nD) (s' : Phys nD τ sig (Elt F)) : Prop :=
  ∀ r ∈ ([main_arg0, main_arg1, main_arg2, main_v8, main_v7_1] : List (Ref sig .tc)), s'.mem.mem ((SparseCore.T d).loc r) = V7 m (Proc.devRef .tc r)

theorem hfin (d : Dev nD) (s' : Phys nD τ sig (Elt F)) : iprop(FIN m d ∗ SI s') ⊢ (⌜fq m d s'⌝ : sProp 𝕄) := by
  have key : ∀ l : List (Ref sig .tc), (∀ r ∈ l, Proc.devRef .tc r ∈ ucRefs τ sig) →
      (iprop(FIN m d ∗ SI s') ⊢ (⌜∀ r ∈ l, s'.mem.mem ((SparseCore.T d).loc r) = V7 m (Proc.devRef .tc r)⌝ : sProp 𝕄)) := by
    intro l
    induction l with
    | nil => intro _; iintro -; ipureintro; intro r hr; exact absurd hr List.not_mem_nil
    | cons a l ih =>
      intro hl
      have ha := fin_read m d a (hl a List.mem_cons_self) s'
      have hi := ih (fun r hr => hl r (List.mem_cons_of_mem a hr))
      iintro H
      ihave H := (persistent_entails_right ha) $$ H
      icases H with ⟨%h1, H⟩
      ihave H := hi $$ H
      icases H with %h2
      ipureintro
      intro r hr
      rcases List.mem_cons.mp hr with rfl | hr
      · exact h1
      · exact h2 r hr
  exact key _ (by decide)

def QC : PUnit × MemSt nD τ sig (Elt F) → Prop := fun r =>
  (∀ c : Dev nD, ∀ b ∈ ([main_arg0, main_arg1, main_arg2, main_v8, main_v7_1] : List (Ref sig .tc)),
    r.2.mem ((c.tc : Thread nD τ).loc b) = V7 m (Proc.devRef .tc b)) ∧ r.2.sem = fun _ => 0

/-- Every execution ends, with the arguments and the results at `V7` and every semaphore back at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main G (FIN m) (u₀ (F := F)) (sep_elim_left.trans (hu₀ m)) (hmain m ρ) (fq m) (hfin m) (QC m) (fun _ h hz => ⟨h, hz⟩)

end Cert.Proof.Merge

end
-- ==== Proof.Same.lean ====
/-
  The kernel where floats are words and the idealized kernel's text read there are one program: label by label, by unfolding.
-/
module

public import proofs.«01_k».proof.Kernel
public import proofs.«01_k».proof.KernelIdeal
public import Idealize.ShloMosaic.PureOps.BitExact

@[expose] public section
noncomputable section
namespace Cert.Proof
open Idealize.ShloMosaic Idealize.ShloMosaic.TcCoe Idealize.SL.Sem
variable [Cert.Kernel.Facts] [Cert.KernelIdeal.Facts]
/-- A named constant's word, where floats are words. -/
def namedBits : Named Bits := ⟨fun _ _ {_} b => b⟩

local instance : Named Bits := namedBits

theorem cc2_eq : @Cert.Kernel.cc2__sc_merge_body Bits _ _ = @Cert.KernelIdeal.cc2__sc_merge_body Bits _ _ _ := rfl

/-- One label of the table. -/
theorem d_tc0 : Cert.Kernel.defs₀ (F := Bits) .tc (0 : Fin 4) = Cert.KernelIdeal.defs₀ (F := Bits) .tc (0 : Fin 4) := rfl
/-- One label of the table. -/
theorem d_tc1 : Cert.Kernel.defs₀ (F := Bits) .tc (1 : Fin 4) = Cert.KernelIdeal.defs₀ (F := Bits) .tc (1 : Fin 4) := rfl
/-- One label of the table. -/
theorem d_tc3 : Cert.Kernel.defs₀ (F := Bits) .tc (3 : Fin 4) = Cert.KernelIdeal.defs₀ (F := Bits) .tc (3 : Fin 4) := rfl
/-- One label of the table. -/
theorem d_tc2 : Cert.Kernel.defs₀ (F := Bits) .tc (2 : Fin 4) = Cert.KernelIdeal.defs₀ (F := Bits) .tc (2 : Fin 4) := rfl
/-- One label of the table. -/
theorem d_v0 (c : Fin Cert.Kernel.τ.nSC) (s) : Cert.Kernel.defs₀ (F := Bits) (.scVector c s) (0 : Fin 4) = Cert.KernelIdeal.defs₀ (F := Bits) (.scVector c s) (0 : Fin 4) := rfl
/-- One label of the table. -/
theorem d_v2 (c : Fin Cert.Kernel.τ.nSC) (s) : Cert.Kernel.defs₀ (F := Bits) (.scVector c s) (2 : Fin 4) = Cert.KernelIdeal.defs₀ (F := Bits) (.scVector c s) (2 : Fin 4) := rfl

/-- One label of the table. -/
theorem d_tc (l : Fin 4) : Cert.Kernel.defs₀ (F := Bits) .tc l = Cert.KernelIdeal.defs₀ (F := Bits) .tc l :=
  match l with
  | 0 => d_tc0 | 1 => d_tc1 | 2 => d_tc2 | 3 => d_tc3
/-- One label of the table. -/
theorem d_v (c : Fin Cert.Kernel.τ.nSC) (s) (l : Fin 4) : Cert.Kernel.defs₀ (F := Bits) (.scVector c s) l = Cert.KernelIdeal.defs₀ (F := Bits) (.scVector c s) l :=
  match l with
  | 0 => rfl | 1 => rfl | 2 => d_v2 c s | 3 => rfl
/-- One label of the table. -/
theorem d_s (c : Fin Cert.Kernel.τ.nSC) (l : Fin 4) : Cert.Kernel.defs₀ (F := Bits) (.scScalar c) l = Cert.KernelIdeal.defs₀ (F := Bits) (.scScalar c) l :=
  match l with
  | 0 => rfl | 1 => rfl | 2 => rfl | 3 => rfl
theorem defs₀_eq : Cert.Kernel.defs₀ (F := Bits) = Cert.KernelIdeal.defs₀ (F := Bits) :=
  funext fun p => funext fun l => match p with
    | .tc => d_tc l
    | .scScalar c => d_s c l
    | .scVector c s => d_v c s l
theorem defs_eq : Cert.Kernel.defs (F := Bits) = Cert.KernelIdeal.defs (F := Bits) :=
  congrArg (fun d => (Cert.KernelIdeal.sc (F := Bits)).defs (Pipeline.defs Cert.KernelIdeal.pcfgs d)) defs₀_eq
theorem threads_eq : Cert.Kernel.threads (F := Bits) = Cert.KernelIdeal.threads (F := Bits) := rfl
end Cert.Proof
end
-- ==== Proof.Frames.lean ====
/-
  The arguments at the end of the run, and the claims that need nothing of the values: the frames and the named constant.
-/
module

public import proofs.«01_k».proof.Proof.Main
public import proofs.«01_k».proof.Proof.Same
public import proofs.«01_k».proof.Defs
public import proofs.«01_k».proof.Proof.Gen.Kernel
public import proofs.«01_k».proof.Proof.Gen.ReferenceIdeal
public import proofs.«01_k».proof.Proof.Gen.ReferenceIdeal.Run
public import Idealize.ShloMosaic.Lib.Quiescent

@[expose] public section

noncomputable section

namespace Cert.Proof.Merge

open Cert.KernelIdeal Cert.KernelIdeal.Gen

open Idealize.ShloMosaic
open Idealize.ShloMosaic.TcCoe
open Idealize.SL.Sem

variable {F : FTy → Type} [FloatOps F] [Named F]
variable (m : (ℓ : Loc nD τ sig) → Buf (Elt F) ℓ)

/-- A TensorCore call leaves every array it does not write. -/
theorem after0_keeps (W : Valuation τ sig (Elt F)) (r : Ref sig .tc) (h : r ≠ main_v2_0 ∧ r ≠ main_v2_1) :
    after0 W (Proc.devRef .tc r) = W (Proc.devRef .tc r) :=
  Pipeline.afterRegion_keeps (dat0 W (0 : Dev nD)) W winFacts0.arr_inj (fun _ => rfl) r (fun w e => by
    subst e; revert h; revert w; decide)

theorem after1_keeps (W : Valuation τ sig (Elt F)) (r : Ref sig .tc) (h : r ≠ main_v5) :
    after1 W (Proc.devRef .tc r) = W (Proc.devRef .tc r) :=
  Pipeline.afterRegion_keeps (dat1 W (0 : Dev nD)) W winFacts1.arr_inj (fun _ => rfl) r (fun w e => by
    subst e; revert h; revert w; decide)

theorem after3_keeps (W : Valuation τ sig (Elt F)) (r : Ref sig .tc) (h : r ≠ main_v7_0 ∧ r ≠ main_v7_1) :
    after3 W (Proc.devRef .tc r) = W (Proc.devRef .tc r) :=
  Pipeline.afterRegion_keeps (dat3 W (0 : Dev nD)) W winFacts3.arr_inj (fun _ => rfl) r (fun w e => by
    subst e; revert h; revert w; decide)

/-- The arguments are what they were. -/
theorem V7_arg (r : Ref sig .tc) (h : r ∈ ([main_arg0, main_arg1, main_arg2] : List (Ref sig .tc))) :
    V7 m (Proc.devRef .tc r) = m (((0 : Dev nD).tc : Thread nD τ).loc r) := by
  have n5 : r ≠ main_v8 := by revert h; revert r; decide
  have n6 : r ≠ main_v7_0 ∧ r ≠ main_v7_1 := by revert h; revert r; decide
  have nc : (Proc.devRef .tc r : DevRef τ sig) ≠ o' := by revert h; revert r; decide
  have n4 : r ≠ main_v5 := by revert h; revert r; decide
  have n3 : r ≠ main_v4 ∧ r ≠ main_v3 := by revert h; revert r; decide
  have n2 : r ≠ main_v2_0 ∧ r ≠ main_v2_1 := by revert h; revert r; decide
  have n1 : r ≠ main_v1 ∧ r ≠ main_v0 := by revert h; revert r; decide
  unfold V7
  rw [StableHlo.unary_result_ne (h := n5)]
  unfold V6
  rw [after3_keeps _ r n6]
  unfold V5
  rw [Function.update_of_ne nc]
  unfold V4
  rw [after1_keeps _ r n4]
  unfold V3
  rw [StableHlo.unary_result_ne (h := n3.1), StableHlo.reshape_result_ne (h := n3.2)]
  unfold V2
  rw [after0_keeps _ r n2]
  unfold V1
  rw [StableHlo.reshape_result_ne (h := n1.1), StableHlo.unary_result_ne (h := n1.2)]
  rfl

/-- Every execution ends with the results at `V7`, the arguments unchanged, every semaphore at zero. -/
theorem run_args [∀ e, Nonempty (Elt F e)] (ρ : Dev nD → PrngReg) :
    θ_run (Cert.KernelIdeal.defs (F := F)) (Cert.KernelIdeal.threads (F := F)) ⟨m, fun _ => 0, ρ⟩ (fun r =>
      (∀ c : Dev nD,
        r.2.mem ((c.tc : Thread nD τ).loc main_v8) = V7 m (Proc.devRef .tc main_v8)
        ∧ r.2.mem ((c.tc : Thread nD τ).loc main_v7_1) = V7 m (Proc.devRef .tc main_v7_1)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0) :=
  (θ_run _ _ _).mono (fun r h => ⟨fun c => by
    obtain rfl : c = 0 := Subsingleton.elim _ _
    exact ⟨h.1 0 _ (by decide), h.1 0 _ (by decide), (h.1 0 _ (by decide)).trans (V7_arg m _ (by decide)),
      (h.1 0 _ (by decide)).trans (V7_arg m _ (by decide)), (h.1 0 _ (by decide)).trans (V7_arg m _ (by decide))⟩, h.2⟩) (run_main m ρ)

end Cert.Proof.Merge

namespace Cert.Proof

open Idealize.ShloMosaic Idealize.ShloMosaic.TcCoe Idealize.SL.Sem

local instance : Named Bits := namedBits

theorem frame_kernel : Cert.quiescent_Kernel := by
  intro m ρ _
  rw [defs_eq, threads_eq]
  exact (θ_run (Cert.KernelIdeal.defs (F := Bits)) (Cert.KernelIdeal.threads (F := Bits)) _).mono (fun _ h => ⟨fun c => (h.1 c).2.2, h.2⟩) (Merge.run_args (F := Bits) m ρ)

theorem frame_kernelIdeal : Cert.quiescent_KernelIdeal := fun m ρ _ =>
  (θ_run Cert.KernelIdeal.defs _ _).mono (fun _ h => ⟨fun c => (h.1 c).2.2, h.2⟩) (Merge.run_args (F := Ideal) m ρ)

theorem frame_referenceIdeal : Cert.quiescent_ReferenceIdeal := fun m ρ _ =>
  (θ_run Cert.ReferenceIdeal.defs _ _).mono (fun r h => ⟨fun c => (h c).2.2, sem_eq_zero_of_no_sems (by decide) _⟩)
    (Cert.ReferenceIdeal.Value.run (F := Ideal) m ρ)

theorem preserves : Cert.preserves_Kernel_KernelIdeal :=
  IdealRules.named_const.statement _ _ _ _ _ rfl

end Cert.Proof

end
-- ==== Proof.Order.lean ====
/-
  The mathematics of the merge. Over the extended reals: a list falling along its places, whose first `k` entries are the
  positive ones, read outwards from place `k` by least magnitude, is the list sorted by magnitude, equal magnitudes in the
  order of their places.
-/
module

public import proofs.«01_k».proof.Proof.Setup
public import proofs.«01_k».proof.Proof.TileProg
public import Idealize.ShloMosaic.PureOps.Ideal
public import Idealize.ShloMosaic.Lib.SortFacts

@[expose] public section

noncomputable section

namespace Cert.Proof.Merge

open Cert.KernelIdeal
open Idealize.ShloMosaic

/-! ## The order of the list -/

/-- The magnitude. -/
def mag (x : EReal) : EReal := max x (-x)

/-- Nearer, or as near and not smaller. -/
def Nearer (x y : EReal) : Prop := mag x < mag y ∨ (mag x = mag y ∧ y ≤ x)

theorem mag_of_pos {x : EReal} (h : 0 ≤ x) : mag x = x :=
  max_eq_left ((EReal.neg_le_neg_iff.mpr h).trans (by simpa using h))
theorem mag_of_nonpos {x : EReal} (h : x ≤ 0) : mag x = -x :=
  max_eq_right (h.trans (by simpa using EReal.neg_le_neg_iff.mpr h))

theorem nearer_antisymm {x y : EReal} (h : Nearer x y) (h' : Nearer y x) : x = y := by
  rcases h with h | ⟨h, h1⟩ <;> rcases h' with h' | ⟨h', h2⟩
  · exact absurd (h.trans h') (lt_irrefl _)
  · exact absurd (h' ▸ h) (lt_irrefl _)
  · exact absurd (h ▸ h') (lt_irrefl _)
  · exact le_antisymm h2 h1

/-- Two arrangements of one list, both nearest first, are one. -/
theorem arrangements_eq {n : ℕ} (t : Fin n → EReal) (c σ : Fin n → Fin n) (hc : Function.Injective c) (hσ : Function.Injective σ)
    (sc : ∀ i j, i < j → Nearer (t (c i)) (t (c j))) (sσ : ∀ i j, i < j → Nearer (t (σ i)) (t (σ j))) (i : Fin n) :
    t (c i) = t (σ i) := by
  have perm : ∀ f : Fin n → Fin n, Function.Injective f → (List.ofFn (t ∘ f)).Perm (List.ofFn t) := fun f hf =>
    Equiv.Perm.ofFn_comp_perm (Equiv.ofBijective f (Finite.injective_iff_bijective.mp hf)) t
  have e : List.ofFn (t ∘ c) = List.ofFn (t ∘ σ) :=
    ((perm c hc).trans (perm σ hσ).symm).eq_of_pairwise (le := Nearer) (fun a b _ _ => nearer_antisymm)
      (List.pairwise_ofFn.mpr fun i j h => sc i j h) (List.pairwise_ofFn.mpr fun i j h => sσ i j h)
  exact congrFun (List.ofFn_injective e) i

/-! ## The outward walk -/

section Walk

variable (t : ℕ → EReal) (k : ℕ)

/-- The pointers: `x` entries are left below, and the next above is at `y`. -/
def takes (s : ℕ × ℕ) : Prop := (if 0 < s.1 then mag (t (s.1 - 1)) else ⊤) ≤ (if s.2 < 128 then mag (t s.2) else ⊤)

open Classical in
/-- The pointers after `n` steps. -/
def outward : ℕ → ℕ × ℕ
  | 0 => (k, k)
  | n + 1 => if takes t (outward n) then ((outward n).1 - 1, (outward n).2) else ((outward n).1, (outward n).2 + 1)

open Classical in
/-- The place step `n` takes. -/
def place (n : ℕ) : ℕ := if takes t (outward t k n) then (outward t k n).1 - 1 else (outward t k n).2

variable (anti : ∀ i j, i ≤ j → j < 128 → t j ≤ t i) (hk : k ≤ 128) (pos : ∀ i, i < 128 → (i < k ↔ 0 < t i)) (fin : ∀ i, i < 128 → t i ≠ ⊥)

include pos in
theorem mag_lt_top_of_nonpos (fin : ∀ i, i < 128 → t i ≠ ⊥) {i : ℕ} (h : k ≤ i) (hi : i < 128) : mag (t i) < ⊤ := by
  have h0 : t i ≤ 0 := not_lt.mp fun h' => absurd ((pos i hi).mpr h') (by omega)
  rw [mag_of_nonpos h0, lt_top_iff_ne_top]
  intro e
  exact fin i hi (by rw [← neg_neg (t i), e]; rfl)

include hk pos fin in
/-- What stays true of the pointers, and of the place taken. -/
theorem outward_inv (n : ℕ) : n ≤ 128 → (outward t k n).1 ≤ k ∧ k ≤ (outward t k n).2 ∧ (outward t k n).2 ≤ 128
    ∧ (outward t k n).2 = (outward t k n).1 + n := by
  induction n with
  | zero => exact fun _ => ⟨le_rfl, le_rfl, hk, rfl⟩
  | succ n ih =>
    intro hn
    obtain ⟨h1, h2, h3, h4⟩ := ih (by omega)
    simp only [outward]
    split
    · rename_i ht
      have hx : 0 < (outward t k n).1 := by
        by_contra hx
        unfold takes at ht
        rw [if_neg hx] at ht
        by_cases hy : (outward t k n).2 < 128
        · rw [if_pos hy] at ht
          exact absurd ht (not_le.mpr (mag_lt_top_of_nonpos t k pos fin h2 hy))
        · omega
      exact ⟨by show _ - 1 ≤ _; omega, h2, h3, by show _ = _ - 1 + _; omega⟩
    · rename_i ht
      have hy : (outward t k n).2 < 128 := by
        by_contra hy
        exact ht (by unfold takes; rw [if_neg hy]; exact le_top)
      exact ⟨h1, by show _ ≤ _ + 1; omega, by show _ + 1 ≤ _; omega, by show _ + 1 = _; omega⟩

/-- The cases of a step. -/
theorem place_cases (fin : ∀ i, i < 128 → t i ≠ ⊥) (hk : k ≤ 128) (pos : ∀ i, i < 128 → (i < k ↔ 0 < t i)) (n : ℕ) (hn : n < 128) :
    (takes t (outward t k n) ∧ 0 < (outward t k n).1 ∧ place t k n = (outward t k n).1 - 1
        ∧ outward t k (n + 1) = ((outward t k n).1 - 1, (outward t k n).2))
    ∨ (¬ takes t (outward t k n) ∧ (outward t k n).2 < 128 ∧ place t k n = (outward t k n).2
        ∧ outward t k (n + 1) = ((outward t k n).1, (outward t k n).2 + 1)) := by
  obtain ⟨h1, h2, h3, h4⟩ := outward_inv t k hk pos fin n (by omega)
  obtain ⟨g1, g2, g3, g4⟩ := outward_inv t k hk pos fin (n + 1) (by omega)
  by_cases ht : takes t (outward t k n)
  · have e : outward t k (n + 1) = ((outward t k n).1 - 1, (outward t k n).2) := by simp only [outward, if_pos ht]
    refine .inl ⟨ht, ?_, by simp only [place, if_pos ht], e⟩
    rw [e] at g4
    simp only at g4
    omega
  · have e : outward t k (n + 1) = ((outward t k n).1, (outward t k n).2 + 1) := by simp only [outward, if_neg ht]
    refine .inr ⟨ht, ?_, by simp only [place, if_neg ht], e⟩
    rw [e] at g3
    simp only at g3
    omega

/-- The pointers only move outwards. -/
theorem outward_mono (fin : ∀ i, i < 128 → t i ≠ ⊥) (hk : k ≤ 128) (pos : ∀ i, i < 128 → (i < k ↔ 0 < t i)) (n m : ℕ) (h : n ≤ m) (hm : m ≤ 128) :
    (outward t k m).1 ≤ (outward t k n).1 ∧ (outward t k n).2 ≤ (outward t k m).2 := by
  induction m, h using Nat.le_induction with
  | base => exact ⟨le_rfl, le_rfl⟩
  | succ m hnm ih =>
    have := ih (by omega)
    rcases place_cases t k fin hk pos m (by omega) with ⟨-, -, -, e⟩ | ⟨-, -, -, e⟩ <;> rw [e] <;> simp only <;> omega

theorem place_lt (fin : ∀ i, i < 128 → t i ≠ ⊥) (hk : k ≤ 128) (pos : ∀ i, i < 128 → (i < k ↔ 0 < t i)) (n : ℕ) (hn : n < 128) :
    place t k n < 128 := by
  have := outward_inv t k hk pos fin n (by omega)
  rcases place_cases t k fin hk pos n hn with ⟨-, h, e, -⟩ | ⟨-, h, e, -⟩ <;> rw [e] <;> omega

/-- A later step takes a place outside the pointers. -/
theorem place_outside (fin : ∀ i, i < 128 → t i ≠ ⊥) (hk : k ≤ 128) (pos : ∀ i, i < 128 → (i < k ↔ 0 < t i)) (n m : ℕ) (h : n ≤ m) (hm : m < 128) :
    place t k m < (outward t k n).1 ∨ (outward t k n).2 ≤ place t k m := by
  have := outward_mono t k fin hk pos n m h (by omega)
  rcases place_cases t k fin hk pos m hm with ⟨-, h, e, -⟩ | ⟨-, h, e, -⟩ <;> rw [e] <;> omega

theorem place_ne (fin : ∀ i, i < 128 → t i ≠ ⊥) (hk : k ≤ 128) (pos : ∀ i, i < 128 → (i < k ↔ 0 < t i)) (n m : ℕ) (h : n < m) (hm : m < 128) :
    place t k n ≠ place t k m := by
  have o := place_outside t k fin hk pos (n + 1) m h hm
  have i := outward_inv t k hk pos fin n (by omega)
  rcases place_cases t k fin hk pos n (by omega) with ⟨-, h, e, e'⟩ | ⟨-, h, e, e'⟩ <;> rw [e'] at o <;> rw [e] <;> simp only at o <;> omega

/-- The place a step takes is nearest of those left. -/
theorem place_nearest (anti : ∀ i j, i ≤ j → j < 128 → t j ≤ t i) (fin : ∀ i, i < 128 → t i ≠ ⊥) (hk : k ≤ 128)
    (pos : ∀ i, i < 128 → (i < k ↔ 0 < t i)) (n : ℕ) (hn : n < 128) (s : ℕ) (hs : s < 128)
    (o : s < (outward t k n).1 ∨ (outward t k n).2 ≤ s) : Nearer (t (place t k n)) (t s) := by
  obtain ⟨h1, h2, h3, h4⟩ := outward_inv t k hk pos fin n (by omega)
  have P : ∀ i, i < k → 0 < t i := fun i h => (pos i (by omega)).mp h
  have N : ∀ i, k ≤ i → i < 128 → t i ≤ 0 := fun i h hi => not_lt.mp fun h' => absurd ((pos i hi).mpr h') (by omega)
  rcases place_cases t k fin hk pos n hn with ⟨ht, hx, e, -⟩ | ⟨ht, hy, e, -⟩
  · rw [e]
    unfold takes at ht
    rw [if_pos hx] at ht
    have p1 := P ((outward t k n).1 - 1) (by omega)
    rcases o with o | o
    · have p2 := P s (by omega)
      have := anti s ((outward t k n).1 - 1) (by omega) (by omega)
      unfold Nearer
      rw [mag_of_pos p1.le, mag_of_pos p2.le]
      rcases this.lt_or_eq with h | h
      · exact .inl h
      · exact .inr ⟨h, h.ge⟩
    · have q := N s (by omega) hs
      rw [if_pos (by omega : (outward t k n).2 < 128)] at ht
      have q2 := N (outward t k n).2 h2 (by omega)
      have hm : mag (t (outward t k n).2) ≤ mag (t s) := by
        rw [mag_of_nonpos q2, mag_of_nonpos q]
        exact EReal.neg_le_neg_iff.mpr (anti _ _ o hs)
      rcases (ht.trans hm).lt_or_eq with h | h
      · exact .inl h
      · exact .inr ⟨h, q.trans p1.le⟩
  · rw [e]
    unfold takes at ht
    rw [if_pos hy] at ht
    have q1 := N (outward t k n).2 h2 hy
    rcases o with o | o
    · have p2 := P s (by omega)
      have hx : 0 < (outward t k n).1 := by omega
      rw [if_pos hx] at ht
      have p1 := P ((outward t k n).1 - 1) (by omega)
      left
      refine (not_le.mp ht).trans_le ?_
      rw [mag_of_pos p1.le, mag_of_pos p2.le]
      exact anti s ((outward t k n).1 - 1) (by omega) (by omega)
    · have q := N s (by omega) hs
      have a := anti _ _ o hs
      unfold Nearer
      rw [mag_of_nonpos q1, mag_of_nonpos q]
      rcases (EReal.neg_le_neg_iff.mpr a).lt_or_eq with h | h
      · exact .inl h
      · exact .inr ⟨h, a⟩

end Walk

/-! ## The stable sort -/

section Stable

variable {ι : Type}

/-- The stable sort asks its relation only of a later entry against an earlier one. -/
theorem stableSort_congr_later (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- Sorted by a key, equal keys in the order of their places. -/
theorem sortedFrom_key {n : ℕ} (key : Fin n → EReal) (R : Fin n → Fin n → Bool) (hR : ∀ a b, R a b = decide (key a < key b)) (i j : Fin n) (hij : i < j) :
    key (sortedFrom R i) < key (sortedFrom R j) ∨ (key (sortedFrom R i) = key (sortedFrom R j) ∧ sortedFrom R i ≤ sortedFrom R j) := by
  let R' : Fin n → Fin n → Bool := fun a b => decide (key a < key b ∨ (key a = key b ∧ a < b))
  have e : sortPositions n R = sortPositions n R' := by
    refine stableSort_congr_later R R' _ ((List.pairwise_lt_finRange n).imp fun {a b} hab => ?_)
    rw [hR]
    refine decide_eq_decide.mpr ⟨.inl, fun h => h.resolve_right fun h' => absurd h'.2 (not_lt.mpr hab.le)⟩
  have e' : sortedFrom R = sortedFrom R' := by
    funext k
    unfold sortedFrom
    rw [List.get_of_eq e]
    rfl
  have := sortedFrom_noInversion R' R' (fun a b h => by
      simp only [R', decide_eq_true_eq, decide_eq_false_iff_not] at h ⊢
      rintro (h' | ⟨h', h2⟩) <;> rcases h with h | ⟨h, h3⟩
      · exact absurd (h.trans h') (lt_irrefl _)
      · exact absurd (h ▸ h') (lt_irrefl _)
      · exact absurd (h' ▸ h) (lt_irrefl _)
      · exact absurd (h2.trans h3) (lt_irrefl _))
    (fun _ _ h => h) (fun a b c h1 h2 => by
      simp only [R', decide_eq_false_iff_not, not_or, not_and, not_lt] at h1 h2 ⊢
      refine ⟨h2.1.trans h1.1, fun h => ?_⟩
      have hab : key a = key b := le_antisymm (h.le.trans h2.1) h1.1
      have hbc : key b = key c := hab.symm.trans h
      exact (h2.2 hbc).trans (h1.2 hab)) i j hij
  rw [e']
  simp only [R', decide_eq_false_iff_not, not_or, not_and, not_lt] at this
  rcases this.1.lt_or_eq with h | h
  · exact .inl h
  · exact .inr ⟨h, this.2 h.symm⟩

end Stable

end Cert.Proof.Merge

end
-- ==== Proof.Walk.lean ====
/-
  The kernel's merge of a column, over the extended reals, is the outward walk.
-/
module

public import proofs.«01_k».proof.Proof.Order

@[expose] public section

noncomputable section

namespace Cert.Proof.Merge

open Cert.KernelIdeal
open Idealize.ShloMosaic

theorem below_iff (x : ℕ) (hx : x ≤ 128) : IntOp.cmpi .sge (BitVec.ofNat 32 x - 1#32) 0#32 = 1#1 ↔ 0 < x := by
  have : ∀ x : Fin 129, IntOp.cmpi .sge (BitVec.ofNat 32 x.val - 1#32) 0#32 = 1#1 ↔ 0 < x.val := by decide +kernel
  exact this ⟨x, by omega⟩

theorem above_iff (y : ℕ) (hy : y ≤ 128) : IntOp.cmpi .slt (BitVec.ofNat 32 y) 128#32 = 1#1 ↔ y < 128 := by
  have : ∀ x : Fin 129, IntOp.cmpi .slt (BitVec.ofNat 32 x.val) 128#32 = 1#1 ↔ x.val < 128 := by decide +kernel
  exact this ⟨y, by omega⟩

theorem clip_below (x : ℕ) (hx : x ≤ 128) (h : 0 < x) : (clip1 (BitVec.ofNat 32 x - 1#32)).toNat = x - 1 := by
  have : ∀ x : Fin 129, 0 < x.val → (BitVec.ofNat 32 x.val - 1#32).toNat = x.val - 1 := by decide +kernel
  have e := this ⟨x, by omega⟩ h
  simp only at e
  rw [clip1_of_lt (by omega), e]

theorem clip_above (y : ℕ) (hy : y < 128) : (clip1 (BitVec.ofNat 32 y)).toNat = y := by
  have e : (BitVec.ofNat 32 y).toNat = y := by rw [BitVec.toNat_ofNat]; omega
  rw [clip1_of_lt (by omega), e]

/-- The kernel's comparison of two candidates. -/
theorem take1_iff (lo hi : BitVec 32) (tl th : EReal) :
    take1 (F := Ideal) (⊤ : EReal) lo hi tl th = 1#1
      ↔ (if IntOp.cmpi .sge lo 0#32 = 1#1 then mag tl else (⊤ : EReal)) ≤ (if IntOp.cmpi .slt hi 128#32 = 1#1 then mag th else ⊤) := by
  have e : take1 (F := Ideal) (⊤ : EReal) lo hi tl th
      = FloatOps.cmpf (F := Ideal) (φ := .f32) .ole (Scalar.select (IntOp.cmpi .sge lo 0#32) (mag tl) (⊤ : EReal)) (Scalar.select (IntOp.cmpi .slt hi 128#32) (mag th) (⊤ : EReal)) := rfl
  rw [e]
  show BitVec.ofBool (decide ((if IntOp.cmpi .sge lo 0#32 = 1#1 then mag tl else (⊤ : EReal)) ≤ (if IntOp.cmpi .slt hi 128#32 = 1#1 then mag th else ⊤))) = 1#1 ↔ _
  rw [show (1#1 : BitVec 1) = BitVec.ofBool true from rfl, BitVec.ofBool_eq_iff_eq, decide_eq_true_iff]

variable (t : ℕ → EReal)

theorem choice_iff (x y : ℕ) (hx : x ≤ 128) (hy : y ≤ 128) :
    choice (F := Ideal) (⊤ : EReal) t (BitVec.ofNat 32 x - 1#32, BitVec.ofNat 32 y) = 1#1 ↔ takes t (x, y) := by
  unfold choice takes
  rw [take1_iff]
  simp only [below_iff x hx, above_iff y hy]
  have e1 : (if 0 < x then mag (t (clip1 (BitVec.ofNat 32 x - 1#32)).toNat) else (⊤ : EReal)) = if 0 < x then mag (t (x - 1)) else ⊤ := by
    split
    · rename_i h; rw [clip_below x hx h]
    · rfl
  have e2 : (if y < 128 then mag (t (clip1 (BitVec.ofNat 32 y)).toNat) else (⊤ : EReal)) = if y < 128 then mag (t y) else ⊤ := by
    split
    · rename_i h; rw [clip_above y h]
    · rfl
  rw [e1, e2]

variable (kk : ℕ)

/-- The kernel's pointers are the walk's. -/
theorem walk_eq (fin : ∀ i, i < 128 → t i ≠ ⊥) (hk : kk ≤ 128) (pos : ∀ i, i < 128 → (i < kk ↔ 0 < t i)) (n : ℕ) (hn : n ≤ 128) :
    walk (F := Ideal) (⊤ : EReal) t (BitVec.ofNat 32 kk) n = (BitVec.ofNat 32 (outward t kk n).1 - 1#32, BitVec.ofNat 32 (outward t kk n).2) := by
  induction n with
  | zero => rfl
  | succ n ih =>
    have i := outward_inv t kk hk pos fin n (by omega)
    have c := choice_iff t (outward t kk n).1 (outward t kk n).2 (by omega) (by omega)
    unfold walk
    simp only [ih (by omega)]
    rcases place_cases t kk fin hk pos n (by omega) with ⟨h, hx, -, e⟩ | ⟨h, hy, -, e⟩
    · rw [if_pos (c.mpr h), e]
      have : BitVec.ofNat 32 (outward t kk n).1 - 1#32 = BitVec.ofNat 32 ((outward t kk n).1 - 1) := by
        apply BitVec.eq_of_toNat_eq
        rw [BitVec.toNat_sub, BitVec.toNat_ofNat, BitVec.toNat_ofNat, BitVec.toNat_ofNat]
        omega
      rw [this]
    · rw [if_neg (fun h' => h (c.mp h')), e]
      simp only [Prod.mk.injEq, true_and]
      apply BitVec.eq_of_toNat_eq
      rw [BitVec.toNat_add, BitVec.toNat_ofNat, BitVec.toNat_ofNat, BitVec.toNat_ofNat]
      omega

/-- What a step writes is the entry at the walk's place. -/
theorem pick_eq (fin : ∀ i, i < 128 → t i ≠ ⊥) (hk : kk ≤ 128) (pos : ∀ i, i < 128 → (i < kk ↔ 0 < t i)) (n : ℕ) (hn : n < 128) :
    pick (F := Ideal) (⊤ : EReal) t (BitVec.ofNat 32 kk) n = t (place t kk n) := by
  have i := outward_inv t kk hk pos fin n (by omega)
  have c := choice_iff t (outward t kk n).1 (outward t kk n).2 (by omega) (by omega)
  unfold pick
  simp only [walk_eq t kk fin hk pos n hn.le]
  rcases place_cases t kk fin hk pos n hn with ⟨h, hx, e, -⟩ | ⟨h, hy, e, -⟩
  · rw [if_pos (c.mpr h), e, clip_below _ (by omega) hx]
  · rw [if_neg (fun h' => h (c.mp h')), e, clip_above _ hy]

/-- Whatever the pointers, a step writes an entry of the column. -/
theorem pick_mem (k : BitVec 32) (n : ℕ) : ∃ i < 128, pick (F := Ideal) (⊤ : EReal) t k n = t i := by
  unfold pick
  simp only
  split
  · exact ⟨_, clip1_lt _, rfl⟩
  · exact ⟨_, clip1_lt _, rfl⟩

/-- The merged column is the column in the order of the stable sort by a key that orders it as its magnitude does. -/
theorem merge_eq_sort (anti : ∀ i j, i ≤ j → j < 128 → t j ≤ t i) (fin : ∀ i, i < 128 → t i ≠ ⊥) (hk : kk ≤ 128)
    (pos : ∀ i, i < 128 → (i < kk ↔ 0 < t i)) (key : Fin 128 → EReal)
    (hlt : ∀ i j : Fin 128, key i < key j → mag (t i) < mag (t j)) (heq : ∀ i j : Fin 128, key i = key j → mag (t i) = mag (t j))
    (R : Fin 128 → Fin 128 → Bool) (hR : ∀ a b, R a b = decide (key a < key b)) (n : Fin 128) :
    pick (F := Ideal) (⊤ : EReal) t (BitVec.ofNat 32 kk) n.val = t (sortedFrom R n).val := by
  rw [pick_eq t kk fin hk pos n.val n.isLt]
  refine arrangements_eq (fun i : Fin 128 => t i.val) (fun n => ⟨place t kk n.val, place_lt t kk fin hk pos n.val n.isLt⟩) (sortedFrom R) ?_
    (sortedFrom_injective R) ?_ ?_ n
  · intro a b hab
    have e : place t kk a.val = place t kk b.val := congrArg Fin.val hab
    rcases lt_trichotomy a.val b.val with h | h | h
    · exact absurd e (place_ne t kk fin hk pos _ _ h b.isLt)
    · exact Fin.ext h
    · exact absurd e.symm (place_ne t kk fin hk pos _ _ h a.isLt)
  · intro i j hij
    exact place_nearest t kk anti fin hk pos i.val i.isLt _ (place_lt t kk fin hk pos j.val j.isLt)
      (place_outside t kk fin hk pos i.val j.val (Fin.lt_def.mp hij).le j.isLt)
  · intro i j hij
    rcases sortedFrom_key key R hR i j hij with h | ⟨h, h'⟩
    · exact .inl (hlt _ _ h)
    · exact .inr ⟨heq _ _ h, anti _ _ h' (sortedFrom R j).isLt⟩

end Cert.Proof.Merge

end
-- ==== Proof.Blocks.lean ====
/-
  Where each block of the three TensorCore calls lies in its array: an element of the block at point `t` sits at the
  block's offset plus its own coordinates, and the results' blocks cover their arrays.
-/
module

public import proofs.«01_k».proof.Proof.Main
public import Idealize.ShloMosaic.Lib.Pointwise

@[expose] public section

noncomputable section

namespace Cert.Proof.Merge

open Cert.KernelIdeal Cert.KernelIdeal.Gen
open Idealize.ShloMosaic
open Idealize.ShloMosaic.TcCoe

theorem lt_N0 (t : Fin cfg0.N) : t.val < 8 := by have := t.isLt; have e : cfg0.N = 8 := N_0; omega
theorem lt_N1 (t : Fin cfg1.N) : t.val < 1 := by have := t.isLt; have e : cfg1.N = 1 := N_1; omega
theorem lt_N3 (t : Fin cfg3.N) : t.val < 16 := by have := t.isLt; have e : cfg3.N = 16 := N_3; omega

theorem index0_0 : ∀ t : Fin grid0.N, win0_0.index t (0 : Fin 2) = 0 ∧ win0_0.index t (1 : Fin 2) = t.val := by decide +kernel
/-- Where an element of the block of call 0's array 0 lies. -/
theorem emb0_0 (t : Fin cfg0.N) (j : S8x2048.Idx) :
    (((cfg0.win 0).blk t).view.emb j : ((⟨2, ![8, 16384]⟩ : Shape)).Idx) = ix2 (j 0) ⟨t.val * 2048 + (j 1).val, by have h : (j 1).val < 2048 := (j 1).isLt; have := lt_N0 t; omega⟩ := by
  obtain ⟨e0, e1⟩ := index0_0 t
  funext a; apply Fin.ext
  match a with
  | ⟨0, _⟩ => show win0_0.index t (0 : Fin 2) * 8 + 1 * (j 0).val = (j 0).val; rw [e0]; omega
  | ⟨1, _⟩ => show win0_0.index t (1 : Fin 2) * 2048 + 1 * (j 1).val = t.val * 2048 + (j 1).val; rw [e1]; omega

theorem index0_1 : ∀ t : Fin grid0.N, win0_1.index t (0 : Fin 2) = 0 ∧ win0_1.index t (1 : Fin 2) = 0 := by decide +kernel
/-- Where an element of the block of call 0's array 1 lies. -/
theorem emb0_1 (t : Fin cfg0.N) (j : S128x1.Idx) :
    (((cfg0.win 1).blk t).view.emb j : ((⟨2, ![128, 1]⟩ : Shape)).Idx) = ix2 (j 0) (j 1) := by
  obtain ⟨e0, e1⟩ := index0_1 t
  funext a; apply Fin.ext
  match a with
  | ⟨0, _⟩ => show win0_1.index t (0 : Fin 2) * 128 + 1 * (j 0).val = (j 0).val; rw [e0]; omega
  | ⟨1, _⟩ => show win0_1.index t (1 : Fin 2) * 1 + 1 * (j 1).val = (j 1).val; rw [e1]; omega

theorem index0_2 : ∀ t : Fin grid0.N, win0_2.index t (0 : Fin 2) = 0 ∧ win0_2.index t (1 : Fin 2) = t.val := by decide +kernel
/-- Where an element of the block of call 0's array 2 lies. -/
theorem emb0_2 (t : Fin cfg0.N) (j : S128x2048.Idx) :
    (((cfg0.win 2).blk t).view.emb j : ((⟨2, ![128, 16384]⟩ : Shape)).Idx) = ix2 (j 0) ⟨t.val * 2048 + (j 1).val, by have h : (j 1).val < 2048 := (j 1).isLt; have := lt_N0 t; omega⟩ := by
  obtain ⟨e0, e1⟩ := index0_2 t
  funext a; apply Fin.ext
  match a with
  | ⟨0, _⟩ => show win0_2.index t (0 : Fin 2) * 128 + 1 * (j 0).val = (j 0).val; rw [e0]; omega
  | ⟨1, _⟩ => show win0_2.index t (1 : Fin 2) * 2048 + 1 * (j 1).val = t.val * 2048 + (j 1).val; rw [e1]; omega

theorem index0_3 : ∀ t : Fin grid0.N, win0_3.index t (0 : Fin 3) = t.val ∧ win0_3.index t (1 : Fin 3) = 0 ∧ win0_3.index t (2 : Fin 3) = 0 := by decide +kernel
/-- Where an element of the block of call 0's array 3 lies. -/
theorem emb0_3 (t : Fin cfg0.N) (j : S1x1x2048.Idx) :
    (((cfg0.win 3).blk t).view.emb j : ((⟨3, ![8, 1, 2048]⟩ : Shape)).Idx) = ix3 ⟨t.val * 1 + (j 0).val, by have h : (j 0).val < 1 := (j 0).isLt; have := lt_N0 t; omega⟩ (j 1) (j 2) := by
  obtain ⟨e0, e1, e2⟩ := index0_3 t
  funext a; apply Fin.ext
  match a with
  | ⟨0, _⟩ => show win0_3.index t (0 : Fin 3) * 1 + 1 * (j 0).val = t.val * 1 + (j 0).val; rw [e0]; omega
  | ⟨1, _⟩ => show win0_3.index t (1 : Fin 3) * 1 + 1 * (j 1).val = (j 1).val; rw [e1]; omega
  | ⟨2, _⟩ => show win0_3.index t (2 : Fin 3) * 2048 + 1 * (j 2).val = (j 2).val; rw [e2]; omega

theorem index1_0 : ∀ t : Fin grid1.N, win1_0.index t (0 : Fin 2) = 0 ∧ win1_0.index t (1 : Fin 2) = 0 := by decide +kernel
/-- Where an element of the block of call 1's array 0 lies. -/
theorem emb1_0 (t : Fin cfg1.N) (j : S16x128.Idx) :
    (((cfg1.win 0).blk t).view.emb j : ((⟨2, ![16, 128]⟩ : Shape)).Idx) = ix2 (j 0) (j 1) := by
  obtain ⟨e0, e1⟩ := index1_0 t
  funext a; apply Fin.ext
  match a with
  | ⟨0, _⟩ => show win1_0.index t (0 : Fin 2) * 16 + 1 * (j 0).val = (j 0).val; rw [e0]; omega
  | ⟨1, _⟩ => show win1_0.index t (1 : Fin 2) * 128 + 1 * (j 1).val = (j 1).val; rw [e1]; omega

theorem index1_1 : ∀ t : Fin grid1.N, win1_1.index t (0 : Fin 2) = 0 ∧ win1_1.index t (1 : Fin 2) = 0 := by decide +kernel
/-- Where an element of the block of call 1's array 1 lies. -/
theorem emb1_1 (t : Fin cfg1.N) (j : S16x128.Idx) :
    (((cfg1.win 1).blk t).view.emb j : ((⟨2, ![16, 128]⟩ : Shape)).Idx) = ix2 (j 0) (j 1) := by
  obtain ⟨e0, e1⟩ := index1_1 t
  funext a; apply Fin.ext
  match a with
  | ⟨0, _⟩ => show win1_1.index t (0 : Fin 2) * 16 + 1 * (j 0).val = (j 0).val; rw [e0]; omega
  | ⟨1, _⟩ => show win1_1.index t (1 : Fin 2) * 128 + 1 * (j 1).val = (j 1).val; rw [e1]; omega

theorem index3_0 : ∀ t : Fin grid3.N, win3_0.index t (0 : Fin 2) = 0 ∧ win3_0.index t (1 : Fin 2) = t.val := by decide +kernel
/-- Where an element of the block of call 3's array 0 lies. -/
theorem emb3_0 (t : Fin cfg3.N) (j : S128x1024.Idx) :
    (((cfg3.win 0).blk t).view.emb j : ((⟨2, ![128, 16384]⟩ : Shape)).Idx) = ix2 (j 0) ⟨t.val * 1024 + (j 1).val, by have h : (j 1).val < 1024 := (j 1).isLt; have := lt_N3 t; omega⟩ := by
  obtain ⟨e0, e1⟩ := index3_0 t
  funext a; apply Fin.ext
  match a with
  | ⟨0, _⟩ => show win3_0.index t (0 : Fin 2) * 128 + 1 * (j 0).val = (j 0).val; rw [e0]; omega
  | ⟨1, _⟩ => show win3_0.index t (1 : Fin 2) * 1024 + 1 * (j 1).val = t.val * 1024 + (j 1).val; rw [e1]; omega

theorem index3_1 : ∀ t : Fin grid3.N, win3_1.index t (0 : Fin 2) = t.val ∧ win3_1.index t (1 : Fin 2) = 0 := by decide +kernel
/-- Where an element of the block of call 3's array 1 lies. -/
theorem emb3_1 (t : Fin cfg3.N) (j : S1024x8.Idx) :
    (((cfg3.win 1).blk t).view.emb j : ((⟨2, ![16384, 8]⟩ : Shape)).Idx) = ix2 ⟨t.val * 1024 + (j 0).val, by have h : (j 0).val < 1024 := (j 0).isLt; have := lt_N3 t; omega⟩ (j 1) := by
  obtain ⟨e0, e1⟩ := index3_1 t
  funext a; apply Fin.ext
  match a with
  | ⟨0, _⟩ => show win3_1.index t (0 : Fin 2) * 1024 + 1 * (j 0).val = t.val * 1024 + (j 0).val; rw [e0]; omega
  | ⟨1, _⟩ => show win3_1.index t (1 : Fin 2) * 8 + 1 * (j 1).val = (j 1).val; rw [e1]; omega

theorem index3_2 : ∀ t : Fin grid3.N, win3_2.index t (0 : Fin 2) = 0 ∧ win3_2.index t (1 : Fin 2) = 0 := by decide +kernel
/-- Where an element of the block of call 3's array 2 lies. -/
theorem emb3_2 (t : Fin cfg3.N) (j : S16x128.Idx) :
    (((cfg3.win 2).blk t).view.emb j : ((⟨2, ![16, 128]⟩ : Shape)).Idx) = ix2 (j 0) (j 1) := by
  obtain ⟨e0, e1⟩ := index3_2 t
  funext a; apply Fin.ext
  match a with
  | ⟨0, _⟩ => show win3_2.index t (0 : Fin 2) * 16 + 1 * (j 0).val = (j 0).val; rw [e0]; omega
  | ⟨1, _⟩ => show win3_2.index t (1 : Fin 2) * 128 + 1 * (j 1).val = (j 1).val; rw [e1]; omega

theorem index3_3 : ∀ t : Fin grid3.N, win3_3.index t (0 : Fin 3) = 0 ∧ win3_3.index t (1 : Fin 3) = t.val ∧ win3_3.index t (2 : Fin 3) = 0 := by decide +kernel
/-- Where an element of the block of call 3's array 3 lies. -/
theorem emb3_3 (t : Fin cfg3.N) (j : S25x1024x128.Idx) :
    (((cfg3.win 3).blk t).view.emb j : ((⟨3, ![25, 16384, 128]⟩ : Shape)).Idx) = ix3 (j 0) ⟨t.val * 1024 + (j 1).val, by have h : (j 1).val < 1024 := (j 1).isLt; have := lt_N3 t; omega⟩ (j 2) := by
  obtain ⟨e0, e1, e2⟩ := index3_3 t
  funext a; apply Fin.ext
  match a with
  | ⟨0, _⟩ => show win3_3.index t (0 : Fin 3) * 25 + 1 * (j 0).val = (j 0).val; rw [e0]; omega
  | ⟨1, _⟩ => show win3_3.index t (1 : Fin 3) * 1024 + 1 * (j 1).val = t.val * 1024 + (j 1).val; rw [e1]; omega
  | ⟨2, _⟩ => show win3_3.index t (2 : Fin 3) * 128 + 1 * (j 2).val = (j 2).val; rw [e2]; omega

theorem index3_4 : ∀ t : Fin grid3.N, win3_4.index t (0 : Fin 2) = t.val ∧ win3_4.index t (1 : Fin 2) = 0 := by decide +kernel
/-- Where an element of the block of call 3's array 4 lies. -/
theorem emb3_4 (t : Fin cfg3.N) (j : S1024x128.Idx) :
    (((cfg3.win 4).blk t).view.emb j : ((⟨2, ![16384, 128]⟩ : Shape)).Idx) = ix2 ⟨t.val * 1024 + (j 0).val, by have h : (j 0).val < 1024 := (j 0).isLt; have := lt_N3 t; omega⟩ (j 1) := by
  obtain ⟨e0, e1⟩ := index3_4 t
  funext a; apply Fin.ext
  match a with
  | ⟨0, _⟩ => show win3_4.index t (0 : Fin 2) * 1024 + 1 * (j 0).val = t.val * 1024 + (j 0).val; rw [e0]; omega
  | ⟨1, _⟩ => show win3_4.index t (1 : Fin 2) * 128 + 1 * (j 1).val = (j 1).val; rw [e1]; omega

end Cert.Proof.Merge

end
-- ==== Proof.Values.lean ====
/-
  What the kernel's arrays hold over the extended reals, index by index, in terms of the arguments: the distances and
  their counts after the first call, the codes after the second, the points and the depths after the last.
-/
module

public import proofs.«01_k».proof.Proof.Blocks

@[expose] public section

noncomputable section

namespace Cert.Proof.Merge

open Cert.KernelIdeal Cert.KernelIdeal.Gen
open Idealize.ShloMosaic
open Idealize.ShloMosaic.TcCoe

/-! ## Scalars -/

/-- Where a ray meets a sphere, from the three inner products of the ray and the squared radius. -/
def hit (od dd oo q : EReal) : EReal := Ideal.div (0 - od + Ideal.sqrt (max (od * od - dd * (oo - q)) 0)) dd

section Scalars

variable (A0 : Vec Ideal S16384x8 .f32) (A1 : Vec Ideal S128 .f32) (A2 : Vec Ideal S128x16 .f32)

/-- A ray's origin, -/
def org (r : Fin 16384) (x : Fin 3) : EReal := A0 (ix2 r ⟨x.val, by omega⟩)
/-- and its direction. -/
def dir (r : Fin 16384) (x : Fin 3) : EReal := A0 (ix2 r ⟨3 + x.val, by omega⟩)
def oddot (r : Fin 16384) : EReal := ∑ x, org A0 r x * dir A0 r x
def dddot (r : Fin 16384) : EReal := ∑ x, dir A0 r x * dir A0 r x
def oodot (r : Fin 16384) : EReal := ∑ x, org A0 r x * org A0 r x
/-- A sphere's squared radius. -/
def rsq (s : Fin 128) : EReal := A1 (ix1 s) * A1 (ix1 s)
/-- The distance along ray `r` of sphere `s`. -/
def tOf (r : Fin 16384) (s : Fin 128) : EReal := hit (oddot A0 r) (dddot A0 r) (oodot A0 r) (rsq A1 s)
/-- How many of a ray's distances are positive. -/
def cntOf (r : Fin 16384) : BitVec 32 :=
  Finset.fold IntOp.addi 0#32 (fun s : Fin 128 => BitVec.setWidth 32 (BitVec.ofBool (decide (0 < tOf A0 A1 r s)))) Finset.univ
/-- A normalized code. -/
def codeOf (s : Fin 128) (c : Fin 16) : EReal :=
  Ideal.div (A2 (ix2 s c)) (max (Ideal.sqrt (∑ x : Fin 16, A2 (ix2 s x) * A2 (ix2 s x))) (Ideal.ofBits FTy.f32 0x2B8CBCCC#32))
/-- The merged distances. -/
def sortedOf (r : Fin 16384) (n : Fin 128) : EReal :=
  pick (F := Ideal) (bigOf (F := Ideal)) (fun s => tOf A0 A1 r ⟨s % 128, Nat.mod_lt _ (by omega)⟩) (cntOf A0 A1 r) n.val

end Scalars

/-! ## The first call -/

section First

variable (W : Valuation τ sig (Elt Ideal)) (A0 : Vec Ideal S16384x8 .f32) (A1 : Vec Ideal S128 .f32)
variable (h0 : ∀ (a : Fin 8) (r : Fin 16384), (W (Proc.devRef .tc main_v0) : Vec Ideal S8x16384 .f32) (ix2 a r) = A0 (ix2 r a))
variable (h1 : ∀ s : Fin 128, (W (Proc.devRef .tc main_v1) : Vec Ideal S128x1 .f32) (ix2 s 0) = A1 (ix1 s))

include h0 in
theorem blk0_0_apply (t : Fin cfg0.N) (a : Fin 8) (y : Fin 2048) :
    (blk0 W 0 t : Vec Ideal S8x2048 .f32) (ix2 a y) = A0 (ix2 ⟨t.val * 2048 + y.val, by have := lt_N0 t; omega⟩ a) := by
  show (W (Proc.devRef .tc main_v0) : Vec Ideal S8x16384 .f32) (((cfg0.win 0).blk t).view.emb (ix2 a y)) = _
  rw [emb0_0]
  exact h0 _ _

include h1 in
theorem blk0_1_apply (t : Fin cfg0.N) (s : Fin 128) : (blk0 W 1 t : Vec Ideal S128x1 .f32) (ix2 s 0) = A1 (ix1 s) := by
  show (W (Proc.devRef .tc main_v1) : Vec Ideal S128x1 .f32) (((cfg0.win 1).blk t).view.emb (ix2 s 0)) = _
  rw [emb0_1]
  exact h1 _

include h0 h1 in
theorem pay1_apply (t : Fin cfg0.N) (s : Fin 128) (y : Fin 2048) :
    k0_pay1 (F := Ideal) (blk0 W 0 t) (blk0 W 1 t) (ix2 s y) = tOf A0 A1 ⟨t.val * 2048 + y.val, by have := lt_N0 t; omega⟩ s := by
  have e0 := blk0_0_apply W A0 h0 t
  have e1 := blk0_1_apply W A1 h1 t
  generalize blk0 W 0 t = X at e0 ⊢
  generalize blk0 W 1 t = R at e1 ⊢
  pointwise [k0_pay1]
  simp only [e0, e1]
  rfl

include h0 h1 in
theorem pay2_apply (t : Fin cfg0.N) (a b : Fin 1) (y : Fin 2048) :
    k0_pay2 (F := Ideal) (blk0 W 0 t) (blk0 W 1 t) (ix3 a b y) = cntOf A0 A1 ⟨t.val * 2048 + y.val, by have := lt_N0 t; omega⟩ := by
  have e := pay1_apply W A0 A1 h0 h1 t
  generalize blk0 W 0 t = X at e ⊢
  generalize blk0 W 1 t = R at e ⊢
  pointwise [k0_pay2]
  simp only [e]
  rfl

include h0 h1 in
/-- The distances after the call. -/
theorem final0_2 (i : S128x16384.Idx) : (after0 W (Proc.devRef .tc main_v2_0) : Vec Ideal S128x16384 .f32) i = tOf A0 A1 (i 1) (i 0) := by
  have e : after0 W (Proc.devRef .tc main_v2_0) = (dat0 W (0 : Dev nD)).arrAt 2 cfg0.N := Pipeline.afterRegion_arr (dat0 W (0 : Dev nD)) W winFacts0.arr_inj 2
  refine (congrFun e i).trans ?_
  refine congrFun ((dat0 W (0 : Dev nD)).arrAt_eq_of_cover 2 (fun i : S128x16384.Idx => tOf A0 A1 (i 1) (i 0)) (fun t _ => ?_) fun i => ?_) i
  · funext j
    show k0_pay1 (F := Ideal) (blk0 W 0 t) (blk0 W 1 t) j = (fun i : S128x16384.Idx => tOf A0 A1 (i 1) (i 0)) (((cfg0.win 2).blk t).view.emb j)
    rw [emb0_2]
    exact (congrArg _ (eq_ix2 j)).trans (pay1_apply W A0 A1 h0 h1 t (j 0) (j 1))
  · have hi : (i 1).val < 16384 := (i 1).isLt
    let t : Fin cfg0.N := ⟨(i 1).val / 2048, by have : cfg0.N = 8 := N_0; omega⟩
    refine ⟨t, flush0_2 t, ?_⟩
    have h := ((cfg0.win 2).blk t).view.emb_mem_set (ix2 (i 0) ⟨(i 1).val % 2048, by omega⟩)
    rw [emb0_2] at h
    refine Eq.mp (congrArg (fun z => z ∈ ((cfg0.win 2).blk t).view.set) (Eq.symm ?_)) h
    funext a; apply Fin.ext
    match a with
    | ⟨0, _⟩ => rfl
    | ⟨1, _⟩ => show (i 1).val = (i 1).val / 2048 * 2048 + (i 1).val % 2048; omega

include h0 h1 in
/-- The counts after the call. -/
theorem final0_3 (i : S8x1x2048.Idx) : (after0 W (Proc.devRef .tc main_v2_1) : Vec Ideal S8x1x2048 .i32) i
    = cntOf A0 A1 ⟨(i 0).val * 2048 + (i 2).val, by have : (i 0).val < 8 := (i 0).isLt; have : (i 2).val < 2048 := (i 2).isLt; omega⟩ := by
  have e : after0 W (Proc.devRef .tc main_v2_1) = (dat0 W (0 : Dev nD)).arrAt 3 cfg0.N := Pipeline.afterRegion_arr (dat0 W (0 : Dev nD)) W winFacts0.arr_inj 3
  refine (congrFun e i).trans ?_
  refine congrFun ((dat0 W (0 : Dev nD)).arrAt_eq_of_cover 3 (fun i : S8x1x2048.Idx => cntOf A0 A1 ⟨(i 0).val * 2048 + (i 2).val, by have : (i 0).val < 8 := (i 0).isLt; have : (i 2).val < 2048 := (i 2).isLt; omega⟩) (fun t _ => ?_) fun i => ?_) i
  · have e : (dat0 W (0 : Dev nD)).after 3 t = k0_pay2 (F := Ideal) (blk0 W 0 t) (blk0 W 1 t) := by dsimp only [dat0]
    have hp := pay2_apply W A0 A1 h0 h1 t
    show (cfg0.win 3).cut (grid0.coords t) ((dat0 W (0 : Dev nD)).after 3 t) = _
    rw [e]
    generalize k0_pay2 (F := Ideal) (blk0 W 0 t) (blk0 W 1 t) = Y at hp ⊢
    funext j
    show Y j = (fun i : S8x1x2048.Idx => cntOf A0 A1 ⟨(i 0).val * 2048 + (i 2).val, by have : (i 0).val < 8 := (i 0).isLt; have : (i 2).val < 2048 := (i 2).isLt; omega⟩) (((cfg0.win 3).blk t).view.emb j)
    rw [emb0_3]
    refine (congrArg _ (eq_ix3 j)).trans ((hp (j 0) (j 1) (j 2)).trans ?_)
    refine congrArg (cntOf A0 A1) (Fin.ext ?_)
    have : (j 0).val < 1 := (j 0).isLt
    show t.val * 2048 + (j 2).val = (t.val * 1 + (j 0).val) * 2048 + (j 2).val
    omega
  · have hi : (i 0).val < 8 := (i 0).isLt
    have hi1 : (i 1).val < 1 := (i 1).isLt
    let t : Fin cfg0.N := ⟨(i 0).val, by have : cfg0.N = 8 := N_0; omega⟩
    refine ⟨t, flush0_3 t, ?_⟩
    have h := ((cfg0.win 3).blk t).view.emb_mem_set (ix3 0 0 (i 2))
    rw [emb0_3] at h
    refine Eq.mp (congrArg (fun z => z ∈ ((cfg0.win 3).blk t).view.set) (Eq.symm ?_)) h
    funext a; apply Fin.ext
    match a with
    | ⟨0, _⟩ => show (i 0).val = (i 0).val * 1 + 0; omega
    | ⟨1, _⟩ => show (i 1).val = 0; omega
    | ⟨2, _⟩ => rfl

end First

/-! ## The second call -/

section Second

variable (W : Valuation τ sig (Elt Ideal)) (A2 : Vec Ideal S128x16 .f32)
variable (h : ∀ (c : Fin 16) (s : Fin 128), (W (Proc.devRef .tc main_v4) : Vec Ideal S16x128 .f32) (ix2 c s) = A2 (ix2 s c))

include h in
theorem blk1_0_apply (t : Fin cfg1.N) (c : Fin 16) (s : Fin 128) : (blk1 W 0 t : Vec Ideal S16x128 .f32) (ix2 c s) = A2 (ix2 s c) := by
  show (W (Proc.devRef .tc main_v4) : Vec Ideal S16x128 .f32) (((cfg1.win 0).blk t).view.emb (ix2 c s)) = _
  rw [emb1_0]
  exact h _ _

theorem codes_apply (X : Vec Ideal S16x128 .f32) (e : ∀ c s, X (ix2 c s) = A2 (ix2 s c)) (c : Fin 16) (s : Fin 128) : k1_pay1 X (ix2 c s) = codeOf A2 s c := by
  pointwise [k1_pay1]
  simp only [e]
  rfl

include h in
/-- The codes after the call. -/
theorem final1_1 (i : S16x128.Idx) : (after1 W (Proc.devRef .tc main_v5) : Vec Ideal S16x128 .f32) i = codeOf A2 (i 1) (i 0) := by
  have e : after1 W (Proc.devRef .tc main_v5) = (dat1 W (0 : Dev nD)).arrAt 1 cfg1.N := Pipeline.afterRegion_arr (dat1 W (0 : Dev nD)) W winFacts1.arr_inj 1
  refine (congrFun e i).trans ?_
  refine congrFun ((dat1 W (0 : Dev nD)).arrAt_eq_of_cover 1 (fun i : S16x128.Idx => codeOf A2 (i 1) (i 0)) (fun t _ => ?_) fun i => ?_) i
  · funext j
    show k1_pay1 (F := Ideal) (blk1 W 0 t) j = (fun i : S16x128.Idx => codeOf A2 (i 1) (i 0)) (((cfg1.win 1).blk t).view.emb j)
    rw [emb1_1]
    have e := blk1_0_apply W A2 h t
    generalize blk1 W 0 t = X at e ⊢
    exact (congrArg _ (eq_ix2 j)).trans (codes_apply A2 X e (j 0) (j 1))
  · let t : Fin cfg1.N := ⟨0, by have : cfg1.N = 1 := N_1; omega⟩
    refine ⟨t, flush1_1 t, ?_⟩
    have h := ((cfg1.win 1).blk t).view.emb_mem_set i
    rw [emb1_1] at h
    refine Eq.mp (congrArg (fun z => z ∈ ((cfg1.win 1).blk t).view.set) (Eq.symm ?_)) h
    exact eq_ix2 i

end Second

/-! ## The last call -/

section Last

variable (W : Valuation τ sig (Elt Ideal)) (A0 : Vec Ideal S16384x8 .f32) (A2 : Vec Ideal S128x16 .f32) (g : Fin 16384 → Fin 128 → EReal)
variable (ht : ∀ (n : Fin 128) (r : Fin 16384), (W (Proc.devRef .tc main_v6) : Vec Ideal S128x16384 .f32) (ix2 n r) = g r n)
variable (hr : (W (Proc.devRef .tc main_arg0) : Vec Ideal S16384x8 .f32) = A0)
variable (hc : ∀ (c : Fin 16) (s : Fin 128), (W (Proc.devRef .tc main_v5) : Vec Ideal S16x128 .f32) (ix2 c s) = codeOf A2 s c)

include ht in
theorem blk3_0_apply (t : Fin cfg3.N) (n : Fin 128) (y : Fin 1024) :
    (blk3 W 0 t : Vec Ideal S128x1024 .f32) (ix2 n y) = g ⟨t.val * 1024 + y.val, by have := lt_N3 t; omega⟩ n := by
  show (W (Proc.devRef .tc main_v6) : Vec Ideal S128x16384 .f32) (((cfg3.win 0).blk t).view.emb (ix2 n y)) = _
  rw [emb3_0]
  exact ht _ _

include hr in
theorem blk3_1_apply (t : Fin cfg3.N) (y : Fin 1024) (a : Fin 8) :
    (blk3 W 1 t : Vec Ideal S1024x8 .f32) (ix2 y a) = A0 (ix2 ⟨t.val * 1024 + y.val, by have := lt_N3 t; omega⟩ a) := by
  show (W (Proc.devRef .tc main_arg0) : Vec Ideal S16384x8 .f32) (((cfg3.win 1).blk t).view.emb (ix2 y a)) = _
  rw [emb3_1, hr]
  rfl

include hc in
theorem blk3_2_apply (t : Fin cfg3.N) (c : Fin 16) (s : Fin 128) : (blk3 W 2 t : Vec Ideal S16x128 .f32) (ix2 c s) = codeOf A2 s c := by
  show (W (Proc.devRef .tc main_v5) : Vec Ideal S16x128 .f32) (((cfg3.win 2).blk t).view.emb (ix2 c s)) = _
  rw [emb3_2]
  exact hc _ _

/-- The point, the direction, the point again and the code of a ray and a sphere, one plane at a time. -/
def lineOf (r : Fin 16384) (n : Fin 128) (p : Fin 25) : EReal :=
  if h3 : p.val < 3 then org A0 r ⟨p.val, h3⟩ + g r n * dir A0 r ⟨p.val, h3⟩
  else if h6 : p.val < 6 then dir A0 r ⟨p.val - 3, by omega⟩
  else if h9 : p.val < 9 then org A0 r ⟨p.val - 6, by omega⟩ + g r n * dir A0 r ⟨p.val - 6, by omega⟩
  else codeOf A2 n ⟨p.val - 9, by omega⟩

theorem planes_apply (row : Fin 1024 → Fin 16384) (X0 : Vec Ideal S128x1024 .f32) (X1 : Vec Ideal S1024x8 .f32) (X2 : Vec Ideal S16x128 .f32)
    (e0 : ∀ n y, X0 (ix2 n y) = g (row y) n) (e1 : ∀ y a, X1 (ix2 y a) = A0 (ix2 (row y) a)) (e2 : ∀ c s, X2 (ix2 c s) = codeOf A2 s c)
    (p : Fin 25) (y : Fin 1024) (n : Fin 128) : planes X0 X1 X2 (ix3 p y n) = lineOf A0 A2 g (row y) n p := by
  unfold planes lineOf
  by_cases h3 : p.val < 3
  · rw [dif_pos (show (ix3 p y n 0).val < 3 from h3), dif_pos h3]
    refine (congrArg₂ _ (e1 y _) (congrArg₂ _ (e0 n y) (e1 y _))).trans ?_
    have : (⟨p.val + 3, by omega⟩ : Fin 8) = ⟨3 + p.val, by omega⟩ := Fin.ext (Nat.add_comm _ _)
    show A0 _ + g (row y) n * A0 (ix2 (row y) (⟨p.val + 3, by omega⟩ : Fin 8)) = _
    rw [this]
    rfl
  · rw [dif_neg (show ¬ (ix3 p y n 0).val < 3 from h3), dif_neg h3]
    by_cases h6 : p.val < 6
    · rw [dif_pos (show (ix3 p y n 0).val < 6 from h6), dif_pos h6]
      refine (e1 y _).trans ?_
      unfold dir
      refine congrArg A0 (congrArg (ix2 _) (Fin.ext ?_))
      show p.val = 3 + (p.val - 3)
      omega
    · rw [dif_neg (show ¬ (ix3 p y n 0).val < 6 from h6), dif_neg h6]
      by_cases h9 : p.val < 9
      · rw [dif_pos (show (ix3 p y n 0).val < 9 from h9), dif_pos h9]
        refine (congrArg₂ _ (e1 y _) (congrArg₂ _ (e0 n y) (e1 y _))).trans ?_
        have : (⟨p.val - 3, by omega⟩ : Fin 8) = ⟨3 + (p.val - 6), by omega⟩ := Fin.ext (by show p.val - 3 = 3 + (p.val - 6); omega)
        show A0 _ + g (row y) n * A0 (ix2 (row y) (⟨p.val - 3, by omega⟩ : Fin 8)) = _
        rw [this]
        rfl
      · rw [dif_neg (show ¬ (ix3 p y n 0).val < 9 from h9), dif_neg h9]
        exact e2 _ _

include ht hr hc in
/-- The planes after the call. -/
theorem final3_3 (i : S25x16384x128.Idx) : (after3 W (Proc.devRef .tc main_v7_0) : Vec Ideal S25x16384x128 .f32) i = lineOf A0 A2 g (i 1) (i 2) (i 0) := by
  have e : after3 W (Proc.devRef .tc main_v7_0) = (dat3 W (0 : Dev nD)).arrAt 3 cfg3.N := Pipeline.afterRegion_arr (dat3 W (0 : Dev nD)) W winFacts3.arr_inj 3
  refine (congrFun e i).trans ?_
  refine congrFun ((dat3 W (0 : Dev nD)).arrAt_eq_of_cover 3 (fun i : S25x16384x128.Idx => lineOf A0 A2 g (i 1) (i 2) (i 0)) (fun t _ => ?_) fun i => ?_) i
  · funext j
    show planes (F := Ideal) (blk3 W 0 t) (blk3 W 1 t) (blk3 W 2 t) j = (fun i : S25x16384x128.Idx => lineOf A0 A2 g (i 1) (i 2) (i 0)) (((cfg3.win 3).blk t).view.emb j)
    rw [emb3_3]
    have e0 := blk3_0_apply W g ht t
    have e1 := blk3_1_apply W A0 hr t
    have e2 := blk3_2_apply W A2 hc t
    generalize blk3 W 0 t = X0 at e0 ⊢
    generalize blk3 W 1 t = X1 at e1 ⊢
    generalize blk3 W 2 t = X2 at e2 ⊢
    exact (congrArg _ (eq_ix3 j)).trans (planes_apply A0 A2 g _ X0 X1 X2 (fun n y => e0 n y) (fun y a => e1 y a) e2 (j 0) (j 1) (j 2))
  · have hi : (i 1).val < 16384 := (i 1).isLt
    let t : Fin cfg3.N := ⟨(i 1).val / 1024, by have : cfg3.N = 16 := N_3; omega⟩
    refine ⟨t, flush3_3 t, ?_⟩
    have h := ((cfg3.win 3).blk t).view.emb_mem_set (ix3 (i 0) ⟨(i 1).val % 1024, by omega⟩ (i 2))
    rw [emb3_3] at h
    refine Eq.mp (congrArg (fun z => z ∈ ((cfg3.win 3).blk t).view.set) (Eq.symm ?_)) h
    funext a; apply Fin.ext
    match a with
    | ⟨0, _⟩ => rfl
    | ⟨1, _⟩ => show (i 1).val = (i 1).val / 1024 * 1024 + (i 1).val % 1024; omega
    | ⟨2, _⟩ => rfl

theorem depth_apply (row : Fin 1024 → Fin 16384) (X0 : Vec Ideal S128x1024 .f32) (X1 : Vec Ideal S1024x8 .f32) (e0 : ∀ n y, X0 (ix2 n y) = g (row y) n)
    (e1 : ∀ y a, X1 (ix2 y a) = A0 (ix2 (row y) a)) (y : Fin 1024) (n : Fin 128) :
    k3_pay2 (k3_pay3 X0) X1 (ix2 y n) = max (g (row y) n) (-g (row y) n) * Ideal.sqrt (dddot A0 (row y)) := by
  pointwise [k3_pay2, k3_pay3]
  simp only [e0, e1]
  rfl

include ht hr in
/-- The depths after the call. -/
theorem final3_4 (i : S16384x128.Idx) : (after3 W (Proc.devRef .tc main_v7_1) : Vec Ideal S16384x128 .f32) i
    = max (g (i 0) (i 1)) (-g (i 0) (i 1)) * Ideal.sqrt (dddot A0 (i 0)) := by
  have e : after3 W (Proc.devRef .tc main_v7_1) = (dat3 W (0 : Dev nD)).arrAt 4 cfg3.N := Pipeline.afterRegion_arr (dat3 W (0 : Dev nD)) W winFacts3.arr_inj 4
  refine (congrFun e i).trans ?_
  refine congrFun ((dat3 W (0 : Dev nD)).arrAt_eq_of_cover 4 (fun i : S16384x128.Idx => max (g (i 0) (i 1)) (-g (i 0) (i 1)) * Ideal.sqrt (dddot A0 (i 0))) (fun t _ => ?_) fun i => ?_) i
  · funext j
    show k3_pay2 (F := Ideal) (k3_pay3 (blk3 W 0 t)) (blk3 W 1 t) j = (fun i : S16384x128.Idx => max (g (i 0) (i 1)) (-g (i 0) (i 1)) * Ideal.sqrt (dddot A0 (i 0))) (((cfg3.win 4).blk t).view.emb j)
    rw [emb3_4]
    have e0 := blk3_0_apply W g ht t
    have e1 := blk3_1_apply W A0 hr t
    generalize blk3 W 0 t = X0 at e0 ⊢
    generalize blk3 W 1 t = X1 at e1 ⊢
    exact (congrArg _ (eq_ix2 j)).trans (depth_apply A0 g _ X0 X1 (fun n y => e0 n y) (fun y a => e1 y a) (j 0) (j 1))
  · have hi : (i 0).val < 16384 := (i 0).isLt
    let t : Fin cfg3.N := ⟨(i 0).val / 1024, by have : cfg3.N = 16 := N_3; omega⟩
    refine ⟨t, flush3_4 t, ?_⟩
    have h := ((cfg3.win 4).blk t).view.emb_mem_set (ix2 ⟨(i 0).val % 1024, by omega⟩ (i 1))
    rw [emb3_4] at h
    refine Eq.mp (congrArg (fun z => z ∈ ((cfg3.win 4).blk t).view.set) (Eq.symm ?_)) h
    funext a; apply Fin.ext
    match a with
    | ⟨0, _⟩ => show (i 0).val = (i 0).val / 1024 * 1024 + (i 0).val % 1024; omega
    | ⟨1, _⟩ => rfl

end Last

end Cert.Proof.Merge

end
-- ==== Proof.RefValues.lean ====
/-
  What the reference's two results hold over the extended reals, index by index: the depths, their stable order, and the
  points and the depths read in that order.
-/
module

public import proofs.«01_k».proof.Proof.Gen.ReferenceIdeal.Run
public import proofs.«01_k».proof.Proof.Values
public import Idealize.ShloMosaic.Lib.Pointwise
public import Idealize.ShloMosaic.Lib.SortFacts

@[expose] public section

noncomputable section

namespace Cert.Proof.Ref

open Cert.ReferenceIdeal Cert.ReferenceIdeal.Gen Cert.ReferenceIdeal.Value
open Cert.Proof.Merge (hit org dir oddot dddot oodot rsq tOf codeOf lineOf)
open Idealize.ShloMosaic
open Idealize.ShloMosaic.TcCoe

section Scalars

variable (A0 : Vec Ideal S16384x8 .f32) (A1 : Vec Ideal S128 .f32)

/-- The point of a ray and a sphere, in one coordinate. -/
def ptOf (r : Fin 16384) (s : Fin 128) (j : Fin 3) : EReal := org A0 r j + tOf A0 A1 r s * dir A0 r j
/-- The depth of that point. -/
def depthOf (r : Fin 16384) (s : Fin 128) : EReal :=
  Ideal.sqrt (∑ x, (org A0 r x - ptOf A0 A1 r s x) * (org A0 r x - ptOf A0 A1 r s x))
/-- The sphere at place `n` of a ray's stable order by depth. -/
def orderOf (r : Fin 16384) (n : Fin 128) : Fin 128 := sortedFrom (fun a b => decide (depthOf A0 A1 r a < depthOf A0 A1 r b)) n

end Scalars

/-! ## Words below 128 -/

/-- Every bit of a conjunction of ones is one. -/
theorem fold_and_one {ι : Type} [DecidableEq ι] (S : Finset ι) (f : ι → BitVec 1) (h : ∀ x, f x = 1#1) : Finset.fold IntOp.andi 1#1 f S = 1#1 := by
  induction S using Finset.induction_on with
  | empty => rfl
  | insert a S ha ih => rw [Finset.fold_insert ha, ih, h]; rfl

/-- A place is not negative: no wrapping. -/
theorem wrap_small (k : Fin 128) : Scalar.select (IntOp.cmpi CmpIPredicate.slt (BitVec.ofNat 32 k.val) 0#32) (IntOp.addi (BitVec.ofNat 32 k.val) 128#32)
    (BitVec.ofNat 32 k.val) = BitVec.ofNat 32 k.val := by
  revert k; decide +kernel

/-- And it is inside the array. -/
theorem inside_small (k : Fin 128) : IntOp.andi (IntOp.cmpi CmpIPredicate.sge (BitVec.ofNat 32 k.val) 0#32)
    (IntOp.cmpi CmpIPredicate.sle (BitVec.ofNat 32 k.val) 127#32) = 1#1 := by
  revert k; decide +kernel

theorem toInt_small (k : Fin 128) : min (BitVec.ofNat 32 k.val).toInt.toNat 127 = k.val := by
  revert k; decide +kernel

/-! ## The gathers -/

/-- The gather of the depths, where the start index is a place. -/
theorem gather_depths (x : Vec Ideal S16384x128 .f32) (idx : IVec S16384x128x1 32) (r : Fin 16384) (n k : Fin 128)
    (h : idx (ix3 r n 0) = BitVec.ofNat 32 k.val) :
    Host.gather gather_S16384x128_S16384x128x1_S16384x128_n_1_0_0_1_2_11 x idx (ix2 r n) = x (ix2 r k) := by
  unfold Host.gather
  refine congrArg x (funext fun a => Fin.ext ?_)
  set d := gather_S16384x128_S16384x128x1_S16384x128_n_1_0_0_1_2_11 with hd
  have h01 : a = (0 : Fin 2) ∨ a = (1 : Fin 2) := by
    match a with
    | ⟨0, _⟩ => exact Or.inl rfl
    | ⟨1, _⟩ => exact Or.inr rfl
  show d.start (ix2 r n) idx a + d.batchCoord (ix2 r n) a + d.offCoord (ix2 r n) a = _
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ d.operandBatchingDims from List.mem_singleton.mpr rfl)]
    rfl
  · rw [GatherDims.batchCoord_eq_zero _ _ _ (fun h => by simp [hd, gather_S16384x128_S16384x128x1_S16384x128_n_1_0_0_1_2_11] at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ d.startIndexMap from List.mem_singleton.mpr rfl)]
    have hsi : d.siIdx (ix2 r n) ⟨List.idxOf (1 : Fin 2) d.startIndexMap, List.idxOf_lt_length_iff.2 (List.mem_singleton.mpr rfl)⟩ = ix3 r n 0 := by
      funext b; refine Fin.ext ?_
      match b with
      | ⟨0, _⟩ => rfl
      | ⟨1, _⟩ => rfl
      | ⟨2, _⟩ => rfl
    rw [hsi, h]
    exact toInt_small k

/-- The gather of the points. -/
theorem gather_points (x : Vec Ideal S16384x128x3 .f32) (idx : IVec S16384x128x1 32) (r : Fin 16384) (n k : Fin 128) (j : Fin 3)
    (h : idx (ix3 r n 0) = BitVec.ofNat 32 k.val) :
    Host.gather gather_S16384x128x3_S16384x128x1_S16384x128x3_2_1_0_0_1_2_113 x idx (ix3 r n j) = x (ix3 r k j) := by
  unfold Host.gather
  refine congrArg x (funext fun a => Fin.ext ?_)
  set d := gather_S16384x128x3_S16384x128x1_S16384x128x3_2_1_0_0_1_2_113 with hd
  have h012 : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  show d.start (ix3 r n j) idx a + d.batchCoord (ix3 r n j) a + d.offCoord (ix3 r n j) a = _
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ d.operandBatchingDims from List.mem_singleton.mpr rfl)]
    rfl
  · rw [GatherDims.batchCoord_eq_zero _ _ _ (fun h => by simp [hd, gather_S16384x128x3_S16384x128x1_S16384x128x3_2_1_0_0_1_2_113] at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ d.startIndexMap from List.mem_singleton.mpr rfl)]
    have hsi : d.siIdx (ix3 r n j) ⟨List.idxOf (1 : Fin 3) d.startIndexMap, List.idxOf_lt_length_iff.2 (List.mem_singleton.mpr rfl)⟩ = ix3 r n 0 := by
      funext b; refine Fin.ext ?_
      match b with
      | ⟨0, _⟩ => rfl
      | ⟨1, _⟩ => rfl
      | ⟨2, _⟩ => rfl
    rw [hsi, h]
    exact toInt_small k
  · rw [GatherDims.batchCoord_eq_zero _ _ _ (fun h => by simp [hd, gather_S16384x128x3_S16384x128x1_S16384x128x3_2_1_0_0_1_2_113] at h)]
    have hm : (2 : Fin 3) ∉ d.startIndexMap := by simp [hd, gather_S16384x128x3_S16384x128x1_S16384x128x3_2_1_0_0_1_2_113]
    have hk : (2 : Fin 3) ∈ d.sKept := (GatherDims.mem_sKept _ _).mpr
      ⟨by simp [hd, gather_S16384x128x3_S16384x128x1_S16384x128x3_2_1_0_0_1_2_113], by simp [hd, gather_S16384x128x3_S16384x128x1_S16384x128x3_2_1_0_0_1_2_113]⟩
    unfold GatherDims.start GatherDims.offCoord
    rw [dif_neg hm, dif_pos hk]
    simp only [Nat.zero_add, Nat.add_zero]
    rfl

/-! ## The arrays -/

variable (V : Valuation τ sig (Elt Ideal)) (A0 : Vec Ideal S16384x8 .f32) (A1 : Vec Ideal S128 .f32) (A2 : Vec Ideal S128x16 .f32)
variable (h0 : V (Proc.devRef .tc main_arg0) = A0) (h1 : V (Proc.devRef .tc main_arg1) = A1) (h2 : V (Proc.devRef .tc main_arg2) = A2)

include h0 h1 in
theorem v33_apply (r : Fin 16384) (s : Fin 128) (j : Fin 3) : (res_main_v33 V : Vec Ideal S16384x128x3 .f32) (ix3 r s j) = ptOf A0 A1 r s j := by
  pointwise [res_main_v33, res_main_v7, res_main_v5, res_main_v3, res_main_v1, res_main_v10]
  rw [h0, h1]
  unfold ptOf tOf hit oddot oodot dddot rsq org dir
  rw [zero_sub]

include h0 h1 in
theorem v38_apply (r : Fin 16384) (s : Fin 128) : (res_main_v38 V : Vec Ideal S16384x128 .f32) (ix2 r s) = depthOf A0 A1 r s := by
  have e := v33_apply V A0 A1 h0 h1
  pointwise [res_main_v38, res_main_v35, res_main_v1]
  simp only [e, h0]
  rfl

/-- A key of the reference's order is the depth itself: there is one zero, and no depth differs from itself. -/
theorem key_eq (x z c : EReal) : Scalar.select (Ideal.cmp .une x x) c (Scalar.select (Ideal.cmp .oeq x z) z x) = x := by
  have e : Ideal.cmp .une x x = 0#1 := by unfold Ideal.cmp; simp
  rw [e]
  show Scalar.select (Ideal.cmp .oeq x z) z x = x
  unfold Ideal.cmp Scalar.select
  by_cases h : x = z <;> simp [h]

/-- The reference's comparison of two depths is `<`. -/
theorem comparator_eq (l r : EReal × BitVec 32) : (comparator_f32_i32_d1 (F := Ideal) l r == 1#1) = decide (l.1 < r.1) := by
  have e : comparator_f32_i32_d1 (F := Ideal) l r = BitVec.ofBool (decide (l.1 < r.1)) := by
    show Ideal.cmp .olt (Scalar.select (Ideal.cmp .une l.1 l.1) _ (Scalar.select (Ideal.cmp .oeq l.1 _) _ l.1))
      (Scalar.select (Ideal.cmp .une r.1 r.1) _ (Scalar.select (Ideal.cmp .oeq r.1 _) _ r.1)) = _
    rw [key_eq, key_eq]
    rfl
  rw [e]
  cases decide (l.1 < r.1) <;> rfl

/-- An index with its second coordinate replaced. -/
theorem along_eq (r : Fin 16384) (n k : Fin 128) : Shape.Idx.along (s := S16384x128) (ix2 r n) (1 : Fin 2) k = ix2 r k := by
  funext a; apply Fin.ext
  match a with
  | ⟨0, _⟩ => rfl
  | ⟨1, _⟩ => rfl

attribute [local irreducible] sortedFrom in
/-- The second component of a sort that carries its positions: the order itself. -/
theorem sort_apply (D : Vec Ideal S16384x128 .f32) (r : Fin 16384) (n : Fin 128) :
    (Host.sort2 S16384x128 1 (comparator_f32_i32_d1 (F := Ideal)) D (iotaInDim S16384x128 32 1)).2 (ix2 r n)
      = BitVec.ofNat 32 (sortedFrom (fun a b : Fin 128 => decide (D (ix2 r a) < D (ix2 r b))) n).val := by
  have hb : (fun k k' : Fin 128 =>
        comparator_f32_i32_d1 (F := Ideal) (D (Shape.Idx.along (s := S16384x128) (ix2 r n) (1 : Fin 2) k), iotaInDim S16384x128 32 1 (Shape.Idx.along (s := S16384x128) (ix2 r n) (1 : Fin 2) k))
          (D (Shape.Idx.along (s := S16384x128) (ix2 r n) (1 : Fin 2) k'), iotaInDim S16384x128 32 1 (Shape.Idx.along (s := S16384x128) (ix2 r n) (1 : Fin 2) k')) == 1#1)
      = fun a b : Fin 128 => decide (D (ix2 r a) < D (ix2 r b)) := by
    funext k k'
    rw [comparator_eq, along_eq, along_eq]
  rw [← hb]
  unfold Host.sort2
  rw [dif_pos (by decide)]
  dsimp only
  have key : ∀ z : Fin 128, iotaInDim S16384x128 32 1 (Shape.Idx.along (s := S16384x128) (ix2 r n) (1 : Fin 2) z) = BitVec.ofNat 32 z.val := fun z =>
    congrArg (fun i : S16384x128.Idx => BitVec.ofNat 32 (i 1).val) (along_eq r n z)
  exact key _

include h0 h1 in
theorem v39_apply (r : Fin 16384) (n : Fin 128) : (res_main_v39 V : IVec S16384x128 32) (ix2 r n) = BitVec.ofNat 32 (orderOf A0 A1 r n).val := by
  refine (sort_apply (res_main_v38 V) r n).trans ?_
  unfold orderOf
  simp only [v38_apply V A0 A1 h0 h1]

/-- The start indices of the two gathers. -/
theorem start_eq (x : IVec S16384x128 32) (f : Fin 16384 → Fin 128 → Fin 128) (h : ∀ r n, x (ix2 r n) = BitVec.ofNat 32 (f r n).val) (r : Fin 16384) (n : Fin 128) :
    Scalar.select (IntOp.cmpi CmpIPredicate.slt (x (ix2 r n)) 0#32) (IntOp.addi (x (ix2 r n)) 128#32) (x (ix2 r n)) = BitVec.ofNat 32 (f r n).val := by
  rw [h, wrap_small]

/-- The points read in an order. -/
theorem points_read (P : FVec Ideal S16384x128x3 .f32) (I : IVec S16384x128x1 32) (f : Fin 16384 → Fin 128 → Fin 128) (h : ∀ r n z, I (ix3 r n z) = BitVec.ofNat 32 (f r n).val)
    (r : Fin 16384) (n : Fin 128) (j : Fin 3) :
    select (broadcastInDim S16384x128x3 ![0, 1] bcast_S16384x128_S16384x128x3_0_1 (Host.reduce IntOp.andi (andi (cmpi .sge I (broadcastInDim S16384x128x1 ![] bcast_S_S16384x128x1 (constantI S_ 32 0#32))) (cmpi .sle I (broadcastInDim S16384x128x1 ![0, 1, 2] bcast_S1x1x1_S16384x128x1_0_1_2 (broadcastInDim S1x1x1 ![2] bcast_S1_S1x1x1_2 (constantI S1 32 127#32))))) (constantI S_ 1 1#1) reducesTo_S16384x128x1_S16384x128_d2 h_S_)) (Host.gather gather_S16384x128x3_S16384x128x1_S16384x128x3_2_1_0_0_1_2_113 P I) (broadcastInDim S16384x128x3 ![] bcast_S_S16384x128x3 (constant (F := Ideal) S_ .f32 0x7FC00000#32)) (ix3 r n j)
      = P (ix3 r (f r n) j) := by
  pointwise
  rw [gather_points P I r n (f r n) j (h r n 0), fold_and_one _ _ fun x => by rw [h]; exact inside_small _]
  rfl

/-- The depths read in an order. -/
theorem depths_read (P : FVec Ideal S16384x128 .f32) (I : IVec S16384x128x1 32) (f : Fin 16384 → Fin 128 → Fin 128) (h : ∀ r n z, I (ix3 r n z) = BitVec.ofNat 32 (f r n).val)
    (r : Fin 16384) (n : Fin 128) :
    select (Host.reduce IntOp.andi (andi (cmpi .sge I (broadcastInDim S16384x128x1 ![] bcast_S_S16384x128x1 (constantI S_ 32 0#32))) (cmpi .sle I (broadcastInDim S16384x128x1 ![0, 1, 2] bcast_S1x1x1_S16384x128x1_0_1_2 (broadcastInDim S1x1x1 ![2] bcast_S1_S1x1x1_2 (constantI S1 32 127#32))))) (constantI S_ 1 1#1) reducesTo_S16384x128x1_S16384x128_d2 h_S_) (Host.gather gather_S16384x128_S16384x128x1_S16384x128_n_1_0_0_1_2_11 P I) (broadcastInDim S16384x128 ![] bcast_S_S16384x128 (constant (F := Ideal) S_ .f32 0x7FC00000#32)) (ix2 r n)
      = P (ix2 r (f r n)) := by
  pointwise
  rw [gather_depths P I r n (f r n) (h r n 0), fold_and_one _ _ fun x => by rw [h]; exact inside_small _]
  rfl

include h0 h1 in
theorem v42_apply (r : Fin 16384) (n : Fin 128) (j : Fin 3) :
    (res_main_v42 V : Vec Ideal S16384x128x3 .f32) (ix3 r n j) = ptOf A0 A1 r (orderOf A0 A1 r n) j := by
  have e := v39_apply V A0 A1 h0 h1
  have hi : ∀ r n z, (res_main_call2_v4 V : IVec S16384x128x1 32) (ix3 r n z) = BitVec.ofNat 32 (orderOf A0 A1 r n).val := fun r n z => by
    pointwise [res_main_call2_v4, res_main_v41]
    exact start_eq _ _ e r n
  exact (points_read (res_main_v33 V) (res_main_call2_v4 V) _ hi r n j).trans (v33_apply V A0 A1 h0 h1 r _ j)

section Results

variable {F : FTy → Type} [FloatOps F]

/-- The second result, as the reference's run has it. -/
abbrev depthsV (V : Valuation τ sig (Elt F)) : Vec F S16384x128 .f32 :=
  select (Host.reduce IntOp.andi (andi (cmpi .sge (res_main_call1_v5 V) (broadcastInDim S16384x128x1 ![] bcast_S_S16384x128x1 (constantI S_ 32 0#32))) (cmpi .sle (res_main_call1_v5 V) (broadcastInDim S16384x128x1 ![0, 1, 2] bcast_S1x1x1_S16384x128x1_0_1_2 (broadcastInDim S1x1x1 ![2] bcast_S1_S1x1x1_2 (constantI S1 32 127#32))))) (constantI S_ 1 1#1) reducesTo_S16384x128x1_S16384x128_d2 h_S_) (Host.gather gather_S16384x128_S16384x128x1_S16384x128_n_1_0_0_1_2_11 (res_main_v38 V) (res_main_call1_v5 V)) (broadcastInDim S16384x128 ![] bcast_S_S16384x128 (constant S_ .f32 0x7FC00000#32))

/-- The codes, normalized. -/
abbrev codesV (V : Valuation τ sig (Elt F)) : FVec F S16384x128x16 .f32 :=
  broadcastInDim S16384x128x16 ![0, 1, 2] bcast_S1x128x16_S16384x128x16_0_1_2 (broadcastInDim S1x128x16 ![1, 2] bcast_S128x16_S1x128x16_1_2 (Host.divf (V (Proc.devRef .tc main_arg2)) (broadcastInDim S128x16 ![0, 1] bcast_S128x1_S128x16_0_1 (maximumf (Host.sqrt (broadcastInDim S128x1 ![0] bcast_S128_S128x1_0 (Host.reduceAdd (mulf (V (Proc.devRef .tc main_arg2)) (V (Proc.devRef .tc main_arg2))) (constant S_ .f32 0x00000000#32) reducesTo_S128x16_S128_d1 h_S_))) (broadcastInDim S128x1 ![] bcast_S_S128x1 (constant S_ .f32 0x2B8CBCCC#32))))))

/-- The directions, at every sphere. -/
abbrev dirsV (V : Valuation τ sig (Elt F)) : FVec F S16384x128x3 .f32 :=
  broadcastInDim S16384x128x3 ![0, 1, 2] bcast_S16384x1x3_S16384x128x3_0_1_2 (res_main_v3 V)

/-- The first result, as the reference's run has it. -/
abbrev rowsV (V : Valuation τ sig (Elt F)) : Vec F S16384x128x25 .f32 :=
  concatenate S16384x128x25 2 [⟨S16384x128x3, ((res_main_v42 V) : (⟨S16384x128x3, .f32⟩ : BufTy).Contents (Elt F))⟩, ⟨S16384x128x3, (dirsV V : (⟨S16384x128x3, .f32⟩ : BufTy).Contents (Elt F))⟩, ⟨S16384x128x3, ((res_main_v42 V) : (⟨S16384x128x3, .f32⟩ : BufTy).Contents (Elt F))⟩, ⟨S16384x128x16, (codesV V : (⟨S16384x128x16, .f32⟩ : BufTy).Contents (Elt F))⟩] concatenates_S16384x128x3_S16384x128x3_S16384x128x3_S16384x128x16_S16384x128x25_d2

end Results

include h0 h1 in
theorem v40_apply (r : Fin 16384) (n : Fin 128) : depthsV V (ix2 r n) = depthOf A0 A1 r (orderOf A0 A1 r n) := by
  have e := v39_apply V A0 A1 h0 h1
  have hi : ∀ r n z, (res_main_call1_v5 V : IVec S16384x128x1 32) (ix3 r n z) = BitVec.ofNat 32 (orderOf A0 A1 r n).val := fun r n z => by
    pointwise [res_main_call1_v5]
    exact start_eq _ _ e r n
  exact (depths_read (res_main_v38 V) (res_main_call1_v5 V) _ hi r n).trans (v38_apply V A0 A1 h0 h1 r _)

include h2 in
theorem codesV_apply (r : Fin 16384) (n : Fin 128) (c : Fin 16) : codesV V (ix3 r n c) = codeOf A2 n c := by
  pointwise [codesV]
  rw [h2]
  rfl

include h0 in
theorem dirsV_apply (r : Fin 16384) (n : Fin 128) (j : Fin 3) : dirsV V (ix3 r n j) = dir A0 r j := by
  pointwise [dirsV, res_main_v3]
  rw [h0]
  rfl

include h0 h1 h2 in
theorem rows_apply (r : Fin 16384) (n : Fin 128) (p : Fin 25) : rowsV V (ix3 r n p) =
    if h3 : p.val < 3 then ptOf A0 A1 r (orderOf A0 A1 r n) ⟨p.val, h3⟩
    else if h6 : p.val < 6 then dir A0 r ⟨p.val - 3, by omega⟩
    else if h9 : p.val < 9 then ptOf A0 A1 r (orderOf A0 A1 r n) ⟨p.val - 6, by omega⟩
    else codeOf A2 n ⟨p.val - 9, by omega⟩ := by
  have e := v42_apply V A0 A1 h0 h1
  have e1 := dirsV_apply V A0 h0
  have e2 := codesV_apply V A2 h2
  unfold rowsV
  generalize res_main_v42 V = P at e ⊢
  generalize dirsV V = D at e1 ⊢
  generalize codesV V = C at e2 ⊢
  pointwise
  by_cases h3 : p.val < 3
  · rw [dif_pos h3, dif_pos h3, e]
  rw [dif_neg h3, dif_neg h3]
  by_cases h6 : p.val < 6
  · rw [dif_pos (by omega), dif_pos h6, e1]
  rw [dif_neg (by omega), dif_neg h6]
  by_cases h9 : p.val < 9
  · rw [dif_pos (by omega), dif_pos h9, e]
    rfl
  rw [dif_neg (by omega), dif_neg h9, e2]
  rfl

end Cert.Proof.Ref

end
-- ==== Proof.Ray.lean ====
/-
  One ray against the spheres, over the extended reals. Either all of its distances are one value, or they fall as the
  squared radius falls, and none is below the reals; and in every case the depth of a point is the distance's magnitude
  times the length of the direction. So the ray's distances, merged outwards from zero, are its distances in the stable
  order of the depths.
-/
module

public import proofs.«01_k».proof.Proof.Walk
public import proofs.«01_k».proof.Proof.RefValues

@[expose] public section

noncomputable section

namespace Cert.Proof.Ray

open Idealize.ShloMosaic
open Cert.Proof.Merge (hit mag pick pick_mem merge_eq_sort bigOf)

/-! ## Squares, magnitudes and roots -/

/-- A square is not negative. -/
theorem square_nonneg (x : EReal) : 0 ≤ x * x := by
  induction x with
  | bot => simp
  | top => simp
  | coe a => rw [← EReal.coe_mul]; exact EReal.coe_nonneg.mpr (mul_self_nonneg a)

/-- A square that is zero is the square of zero. -/
theorem square_eq_zero {x : EReal} (h : x * x = 0) : x = 0 := by
  induction x with
  | bot => simp at h
  | top => simp at h
  | coe a =>
    rw [← EReal.coe_mul] at h
    have h' : a * a = 0 := by exact_mod_cast h
    rw [mul_self_eq_zero.mp h']; rfl

/-- A square below the top is the square of a real. -/
theorem square_real {x : EReal} (h : x * x ≠ ⊤) : ∃ a : ℝ, x = a := by
  induction x with
  | bot => simp at h
  | top => simp at h
  | coe a => exact ⟨a, rfl⟩

/-- The magnitude of a real. -/
theorem mag_coe (a : ℝ) : mag (a : EReal) = ((|a| : ℝ) : EReal) := by
  unfold mag
  rw [← EReal.coe_neg, abs_eq_max_neg]
  exact (EReal.coe_strictMono.monotone.map_max (a := a) (b := -a)).symm

theorem mag_top : mag ⊤ = ⊤ := by unfold mag; simp
theorem mag_bot : mag ⊥ = ⊤ := by unfold mag; simp

theorem mag_nonneg (x : EReal) : 0 ≤ mag x := by
  induction x with
  | bot => rw [mag_bot]; exact le_top
  | top => rw [mag_top]; exact le_top
  | coe a => rw [mag_coe]; exact EReal.coe_nonneg.mpr (abs_nonneg a)

/-- The root of a real that is not negative. -/
theorem sqrt_real {a : ℝ} (h : 0 ≤ a) : Ideal.sqrt (a : EReal) = ((Real.sqrt a : ℝ) : EReal) := by
  rw [Ideal.sqrt_coe, if_neg (not_lt.mpr h)]

theorem sqrt_zero : Ideal.sqrt (0 : EReal) = 0 := by
  have h := sqrt_real (le_refl (0 : ℝ))
  rw [Real.sqrt_zero] at h
  exact h

/-! ## One ray -/

section One

variable (o d : Fin 3 → EReal)

/-- The direction's squared length, -/
def dd : EReal := ∑ x, d x * d x
/-- the distance of a sphere by its squared radius, -/
def dist (q : EReal) : EReal := hit (∑ x, o x * d x) (dd d) (∑ x, o x * o x) q
/-- and the depth of the point at a distance. -/
def depth (t : EReal) : EReal := Ideal.sqrt (∑ x, (o x - (o x + t * d x)) * (o x - (o x + t * d x)))

/-- A direction of length zero is zero. -/
theorem dir_zero (h : dd d = 0) (x : Fin 3) : d x = 0 :=
  square_eq_zero ((Finset.sum_eq_zero_iff_of_nonneg fun x _ => square_nonneg (d x)).mp h x (Finset.mem_univ x))

/-- No length: every distance is the bottom. -/
theorem dist_zero (h : dd d = 0) (q : EReal) : dist o d q = ⊥ := by
  have e : (∑ x, o x * d x) = 0 := Finset.sum_eq_zero fun x _ => by rw [dir_zero d h, mul_zero]
  unfold dist hit
  rw [e, h, mul_zero, zero_mul, sub_zero, max_self, sqrt_zero, zero_add]
  unfold Ideal.div
  rw [if_pos rfl, if_neg (lt_irrefl _)]

/-- An infinite length: every distance is zero. -/
theorem dist_top (h : dd d = ⊤) (q : EReal) : dist o d q = 0 := by
  unfold dist hit
  rw [h]
  unfold Ideal.div
  rw [if_neg (by simp), EReal.inv_top, mul_zero]

variable (fo : ∀ x, ∃ a : ℝ, o x = a)

include fo in
/-- Where the ray does not move, the depth is zero. -/
theorem depth_still (t : EReal) (h : ∀ x, t * d x = 0) : depth o d t = 0 := by
  unfold depth
  rw [Finset.sum_eq_zero fun x _ => ?_, sqrt_zero]
  obtain ⟨a, ha⟩ := fo x
  rw [h, add_zero, ha, EReal.sub_self (EReal.coe_ne_top a) (EReal.coe_ne_bot a), mul_zero]

/-- A ray of positive finite length: its coordinates are real. -/
theorem dir_real (h : dd d ≠ ⊤) (x : Fin 3) : ∃ a : ℝ, d x = a := by
  refine square_real fun e => h (top_le_iff.mp ?_)
  rw [← e]
  exact Finset.single_le_sum (f := fun x => d x * d x) (fun x _ => square_nonneg (d x)) (Finset.mem_univ x)

end One

section Reals

variable (o d : Fin 3 → ℝ)

theorem sum_coe (f : Fin 3 → ℝ) : (∑ x, (f x : EReal)) = ((∑ x, f x : ℝ) : EReal) := by
  rw [Fin.sum_univ_three, Fin.sum_univ_three]; norm_cast

/-- The distance in the reals. -/
def rdist (q : ℝ) : ℝ :=
  (-(∑ x, o x * d x) + Real.sqrt (max ((∑ x, o x * d x) * (∑ x, o x * d x) - (∑ x, d x * d x) * ((∑ x, o x * o x) - q)) 0)) / (∑ x, d x * d x)

theorem dd_coe : dd (fun x => (d x : EReal)) = ((∑ x, d x * d x : ℝ) : EReal) := by
  unfold dd
  rw [← sum_coe]; norm_cast

theorem dist_coe (hd : 0 < ∑ x, d x * d x) (q : ℝ) : dist (fun x => (o x : EReal)) (fun x => (d x : EReal)) q = (rdist o d q : EReal) := by
  unfold dist hit
  have e1 : (∑ x, (o x : EReal) * (d x : EReal)) = ((∑ x, o x * d x : ℝ) : EReal) := by rw [← sum_coe]; norm_cast
  have e2 : (∑ x, (o x : EReal) * (o x : EReal)) = ((∑ x, o x * o x : ℝ) : EReal) := by rw [← sum_coe]; norm_cast
  rw [dd_coe, e1, e2]
  unfold rdist
  generalize (∑ x, o x * d x) = a at *
  generalize (∑ x, o x * o x) = b at *
  generalize (∑ x, d x * d x) = c at *
  have e3 : max ((a : EReal) * a - c * (b - q)) 0 = ((max (a * a - c * (b - q)) 0 : ℝ) : EReal) := by
    rw [EReal.coe_strictMono.monotone.map_max]; norm_cast
  rw [e3, sqrt_real (le_max_right _ _)]
  unfold Ideal.div
  rw [if_neg (by exact_mod_cast hd.ne'), div_eq_mul_inv, EReal.coe_mul, EReal.coe_inv, EReal.coe_add, EReal.coe_neg, zero_sub]

theorem dist_coe_top (hd : 0 < ∑ x, d x * d x) : dist (fun x => (o x : EReal)) (fun x => (d x : EReal)) ⊤ = ⊤ := by
  unfold dist hit
  have e1 : (∑ x, (o x : EReal) * (d x : EReal)) = ((∑ x, o x * d x : ℝ) : EReal) := by rw [← sum_coe]; norm_cast
  have e2 : (∑ x, (o x : EReal) * (o x : EReal)) = ((∑ x, o x * o x : ℝ) : EReal) := by rw [← sum_coe]; norm_cast
  rw [dd_coe, e1, e2]
  generalize (∑ x, o x * d x) = a at *
  generalize (∑ x, o x * o x) = b at *
  generalize (∑ x, d x * d x) = c at *
  rw [EReal.sub_top, EReal.coe_mul_bot_of_pos hd, ← EReal.coe_mul, EReal.coe_sub_bot, max_eq_left le_top, Ideal.sqrt_top, zero_sub, ← EReal.coe_neg, EReal.coe_add_top]
  unfold Ideal.div
  rw [if_neg (by exact_mod_cast hd.ne'), ← EReal.coe_inv, EReal.top_mul_coe_of_pos (inv_pos.mpr hd)]

/-- A larger sphere is met farther along. -/
theorem rdist_mono (hd : 0 < ∑ x, d x * d x) {q q' : ℝ} (h : q ≤ q') : rdist o d q ≤ rdist o d q' := by
  unfold rdist
  refine div_le_div_of_nonneg_right ?_ hd.le
  refine add_le_add_right (Real.sqrt_le_sqrt (max_le_max ?_ le_rfl)) _
  have := mul_le_mul_of_nonneg_left h hd.le
  nlinarith

/-- The depth at a real distance. -/
theorem depth_coe (t : ℝ) : depth (fun x => (o x : EReal)) (fun x => (d x : EReal)) t
    = mag (t : EReal) * Ideal.sqrt (dd (fun x => (d x : EReal))) := by
  have e : (∑ x, ((o x : EReal) - ((o x : EReal) + (t : EReal) * (d x : EReal))) * ((o x : EReal) - ((o x : EReal) + (t : EReal) * (d x : EReal))))
      = ((t ^ 2 * ∑ x, d x * d x : ℝ) : EReal) := by
    have e0 : ∀ x, ((o x : EReal) - ((o x : EReal) + (t : EReal) * (d x : EReal))) * ((o x : EReal) - ((o x : EReal) + (t : EReal) * (d x : EReal)))
        = (((o x - (o x + t * d x)) * (o x - (o x + t * d x)) : ℝ) : EReal) := fun x => by norm_cast
    rw [Finset.sum_congr rfl fun x _ => e0 x, sum_coe, Finset.mul_sum]
    exact congrArg _ (Finset.sum_congr rfl fun x _ => by ring)
  have h0 : 0 ≤ ∑ x, d x * d x := Finset.sum_nonneg fun x _ => mul_self_nonneg (d x)
  unfold depth
  rw [e, dd_coe, sqrt_real h0, mag_coe, sqrt_real (mul_nonneg (sq_nonneg t) h0), Real.sqrt_mul (sq_nonneg t), Real.sqrt_sq_eq_abs, EReal.coe_mul]

/-- The depth at the top. -/
theorem depth_coe_top (hd : 0 < ∑ x, d x * d x) : depth (fun x => (o x : EReal)) (fun x => (d x : EReal)) ⊤
    = mag ⊤ * Ideal.sqrt (dd (fun x => (d x : EReal))) := by
  rw [dd_coe, sqrt_real hd.le, mag_top, EReal.top_mul_coe_of_pos (Real.sqrt_pos.mpr hd)]
  have hx : ∃ x, d x ≠ 0 := by
    by_contra hn
    push Not at hn
    rw [Finset.sum_eq_zero fun x _ => by rw [hn x, mul_zero]] at hd
    exact lt_irrefl _ hd
  obtain ⟨x, hx⟩ := hx
  have e : ((o x : EReal) - ((o x : EReal) + ⊤ * (d x : EReal))) * ((o x : EReal) - ((o x : EReal) + ⊤ * (d x : EReal))) = ⊤ := by
    rcases lt_or_gt_of_ne hx with h | h
    · rw [EReal.top_mul_coe_of_neg h, EReal.add_bot, EReal.coe_sub_bot, EReal.top_mul_top]
    · rw [EReal.top_mul_coe_of_pos h, EReal.coe_add_top, EReal.sub_top, EReal.bot_mul_bot]
  unfold depth
  have : (∑ x, ((o x : EReal) - ((o x : EReal) + ⊤ * (d x : EReal))) * ((o x : EReal) - ((o x : EReal) + ⊤ * (d x : EReal)))) = ⊤ := by
    refine top_le_iff.mp (e.symm.le.trans ?_)
    exact Finset.single_le_sum (f := fun x => ((o x : EReal) - ((o x : EReal) + ⊤ * (d x : EReal))) * ((o x : EReal) - ((o x : EReal) + ⊤ * (d x : EReal))))
      (fun x _ => square_nonneg _) (Finset.mem_univ x)
  rw [this, Ideal.sqrt_top]

end Reals

/-! ## The two kinds of rays -/

section Kinds

variable (o d : Fin 3 → EReal) (fo : ∀ x, ∃ a : ℝ, o x = a)

include fo in
/-- The depth of a point is the distance's magnitude times the length of the direction. -/
theorem depth_eq (q : EReal) (hq : q ≠ ⊥) : depth o d (dist o d q) = mag (dist o d q) * Ideal.sqrt (dd d) := by
  by_cases h0 : dd d = 0
  · rw [dist_zero o d h0, h0, sqrt_zero, mul_zero]
    exact depth_still o d fo _ fun x => by rw [dir_zero d h0, mul_zero]
  by_cases h1 : dd d = ⊤
  · rw [dist_top o d h1]
    have : mag (0 : EReal) = 0 := by unfold mag; simp
    rw [this, zero_mul]
    exact depth_still o d fo _ fun x => by rw [zero_mul]
  have fd := dir_real d h1
  choose o' ho using fo
  choose d' hd using fd
  obtain rfl : o = fun x => (o' x : EReal) := funext ho
  obtain rfl : d = fun x => (d' x : EReal) := funext hd
  have hp : 0 < ∑ x, d' x * d' x := by
    rw [dd_coe] at h0
    exact lt_of_le_of_ne (Finset.sum_nonneg fun x _ => mul_self_nonneg (d' x)) fun e => h0 (by rw [← e]; rfl)
  induction q with
  | bot => exact absurd rfl hq
  | top => rw [dist_coe_top o' d' hp]; exact depth_coe_top o' d' hp
  | coe q => rw [dist_coe o' d' hp]; exact depth_coe o' d' _

include fo in
/-- Either the distances are one value; or the length is positive and finite, the distances grow with the squared radius
    and none is the bottom. -/
theorem kinds : (∀ q q' : EReal, dist o d q = dist o d q') ∨
    ((0 < Ideal.sqrt (dd d) ∧ Ideal.sqrt (dd d) < ⊤) ∧ (∀ q q' : EReal, q ≠ ⊥ → q ≤ q' → dist o d q ≤ dist o d q') ∧ ∀ q, q ≠ ⊥ → dist o d q ≠ ⊥) := by
  by_cases h0 : dd d = 0
  · exact Or.inl fun q q' => by rw [dist_zero o d h0, dist_zero o d h0]
  by_cases h1 : dd d = ⊤
  · exact Or.inl fun q q' => by rw [dist_top o d h1, dist_top o d h1]
  have fd := dir_real d h1
  choose o' ho using fo
  choose d' hd using fd
  obtain rfl : o = fun x => (o' x : EReal) := funext ho
  obtain rfl : d = fun x => (d' x : EReal) := funext hd
  have hp : 0 < ∑ x, d' x * d' x := by
    rw [dd_coe] at h0
    exact lt_of_le_of_ne (Finset.sum_nonneg fun x _ => mul_self_nonneg (d' x)) fun e => h0 (by rw [← e]; rfl)
  refine Or.inr ⟨?_, ?_, ?_⟩
  · rw [dd_coe, sqrt_real hp.le]
    exact ⟨EReal.coe_pos.mpr (Real.sqrt_pos.mpr hp), EReal.coe_lt_top _⟩
  · intro q q' hq h
    induction q' with
    | bot => exact absurd (le_bot_iff.mp h) hq
    | top => rw [dist_coe_top o' d' hp]; exact le_top
    | coe q' =>
      induction q with
      | bot => exact absurd rfl hq
      | top => exact absurd (top_le_iff.mp h) (EReal.coe_ne_top _)
      | coe q => rw [dist_coe o' d' hp, dist_coe o' d' hp]; exact EReal.coe_le_coe_iff.mpr (rdist_mono o' d' hp (EReal.coe_le_coe_iff.mp h))
  · intro q hq
    induction q with
    | bot => exact absurd rfl hq
    | top => rw [dist_coe_top o' d' hp]; simp
    | coe q => rw [dist_coe o' d' hp]; exact EReal.coe_ne_bot _

end Kinds

/-! ## The count -/

/-- Bits summed as words: how many are set. -/
theorem fold_count {ι : Type} [DecidableEq ι] (S : Finset ι) (p : ι → Prop) [DecidablePred p] :
    Finset.fold IntOp.addi 0#32 (fun s => BitVec.setWidth 32 (BitVec.ofBool (decide (p s)))) S = BitVec.ofNat 32 (S.filter p).card := by
  induction S using Finset.induction_on with
  | empty => rfl
  | insert a S ha ih =>
    rw [Finset.fold_insert ha, ih, Finset.filter_insert]
    by_cases h : p a
    · rw [if_pos h, Finset.card_insert_of_notMem (fun h' => ha (Finset.mem_filter.mp h').1), decide_eq_true h]
      show 1#32 + _ = _
      rw [Nat.add_comm, BitVec.ofNat_add]
    · rw [if_neg h, decide_eq_false h]
      exact BitVec.zero_add _

/-- Of a set of places that holds every place before one of its own, the members are the places below its size. -/
theorem below_card (p : Fin 128 → Prop) [DecidablePred p] (lower : ∀ i j, i ≤ j → p j → p i) (i : Fin 128) :
    i.val < (Finset.univ.filter p).card ↔ p i := by
  constructor
  · intro h
    by_contra hn
    have : Finset.univ.filter p ⊆ Finset.Iio i := fun j hj => by
      rw [Finset.mem_Iio]
      exact lt_of_not_ge fun hij => hn (lower i j hij (Finset.mem_filter.mp hj).2)
    have := Finset.card_le_card this
    rw [Fin.card_Iio] at this
    omega
  · intro h
    have : Finset.Iic i ⊆ Finset.univ.filter p := fun j hj =>
      Finset.mem_filter.mpr ⟨Finset.mem_univ j, lower j i (Finset.mem_Iic.mp hj) h⟩
    have := Finset.card_le_card this
    rw [Fin.card_Iic] at this
    omega

/-! ## The merge of one ray -/

/-- One ray's distances, merged, are its distances in the stable order of the depths. -/
theorem merge_ray (o d : Fin 3 → EReal) (fo : ∀ x, ∃ a : ℝ, o x = a) (q : Fin 128 → EReal) (hq : ∀ s, q s ≠ ⊥) (anti : ∀ i j, i ≤ j → q j ≤ q i) (n : Fin 128) :
    pick (F := Ideal) (⊤ : EReal) (fun s => dist o d (q ⟨s % 128, Nat.mod_lt _ (by omega)⟩))
      (Finset.fold IntOp.addi 0#32 (fun s : Fin 128 => BitVec.setWidth 32 (BitVec.ofBool (decide (0 < dist o d (q s))))) Finset.univ) n.val
    = dist o d (q (sortedFrom (fun a b => decide (depth o d (dist o d (q a)) < depth o d (dist o d (q b)))) n)) := by
  rcases kinds o d fo with h | ⟨⟨hs, hs'⟩, hm, hb⟩
  · obtain ⟨i, -, e⟩ := pick_mem (fun s => dist o d (q ⟨s % 128, Nat.mod_lt _ (by omega)⟩))
      (Finset.fold IntOp.addi 0#32 (fun s : Fin 128 => BitVec.setWidth 32 (BitVec.ofBool (decide (0 < dist o d (q s))))) Finset.univ) n.val
    rw [e]
    exact h _ _
  · have at_ : ∀ s : Fin 128, (⟨s.val % 128, Nat.mod_lt _ (by omega)⟩ : Fin 128) = s := fun s => Fin.ext (Nat.mod_eq_of_lt s.isLt)
    have an : ∀ i j : Fin 128, i ≤ j → dist o d (q j) ≤ dist o d (q i) := fun i j h => hm _ _ (hq j) (anti i j h)
    rw [fold_count]
    have hc := below_card (fun s => 0 < dist o d (q s)) fun i j h h' => h'.trans_le (an i j h)
    have hk : (Finset.univ.filter fun s : Fin 128 => 0 < dist o d (q s)).card ≤ 128 := by
      refine (Finset.card_filter_le _ _).trans ?_
      simp
    generalize (Finset.univ.filter fun s : Fin 128 => 0 < dist o d (q s)).card = kk at hc hk ⊢
    have hd : ∀ s, depth o d (dist o d (q s)) = mag (dist o d (q s)) * Ideal.sqrt (dd d) := fun s => depth_eq o d fo _ (hq s)
    have hne : Ideal.sqrt (dd d) ≠ ⊤ := hs'.ne
    have hlt : ∀ x y : EReal, x * Ideal.sqrt (dd d) < y * Ideal.sqrt (dd d) → x < y := fun x y h =>
      lt_of_not_ge fun h' => absurd (mul_le_mul_of_nonneg_right h' hs.le) (not_le.mpr h)
    have hmul : ∀ x y : EReal, x < y → x * Ideal.sqrt (dd d) < y * Ideal.sqrt (dd d) := by
      intro x y h
      refine lt_of_not_ge fun h' => absurd h (not_lt.mpr ?_)
      generalize Ideal.sqrt (dd d) = c at hs hne h'
      induction c with
      | bot => exact absurd hs (by simp)
      | top => exact absurd rfl hne
      | coe c =>
        have hc0 : 0 < c := EReal.coe_pos.mp hs
        have e : ∀ z : EReal, z * (c : EReal) * ((c⁻¹ : ℝ) : EReal) = z := fun z => by
          rw [mul_assoc, ← EReal.coe_mul, mul_inv_cancel₀ hc0.ne', EReal.coe_one, mul_one]
        have := mul_le_mul_of_nonneg_right h' (EReal.coe_nonneg.mpr (inv_nonneg.mpr hc0.le))
        rwa [e, e] at this
    have main := merge_eq_sort (fun s => dist o d (q ⟨s % 128, Nat.mod_lt _ (by omega)⟩)) kk
      (fun i j h hj => an _ _ (by
        show i % 128 ≤ j % 128
        rw [Nat.mod_eq_of_lt hj, Nat.mod_eq_of_lt (h.trans_lt hj)]; exact h))
      (fun i _ => hb _ (hq _)) hk
      (fun i hi => by
        have := hc ⟨i, hi⟩
        rw [show (⟨i % 128, Nat.mod_lt _ (by omega)⟩ : Fin 128) = ⟨i, hi⟩ from Fin.ext (Nat.mod_eq_of_lt hi)]
        exact this)
      (fun s => depth o d (dist o d (q s)))
      (fun i j h => by
        rw [hd, hd] at h
        rw [at_, at_]
        exact hlt _ _ h)
      (fun i j h => by
        rw [hd, hd] at h
        rw [at_, at_]
        rcases lt_trichotomy (mag (dist o d (q i))) (mag (dist o d (q j))) with h' | h' | h'
        · exact absurd h (hmul _ _ h').ne
        · exact h'
        · exact absurd h (hmul _ _ h').ne')
      (fun a b => decide (depth o d (dist o d (q a)) < depth o d (dist o d (q b)))) (fun a b => rfl) n
    rw [main, at_]

end Cert.Proof.Ray

end
-- ==== Proof.Results.lean ====
/-
  What the kernel's two results hold over the extended reals: the arrays followed from the arguments through every
  operation of @main.
-/
module

public import proofs.«01_k».proof.Proof.Values
public import proofs.«01_k».proof.Proof.Frames

@[expose] public section

noncomputable section

namespace Cert.Proof.Merge

open Cert.KernelIdeal Cert.KernelIdeal.Gen
open Idealize.ShloMosaic
open Idealize.ShloMosaic.TcCoe

variable (m : (ℓ : Loc nD τ sig) → Buf (Elt Ideal) ℓ)

/-- The rays, -/
def a0 : Vec Ideal S16384x8 .f32 := m ((0 : Dev nD), Proc.devRef .tc main_arg0)
/-- the radii, -/
def a1 : Vec Ideal S128 .f32 := m ((0 : Dev nD), Proc.devRef .tc main_arg1)
/-- the codes. -/
def a2 : Vec Ideal S128x16 .f32 := m ((0 : Dev nD), Proc.devRef .tc main_arg2)

theorem V1_v0 (a : Fin 8) (r : Fin 16384) : (V1 m (Proc.devRef .tc main_v0) : Vec Ideal S8x16384 .f32) (ix2 a r) = a0 m (ix2 r a) := by
  unfold V1
  rw [StableHlo.reshape_result_ne (h := by decide), StableHlo.unary_result]
  show transpose S8x16384 [1, 0] (a0 m) transposes_S16384x8_S8x16384_1_0 (ix2 a r) = _
  pointwise

theorem V1_v1 (s : Fin 128) : (V1 m (Proc.devRef .tc main_v1) : Vec Ideal S128x1 .f32) (ix2 s 0) = a1 m (ix1 s) := by
  unfold V1
  rw [StableHlo.reshape_result, StableHlo.unary_result_ne (h := by decide)]
  show shapeCast S128x1 (a1 m) shapeCasts_S128_S128x1 (ix2 s 0) = _
  pointwise

theorem V2_t (i : S128x16384.Idx) : (V2 m (Proc.devRef .tc main_v2_0) : Vec Ideal S128x16384 .f32) i = tOf (a0 m) (a1 m) (i 1) (i 0) :=
  final0_2 (V1 m) (a0 m) (a1 m) (V1_v0 m) (V1_v1 m) i

theorem V2_k (i : S8x1x2048.Idx) : (V2 m (Proc.devRef .tc main_v2_1) : Vec Ideal S8x1x2048 .i32) i
    = cntOf (a0 m) (a1 m) ⟨(i 0).val * 2048 + (i 2).val, by have : (i 0).val < 8 := (i 0).isLt; have : (i 2).val < 2048 := (i 2).isLt; omega⟩ :=
  final0_3 (V1 m) (a0 m) (a1 m) (V1_v0 m) (V1_v1 m) i

theorem V4_t (i : S128x16384.Idx) : tA m i = tOf (a0 m) (a1 m) (i 1) (i 0) := by
  unfold tA V4
  rw [after1_keeps _ main_v2_0 (by decide)]
  unfold V3
  rw [StableHlo.unary_result_ne (h := by decide), StableHlo.reshape_result_ne (h := by decide)]
  exact V2_t m i

theorem V4_k (r : Fin 16384) : kA m (ix1 r) = cntOf (a0 m) (a1 m) r := by
  unfold kA V4
  rw [after1_keeps _ main_v3 (by decide)]
  unfold V3
  rw [StableHlo.unary_result_ne (h := by decide), StableHlo.reshape_result]
  have h := V2_k m
  generalize V2 m (Proc.devRef .tc main_v2_1) = X at h ⊢
  show shapeCast S16384 (X : Vec Ideal S8x1x2048 .i32) shapeCasts_S8x1x2048_S16384 (ix1 r) = _
  pointwise
  refine (h _).trans (congrArg _ (Fin.ext ?_))
  show r.val / 2048 * 2048 + r.val % 2048 = r.val
  omega

theorem V3_v4 (c : Fin 16) (s : Fin 128) : (V3 m (Proc.devRef .tc main_v4) : Vec Ideal S16x128 .f32) (ix2 c s) = a2 m (ix2 s c) := by
  unfold V3
  rw [StableHlo.unary_result, StableHlo.reshape_result_ne (h := by decide)]
  have h : V2 m (Proc.devRef .tc main_arg2) = a2 m := by
    unfold V2
    rw [after0_keeps _ main_arg2 (by decide)]
    unfold V1
    rw [StableHlo.reshape_result_ne (h := by decide), StableHlo.unary_result_ne (h := by decide)]
    rfl
  rw [h]
  show transpose S16x128 [1, 0] (a2 m) transposes_S128x16_S16x128_1_0 (ix2 c s) = _
  pointwise

theorem V5_arg0 : V5 m (Proc.devRef .tc main_arg0) = a0 m := by
  unfold V5
  rw [Function.update_of_ne (by decide)]
  unfold V4
  rw [after1_keeps _ main_arg0 (by decide)]
  unfold V3
  rw [StableHlo.unary_result_ne (h := by decide), StableHlo.reshape_result_ne (h := by decide)]
  unfold V2
  rw [after0_keeps _ main_arg0 (by decide)]
  unfold V1
  rw [StableHlo.reshape_result_ne (h := by decide), StableHlo.unary_result_ne (h := by decide)]
  rfl

theorem V5_v5 (c : Fin 16) (s : Fin 128) : (V5 m (Proc.devRef .tc main_v5) : Vec Ideal S16x128 .f32) (ix2 c s) = codeOf (a2 m) s c := by
  unfold V5
  rw [Function.update_of_ne (by decide)]
  exact final1_1 (V3 m) (a2 m) (V3_v4 m) (ix2 c s)

theorem V5_v6 (n : Fin 128) (r : Fin 16384) : (V5 m (Proc.devRef .tc main_v6) : Vec Ideal S128x16384 .f32) (ix2 n r) = sortedOf (a0 m) (a1 m) r n := by
  rw [V5_o]
  unfold mergedT sortedOf
  show pick bigOf (fun x => tA m (ixT x r.val)) (kA m (ixK r.val)) n.val = _
  have e : (ixK r.val) = ix1 r := by
    funext a; apply Fin.ext
    match a with
    | ⟨0, _⟩ => exact Nat.mod_eq_of_lt r.isLt
  rw [e, V4_k]
  refine congrArg (fun f => pick (F := Ideal) bigOf f _ n.val) (funext fun x => ?_)
  rw [V4_t]
  exact congrArg (fun r' => tOf (a0 m) (a1 m) r' _) (Fin.ext (Nat.mod_eq_of_lt r.isLt))

/-- The first result. -/
theorem V7_rows (r : Fin 16384) (n : Fin 128) (p : Fin 25) :
    (V7 m (Proc.devRef .tc main_v8) : Vec Ideal S16384x128x25 .f32) (ix3 r n p) = lineOf (a0 m) (a2 m) (sortedOf (a0 m) (a1 m)) r n p := by
  unfold V7
  rw [StableHlo.unary_result]
  have h := final3_3 (V5 m) (a0 m) (a2 m) (sortedOf (a0 m) (a1 m)) (V5_v6 m) (V5_arg0 m) (V5_v5 m)
  unfold V6
  generalize after3 (V5 m) (Proc.devRef .tc main_v7_0) = X at h ⊢
  show transpose S16384x128x25 [1, 2, 0] (X : Vec Ideal S25x16384x128 .f32) transposes_S25x16384x128_S16384x128x25_1_2_0 (ix3 r n p) = _
  pointwise
  exact h _

/-- The second. -/
theorem V7_depths (r : Fin 16384) (n : Fin 128) :
    (V7 m (Proc.devRef .tc main_v7_1) : Vec Ideal S16384x128 .f32) (ix2 r n)
      = max (sortedOf (a0 m) (a1 m) r n) (-sortedOf (a0 m) (a1 m) r n) * Ideal.sqrt (dddot (a0 m) r) := by
  unfold V7
  rw [StableHlo.unary_result_ne (h := by decide)]
  exact final3_4 (V5 m) (a0 m) (sortedOf (a0 m) (a1 m)) (V5_v6 m) (V5_arg0 m) (ix2 r n)

end Cert.Proof.Merge

end
-- ==== Proof.Algebraic.lean ====
/-
  The kernel's results are the reference's, over the extended reals, for rays of finite origin and spheres in falling order
  of squared radius.
-/
module

public import proofs.«01_k».proof.Defs
public import proofs.«01_k».proof.Proof.Ray
public import proofs.«01_k».proof.Proof.Results
public import Idealize.ShloMosaic.Lib.WordCmp

@[expose] public section

noncomputable section

namespace Cert.Proof

open Idealize.ShloMosaic
open Idealize.ShloMosaic.TcCoe

/-- The shapes of the predicate. -/
theorem pre_facts : Cert.Pre_ordered_spheres.Facts where
  slices_S16384x8_S16384x3_0_0 := by decide
  bcast_S_S16384x3 := by decide
  reducesTo_S16384x3_S_d0_1 := by decide
  h_S_ := by decide
  slices_S128_S127_1 := by decide
  slices_S128_S127_0 := by decide
  reducesTo_S127_S_d0 := by decide

namespace Pre

open Cert.Pre_ordered_spheres
open Cert.Proof.Merge (org rsq)

attribute [local instance] pre_facts

/-- A conjunction that is one is one everywhere. -/
theorem fold_and_all {ι : Type} [DecidableEq ι] (S : Finset ι) (f : ι → BitVec 1) (h : Finset.fold IntOp.andi 1#1 f S = 1#1) : ∀ x ∈ S, f x = 1#1 := by
  have two : ∀ a b : BitVec 1, IntOp.andi a b = 1#1 → a = 1#1 ∧ b = 1#1 := by decide
  induction S using Finset.induction_on with
  | empty => intro x hx; exact absurd hx (Finset.notMem_empty x)
  | insert a S ha ih =>
    rw [Finset.fold_insert ha] at h
    have := two _ _ h
    intro x hx
    rcases Finset.mem_insert.mp hx with rfl | hx
    · exact this.1
    · exact ih this.2 x hx

/-- A conjunction over a whole array that is one is one at every index. -/
theorem reduce_all {s : Shape} {axes : List (Fin s.rank)} (x : IVec s 1) (h : s.ReducesTo axes S_) (hu : 0 < S_.numel) (j : S_.Idx)
    (e : Host.reduce IntOp.andi x (constantI S_ 1 1#1) h hu j = 1#1) (i : s.Idx) : x i = 1#1 := by
  rw [Host.reduce_eq_fold] at e
  exact fold_and_all _ _ e i (Finset.mem_filter.mpr ⟨Finset.mem_univ i, funext fun a => a.elim0⟩)

variable (A0 : FVec Ideal S16384x8 .f32) (A1 : FVec Ideal S128 .f32) (A2 : FVec Ideal S128x16 .f32)

/-- An origin whose magnitude is below infinity is real. -/
theorem finite_at (e : ∀ i : S16384x3.Idx, cmpf (F := Ideal) CmpFPredicate.olt (Host.absf (extractStridedSlice S16384x3 ![0, 0] A0 pre_facts.slices_S16384x8_S16384x3_0_0))
          (broadcastInDim S16384x3 ![] pre_facts.bcast_S_S16384x3 (constant S_ FTy.f32 2139095040#32)) i = 1#1) (r : Fin 16384) (x : Fin 3) : ∃ a : ℝ, org A0 r x = a := by
  have h := e (ix2 r x)
  pointwise at h
  have htop : Ideal.ofBits .f32 2139095040#32 = ⊤ := by simp [Ideal.ofBits, Ideal.ieee]
  rw [htop, WordCmp.ofBool_decide_eq_one_iff] at h
  replace h : max (A0 (ix2 r ⟨x.val, by omega⟩)) (-(A0 (ix2 r ⟨x.val, by omega⟩))) < (⊤ : EReal) := h
  unfold org
  generalize (A0 (ix2 r ⟨x.val, _⟩) : EReal) = z at h ⊢
  change EReal at z
  induction z using EReal.rec with
  | bot => exact absurd h (by simp)
  | top => exact absurd h (by simp)
  | coe a => exact ⟨a, rfl⟩

/-- A sphere is no larger than the one before. -/
theorem falls_at (e : ∀ i : S127.Idx, cmpf (F := Ideal) CmpFPredicate.ole (extractStridedSlice S127 ![1] (mulf A1 A1) pre_facts.slices_S128_S127_1)
          (extractStridedSlice S127 ![0] (mulf A1 A1) pre_facts.slices_S128_S127_0) i = 1#1) (s : Fin 127) : rsq A1 ⟨1 + s.val, by omega⟩ ≤ rsq A1 ⟨s.val, by omega⟩ := by
  have h := e (ix1 s)
  pointwise at h
  rw [WordCmp.ofBool_decide_eq_one_iff] at h
  exact h

/-- What the precondition says: the origins are real and the squared radii fall. -/
theorem read (h : fn (F := Ideal) A0 A1 A2 = fun _ => 1#1) : (∀ r x, ∃ a : ℝ, org A0 r x = a) ∧ ∀ i j : Fin 128, i ≤ j → rsq A1 j ≤ rsq A1 i := by
  have e := congrFun h (fun i => i.elim0)
  unfold fn at e
  dsimp only at e
  have two : ∀ a b : BitVec 1, IntOp.andi a b = 1#1 → a = 1#1 ∧ b = 1#1 := by decide
  obtain ⟨e1, e2⟩ := two _ _ e
  have f2 := falls_at A1 (reduce_all _ pre_facts.reducesTo_S127_S_d0 pre_facts.h_S_ _ e2)
  refine ⟨finite_at A0 (reduce_all _ pre_facts.reducesTo_S16384x3_S_d0_1 pre_facts.h_S_ _ e1), ?_⟩
  have step : ∀ k (i : Fin 128) (h : i.val + k < 128), rsq A1 ⟨i.val + k, h⟩ ≤ rsq A1 i := by
    intro k
    induction k with
    | zero => intro i h; exact le_rfl
    | succ k ih =>
      intro i h
      refine le_trans (le_of_eq ?_) ((f2 ⟨i.val + k, by omega⟩).trans (ih i (by omega)))
      exact congrArg (rsq A1) (Fin.ext (by simp; omega))
  intro i j hij
  have := step (j.val - i.val) i (by omega)
  rwa [show (⟨i.val + (j.val - i.val), by omega⟩ : Fin 128) = j from Fin.ext (by simp; omega)] at this

end Pre

/-! ## The two results -/

section Two

open Cert.KernelIdeal
open Cert.Proof.Merge (a0 a1 a2 V7 V7_rows V7_depths sortedOf tOf rsq org dir dddot codeOf lineOf mag)
open Cert.Proof.Ref (ptOf depthOf orderOf depthsV rowsV rows_apply v40_apply)

/-- The number that stands for infinity. -/
theorem big_top : Merge.bigOf (F := Ideal) = (⊤ : EReal) := by
  unfold Merge.bigOf
  exact IdealRules.named_const.ideal_named_scalar κ "big" _ ⊤ rfl

variable (A0 : FVec Ideal S16384x8 .f32) (A1 : FVec Ideal S128 .f32) (A2 : FVec Ideal S128x16 .f32)
variable (fo : ∀ r x, ∃ a : ℝ, org A0 r x = a) (falls : ∀ i j : Fin 128, i ≤ j → rsq A1 j ≤ rsq A1 i)

theorem rsq_ne (s : Fin 128) : rsq A1 s ≠ ⊥ := fun e =>
  absurd (e ▸ Ray.square_nonneg (A1 (ix1 s)) : (0 : EReal) ≤ ⊥) (by simp)

include fo falls in
/-- The merged distances are the distances in the reference's order. -/
theorem sorted_eq (r : Fin 16384) (n : Fin 128) : sortedOf A0 A1 r n = tOf A0 A1 r (orderOf A0 A1 r n) := by
  unfold sortedOf
  rw [big_top]
  exact Ray.merge_ray (org A0 r) (dir A0 r) (fo r) (rsq A1) (rsq_ne A1) falls n

include fo in
/-- The depth of a point is its distance's magnitude times the length of the direction. -/
theorem depthOf_eq (r : Fin 16384) (s : Fin 128) : depthOf A0 A1 r s = max (tOf A0 A1 r s) (-tOf A0 A1 r s) * Ideal.sqrt (dddot A0 r) :=
  Ray.depth_eq (org A0 r) (dir A0 r) (fo r) (rsq A1 s) (rsq_ne A1 s)

variable (m : (ℓ : Loc nD τ sig) → Buf (Elt Ideal) ℓ)
variable (V : Valuation Cert.ReferenceIdeal.τ Cert.ReferenceIdeal.sig (Elt Ideal))
variable (h0 : V (Proc.devRef .tc Cert.ReferenceIdeal.main_arg0) = a0 m) (h1 : V (Proc.devRef .tc Cert.ReferenceIdeal.main_arg1) = a1 m) (h2 : V (Proc.devRef .tc Cert.ReferenceIdeal.main_arg2) = a2 m)
variable (mfo : ∀ r x, ∃ a : ℝ, org (a0 m) r x = a) (mfalls : ∀ i j : Fin 128, i ≤ j → rsq (a1 m) j ≤ rsq (a1 m) i)

include h0 h1 h2 mfo mfalls in
/-- The first result. -/
theorem rows_eq : (rowsV V : Vec Ideal S16384x128x25 .f32) = V7 m (Proc.devRef .tc main_v8) := by
  funext i
  obtain ⟨r, n, p, rfl⟩ : ∃ (r : Fin 16384) (n : Fin 128) (p : Fin 25), i = ix3 r n p := ⟨i 0, i 1, i 2, eq_ix3 i⟩
  refine (rows_apply V (a0 m) (a1 m) (a2 m) h0 h1 h2 r n p).trans (Eq.trans ?_ (V7_rows m r n p).symm)
  unfold lineOf
  rw [sorted_eq (a0 m) (a1 m) mfo mfalls r n]
  rfl

include h0 h1 mfo mfalls in
/-- The second result. -/
theorem depths_eq : (depthsV V : Vec Ideal S16384x128 .f32) = V7 m (Proc.devRef .tc main_v7_1) := by
  funext i
  obtain ⟨r, n, rfl⟩ : ∃ (r : Fin 16384) (n : Fin 128), i = ix2 r n := ⟨i 0, i 1, eq_ix2 i⟩
  refine (v40_apply V (a0 m) (a1 m) h0 h1 r n).trans (Eq.trans ?_ (V7_depths m r n).symm)
  rw [sorted_eq (a0 m) (a1 m) mfo mfalls r n]
  exact depthOf_eq (a0 m) (a1 m) mfo r _

end Two

open Idealize.SL.Sem in
/-- Over the extended reals the kernel and the reference leave the same two results. -/
theorem algebraic : Cert.algebraic_KernelIdeal_ReferenceIdeal_pre_ordered_spheres (hPre_ordered_spheres := pre_facts) := by
  intro m g m' g' hp he
  obtain ⟨fo, falls⟩ := Pre.read _ _ _ (hp 0)
  refine ⟨fun _ => Merge.V7 m (Proc.devRef .tc Cert.KernelIdeal.main_v8), fun _ => Merge.V7 m (Proc.devRef .tc Cert.KernelIdeal.main_v7_1),
    (θ_run Cert.KernelIdeal.defs _ _).mono (fun _ h c => h.1 c) (Merge.run_args (F := Ideal) m g),
    (θ_run Cert.ReferenceIdeal.defs _ _).mono (fun _ h c => ?_) (Cert.ReferenceIdeal.Value.run (F := Ideal) m' g')⟩
  obtain rfl : c = 0 := Subsingleton.elim _ _
  have e := he 0
  exact ⟨(h 0).1.trans (rows_eq m _ e.1 e.2.1 e.2.2 fo falls), (h 0).2.1.trans (depths_eq m _ e.1 e.2.1 fo falls), (h 0).2.2⟩

end Cert.Proof

end
-- ==== Proof.lean ====
/-
  The proof of `Cert.Claim`: the two programs and the reference end with their arguments unchanged and every semaphore at
  zero; the idealized kernel is the kernel with its named constant; and over the extended reals its two results are the
  reference's, for rays of finite origin and spheres in falling order of squared radius.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Algebraic

@[expose] public section

noncomputable section

namespace Cert.Proof

open Idealize.ShloMosaic Idealize.SL.Sem

/-- Every claim of this certificate. -/
theorem claim : Cert.Claim :=
  ⟨Cert.Kernel.Gen.facts, Cert.KernelIdeal.Gen.facts, Cert.ReferenceIdeal.Gen.facts, pre_facts,
    frame_kernel, frame_kernelIdeal, fun m g _ => frame_kernelIdeal m g trivial,
    frame_referenceIdeal, fun m g _ => frame_referenceIdeal m g trivial, preserves, algebraic⟩

end Cert.Proof

end
